-- ==== Defs.lean ====
def Pre_Kernel (m : (ℓ : Loc Cert.Kernel.nD Cert.Kernel.τ Cert.Kernel.sig) → Buf (Elt Bits) ℓ) : Prop :=
  True

def Pre_Kernel_finite_logits [hPre_finite_logits : Cert.Pre_finite_logits.Facts] (m : (ℓ : Loc Cert.Kernel.nD Cert.Kernel.τ Cert.Kernel.sig) → Buf (Elt Bits) ℓ) : Prop :=
  ∀ c : Dev Cert.Kernel.nD,
    (Cert.Pre_finite_logits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_finite_logits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2 = (fun _ => 1#1)

def Pre_KernelIdeal [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_decay [hPre_finite_decay : Cert.Pre_finite_decay.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_decay.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_decay [hPre_finite_decay : Cert.Pre_finite_decay.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_decay.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_finite_logits [hKernel : Cert.Kernel.Facts] [hPre_finite_logits : Cert.Pre_finite_logits.Facts] : Prop :=
  ∀ (m : (ℓ : Loc Cert.Kernel.nD Cert.Kernel.τ Cert.Kernel.sig) → Buf (Elt Bits) ℓ) (g : Dev Cert.Kernel.nD → PrngReg), Pre_Kernel_finite_logits m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_decay [hKernel7Ideal : Cert.Kernel7Ideal.Facts] [hPre_finite_decay : Cert.Pre_finite_decay.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_decay m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_decay [hReference7Ideal : Cert.Reference7Ideal.Facts] [hPre_finite_decay : Cert.Pre_finite_decay.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_decay m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_decay [hKernel7Ideal : Cert.Kernel7Ideal.Facts] [hReference7Ideal : Cert.Reference7Ideal.Facts] [hPre_finite_decay : Cert.Pre_finite_decay.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_decay m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v51_0)) (v1 : (c : Dev Cert.Kernel7Ideal.nD) → Buf (Elt Ideal) ((c.tc : Thread Cert.Kernel7Ideal.nD Cert.Kernel7Ideal.τ).loc Cert.Kernel7Ideal.main_v51_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v51_0) = v0 c
          ∧ r.2.mem ((c.tc : Thread Cert.Kernel7Ideal.nD Cert.Kernel7Ideal.τ).loc Cert.Kernel7Ideal.main_v51_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v26_0)) (v1 : (c : Dev Cert.Kernel9Ideal.nD) → Buf (Elt Ideal) ((c.tc : Thread Cert.Kernel9Ideal.nD Cert.Kernel9Ideal.τ).loc Cert.Kernel9Ideal.main_v26_1)) (v2 : (c : Dev Cert.Kernel9Ideal.nD) → Buf (Elt Ideal) ((c.tc : Thread Cert.Kernel9Ideal.nD Cert.Kernel9Ideal.τ).loc Cert.Kernel9Ideal.main_v26_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v26_0) = v0 c
          ∧ r.2.mem ((c.tc : Thread Cert.Kernel9Ideal.nD Cert.Kernel9Ideal.τ).loc Cert.Kernel9Ideal.main_v26_1) = v1 c
          ∧ r.2.mem ((c.tc : Thread Cert.Kernel9Ideal.nD Cert.Kernel9Ideal.τ).loc Cert.Kernel9Ideal.main_v26_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v69) = v0 c
          ∧ r.2.mem ((c.tc : Thread Cert.Reference9Ideal.nD Cert.Reference9Ideal.τ).loc Cert.Reference9Ideal.main_v71) = v1 c
          ∧ r.2.mem ((c.tc : Thread Cert.Reference9Ideal.nD Cert.Reference9Ideal.τ).loc Cert.Reference9Ideal.main_v73) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_logits : Cert.Pre_finite_logits.Facts) (hPre_finite_decay : Cert.Pre_finite_decay.Facts),
    quiescent_Kernel (hKernel := hKernel)
    ∧ quiescent_Kernel_pre_finite_logits (hKernel := hKernel) (hPre_finite_logits := hPre_finite_logits)
    ∧ quiescent_KernelIdeal (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_decay (hKernel7Ideal := hKernel7Ideal) (hPre_finite_decay := hPre_finite_decay)
    ∧ quiescent_Reference7Ideal (hReference7Ideal := hReference7Ideal)
    ∧ quiescent_Reference7Ideal_pre_finite_decay (hReference7Ideal := hReference7Ideal) (hPre_finite_decay := hPre_finite_decay)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_decay (hKernel7Ideal := hKernel7Ideal) (hReference7Ideal := hReference7Ideal) (hPre_finite_decay := hPre_finite_decay)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_decay.lean ====
abbrev S16384x2048 : Shape := ⟨2, ![16384, 2048]⟩
abbrev S16384x128 : Shape := ⟨2, ![16384, 128]⟩
abbrev S2048x8264 : Shape := ⟨2, ![2048, 8264]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)

variable [Facts]

def fn {F : FTy → Type} [FloatOps F] (main_arg0 : FVec F S16384x2048 .bf16) (main_arg1 : FVec F S16384x128 .f32) (main_arg2 : FVec F S2048x8264 .f32) : IVec S16384x8 1 :=
  let main_v0 : FVec F S16384x8 .f32 := (extractStridedSlice S16384x8 ![0, 0] · slices_S16384x128_S16384x8_0_0) main_arg1
  let main_v1 : FVec F S16384x8 .f32 := Host.absf main_v0
  let main_cst : FVec F S_ .f32 := constant S_ .f32 0x7F800000#32
  let main_v2 : FVec F S16384x8 .f32 := broadcastInDim S16384x8 ![] bcast_S_S16384x8 main_cst
  let main_v3 : IVec S16384x8 1 := cmpf .olt main_v1 main_v2
  main_v3
-- ==== Pre_finite_logits.lean ====
abbrev S16384x2048 : Shape := ⟨2, ![16384, 2048]⟩
abbrev S16384x1024 : Shape := ⟨2, ![16384, 1024]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S16384x2048 .bf16) (main_arg1 : FVec F S16384x2048 .bf16) (main_arg2 : FVec F S16384x1024 .bf16) : IVec S16384x2048 1 × IVec S16384x2048 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_v3 : FVec F S16384x2048 .bf16 := Host.absf main_arg1
  let main_cst_0 : FVec F S_ .bf16 := constant S_ .bf16 0x7F80#16
  let main_v4 : FVec F S16384x2048 .bf16 := broadcastInDim S16384x2048 ![] bcast_S_S16384x2048 main_cst_0
  let main_v5 : IVec S16384x2048 1 := cmpf .olt main_v3 main_v4
  (main_v2, main_v5)
-- ==== Kernel.lean ====
abbrev S16384x2048 : Shape := ⟨2, ![16384, 2048]⟩
abbrev S16384x1024 : Shape := ⟨2, ![16384, 1024]⟩
abbrev S512x256 : Shape := ⟨2, ![512, 256]⟩
abbrev S16384x256 : Shape := ⟨2, ![16384, 256]⟩
abbrev S16384x128 : Shape := ⟨2, ![16384, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_9 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32_9
  let c1_i32_10 : BitVec 32 := 1#32
  let v16 : BitVec 32 := Scalar.divsi v14 c1_i32_10
  let v17 : BitVec 32 := Scalar.muli v16 c1_i32_10
  let v18 : BitVec 32 := Scalar.addi c0_i32_9 v17
  let c1_i32_11 : BitVec 32 := 1#32
  ⟨c0_i32_9, v18, c1_i32_11⟩
def k0_mult1 (i : grid0.Coords) (k0_t1 : Fin (k0_t1_loop i).trips) : BitVec 32 :=
  let c0_i32_9 : BitVec 32 := 0#32
  let c1_i32_11 : BitVec 32 := 1#32
  let arg9 : BitVec 32 := Scf.iv c0_i32_9 c1_i32_11 k0_t1
  let c512_i32_42 : BitVec 32 := 512#32
  let v73 : BitVec 32 := Scalar.muli arg9 c512_i32_42
  v73
def k0_off1 (i : grid0.Coords) (k0_t1 : Fin (k0_t1_loop i).trips) : Fin 2 → Nat :=
  let c0_i32_9 : BitVec 32 := 0#32
  let c1_i32_11 : BitVec 32 := 1#32
  let arg9 : BitVec 32 := Scf.iv c0_i32_9 c1_i32_11 k0_t1
  let c512_i32_42 : BitVec 32 := 512#32
  let v73 : BitVec 32 := Scalar.muli arg9 c512_i32_42
  let v74 : BitVec 32 := v73
  let v75 : Index := Scalar.indexCast v74
  let c0_43 : Index := 0#32
  ![v75.toNat, 0]
def k0_off2 (i : grid0.Coords) (k0_t1 : Fin (k0_t1_loop i).trips) : Fin 2 → Nat :=
  let c0_i32_9 : BitVec 32 := 0#32
  let c1_i32_11 : BitVec 32 := 1#32
  let arg9 : BitVec 32 := Scf.iv c0_i32_9 c1_i32_11 k0_t1
  let c512_i32_42 : BitVec 32 := 512#32
  let v73 : BitVec 32 := Scalar.muli arg9 c512_i32_42
  let v74 : BitVec 32 := v73
  let v77 : Index := Scalar.indexCast v74
  let c0_44 : Index := 0#32
  ![v77.toNat, 0]
@[reducible] def k0_t2_loop (i : grid0.Coords) : Scf.Loop 32 :=
  let c0_i32_9 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32_9
  let c1_i32_10 : BitVec 32 := 1#32
  let v16 : BitVec 32 := Scalar.divsi v14 c1_i32_10
  let v17 : BitVec 32 := Scalar.muli v16 c1_i32_10
  let v18 : BitVec 32 := Scalar.addi c0_i32_9 v17
  let v15 : BitVec 32 := Scalar.addi c0_i32_9 v14
  let c1_i32_12 : BitVec 32 := 1#32
  ⟨v18, v15, c1_i32_12⟩
def k0_mult2 (i : grid0.Coords) (k0_t2 : Fin (k0_t2_loop i).trips) : BitVec 32 :=
  let c0_i32_9 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32_9
  let c1_i32_10 : BitVec 32 := 1#32
  let v16 : BitVec 32 := Scalar.divsi v14 c1_i32_10
  let v17 : BitVec 32 := Scalar.muli v16 c1_i32_10
  let v18 : BitVec 32 := Scalar.addi c0_i32_9 v17
  let c1_i32_12 : BitVec 32 := 1#32
  let arg9 : BitVec 32 := Scf.iv v18 c1_i32_12 k0_t2
  let c512_i32_42 : BitVec 32 := 512#32
  let v73 : BitVec 32 := Scalar.muli arg9 c512_i32_42
  v73
def k0_off3 (i : grid0.Coords) (k0_t2 : Fin (k0_t2_loop i).trips) : Fin 2 → Nat :=
  let c0_i32_9 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32_9
  let c1_i32_10 : BitVec 32 := 1#32
  let v16 : BitVec 32 := Scalar.divsi v14 c1_i32_10
  let v17 : BitVec 32 := Scalar.muli v16 c1_i32_10
  let v18 : BitVec 32 := Scalar.addi c0_i32_9 v17
  let c1_i32_12 : BitVec 32 := 1#32
  let arg9 : BitVec 32 := Scf.iv v18 c1_i32_12 k0_t2
  let c512_i32_42 : BitVec 32 := 512#32
  let v73 : BitVec 32 := Scalar.muli arg9 c512_i32_42
  let v74 : BitVec 32 := v73
  let v75 : Index := Scalar.indexCast v74
  let c0_43 : Index := 0#32
  ![v75.toNat, 0]
def k0_off4 (i : grid0.Coords) (k0_t2 : Fin (k0_t2_loop i).trips) : Fin 2 → Nat :=
  let c0_i32_9 : BitVec 32 := 0#32
  let arg1 : BitVec 32 := BitVec.ofNat 32 (i 1).val
  let c1_i32 : BitVec 32 := 1#32
  let v13 : BitVec 32 := Scalar.muli arg1 c1_i32
  let v14 : BitVec 32 := Scalar.subi v13 c0_i32_9
  let c1_i32_10 : BitVec 32 := 1#32
  let v16 : BitVec 32 := Scalar.divsi v14 c1_i32_10
  let v17 : BitVec 32 := Scalar.muli v16 c1_i32_10
  let v18 : BitVec 32 := Scalar.addi c0_i32_9 v17
  let c1_i32_12 : BitVec 32 := 1#32
  let arg9 : BitVec 32 := Scf.iv v18 c1_i32_12 k0_t2
  let c512_i32_42 : BitVec 32 := 512#32
  let v73 : BitVec 32 := Scalar.muli arg9 c512_i32_42
  let v74 : BitVec 32 := v73
  let v77 : Index := Scalar.indexCast v74
  let c0_44 : Index := 0#32
  ![v77.toNat, 0]
def k0_mult3 (i : grid0.Coords) : BitVec 32 :=
  let arg1 : BitVec 32 := BitVec.ofNat 32 (i 1).val
  let c1_i32_13 : BitVec 32 := 1#32
  let v19 : BitVec 32 := Scalar.muli arg1 c1_i32_13
  let c0_i32_14 : BitVec 32 := 0#32
  let v20 : BitVec 32 := Scalar.addi v19 c0_i32_14
  let c512_i32 : BitVec 32 := 512#32
  let v21 : BitVec 32 := Scalar.muli v20 c512_i32
  v21
def k0_off5 (i : grid0.Coords) : Fin 2 → Nat :=
  let arg1 : BitVec 32 := BitVec.ofNat 32 (i 1).val
  let c1_i32_13 : BitVec 32 := 1#32
  let v19 : BitVec 32 := Scalar.muli arg1 c1_i32_13
  let c0_i32_14 : BitVec 32 := 0#32
  let v20 : BitVec 32 := Scalar.addi v19 c0_i32_14
  let c512_i32 : BitVec 32 := 512#32
  let v21 : BitVec 32 := Scalar.muli v20 c512_i32
  let v22 : BitVec 32 := v21
  let v23 : Index := Scalar.indexCast v22
  let c0_15 : Index := 0#32
  ![v23.toNat, 0]
def k0_off6 (i : grid0.Coords) : Fin 2 → Nat :=
  let arg1 : BitVec 32 := BitVec.ofNat 32 (i 1).val
  let c1_i32_13 : BitVec 32 := 1#32
  let v19 : BitVec 32 := Scalar.muli arg1 c1_i32_13
  let c0_i32_14 : BitVec 32 := 0#32
  let v20 : BitVec 32 := Scalar.addi v19 c0_i32_14
  let c512_i32 : BitVec 32 := 512#32
  let v21 : BitVec 32 := Scalar.muli v20 c512_i32
  let v22 : BitVec 32 := v21
  let v25 : Index := Scalar.indexCast v22
  let c0_16 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x2048 : Shape := ⟨2, ![16384, 2048]⟩
abbrev S16384x1024 : Shape := ⟨2, ![16384, 1024]⟩
abbrev S16384x8x256 : Shape := ⟨3, ![16384, 8, 256]⟩
abbrev S8x16384x256 : Shape := ⟨3, ![8, 16384, 256]⟩
abbrev S16384x8x128 : Shape := ⟨3, ![16384, 8, 128]⟩
abbrev S8x16384x128 : Shape := ⟨3, ![8, 16384, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S16384x8x256, .f32⟩
  | .hbm, ⟨5, _⟩ => ⟨S8x16384x256, .f32⟩
  | .hbm, ⟨6, _⟩ => ⟨S16384x2048, .f32⟩
  | .hbm, ⟨7, _⟩ => ⟨S16384x8x256, .f32⟩
  | .hbm, ⟨8, _⟩ => ⟨S8x16384x256, .f32⟩
  | .hbm, ⟨9, _⟩ => ⟨S16384x1024, .f32⟩
  | .hbm, ⟨10, _⟩ => ⟨S16384x8x128, .f32⟩
  | .hbm, ⟨11, _⟩ => ⟨S8x16384x128, .f32⟩
  | .hbm, ⟨12, _⟩ => ⟨S8x16384x16384, .f32⟩
  | .hbm, ⟨13, _⟩ => ⟨S_, .f32⟩
  | .hbm, ⟨14, _⟩ => ⟨S_, .f32⟩
  | .hbm, ⟨15, _⟩ => ⟨S8x16384x16384, .f32⟩
  | .hbm, ⟨16, _⟩ => ⟨S8x16384x16384, .f32⟩
  | .hbm, ⟨17, _⟩ => ⟨S16384, .i32⟩
  | .hbm, ⟨18, _⟩ => ⟨S1x16384, .i32⟩
  | .hbm, ⟨19, _⟩ => ⟨S16384x1, .i32⟩
  | .hbm, ⟨20, _⟩ => ⟨S16384x16384, .i32⟩
  | .hbm, ⟨21, _⟩ => ⟨S16384x16384, .i32⟩
  | .hbm, ⟨22, _⟩ => ⟨S16384x16384, .i1⟩
  | .hbm, ⟨23, _⟩ => ⟨S_, .f32⟩
  | .hbm, ⟨24, _⟩ => ⟨S_, .f32⟩
  | .hbm, ⟨25, _⟩ => ⟨S8x16384x16384, .i1⟩
  | .hbm, ⟨26, _⟩ => ⟨S8x16384x16384, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x128, .f32⟩
  | .hbm, ⟨43, _⟩ => ⟨S16384x8x128, .f32⟩
  | .hbm, ⟨44, _⟩ => ⟨S16384x1024, .f32⟩
  | .hbm, ⟨45, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x2048 : Shape := ⟨2, ![1, 2048]⟩
abbrev S1x11264 : Shape := ⟨2, ![1, 11264]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S528x2048 : Shape := ⟨2, ![528, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S528x512 : Shape := ⟨2, ![528, 512]⟩
abbrev S512x512 : Shape := ⟨2, ![512, 512]⟩

abbrev nBuf : Space → Nat
  | .hbm => 13
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S1x2048, .f32⟩
  | .hbm, ⟨8, _⟩ => ⟨S2048x11264, .bf16⟩
  | .hbm, ⟨9, _⟩ => ⟨S1x11264, .f32⟩
  | .hbm, ⟨10, _⟩ => ⟨S5632x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S528x2048, .bf16⟩
  | .local _ .vmem, ⟨23, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v60 : BitVec 1 := Scalar.cmpi .eq arg1 c10_i32
  let v61 : BitVec 32 := Scalar.extui v60
  let c0_i32_22 : BitVec 32 := 0#32
  let v62 : BitVec 1 := Scalar.cmpi .ne v61 c0_i32_22
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16384x2048 : Shape := ⟨2, ![16384, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16386x11264 : Shape := ⟨2, ![16386, 11264]⟩
abbrev S1x11264 : Shape := ⟨2, ![1, 11264]⟩
abbrev S16384x5632 : Shape := ⟨2, ![16384, 5632]⟩

abbrev nBuf : Space → Nat
  | .hbm => 83
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S5632x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x11264, .f32⟩
  | .hbm, ⟨24, _⟩ => ⟨S_, .i32⟩
  | .hbm, ⟨25, _⟩ => ⟨S_, .f32⟩
  | .hbm, ⟨26, _⟩ => ⟨S16386x11264, .f32⟩
  | .hbm, ⟨27, _⟩ => ⟨S16384x11264, .f32⟩
  | .hbm, ⟨28, _⟩ => ⟨S1x11264, .f32⟩
  | .hbm, ⟨29, _⟩ => ⟨S11264, .f32⟩
  | .hbm, ⟨30, _⟩ => ⟨S1x11264, .f32⟩
  | .hbm, ⟨31, _⟩ => ⟨S16384x11264, .f32⟩
  | .hbm, ⟨32, _⟩ => ⟨S16384x11264, .f32⟩
  | .hbm, ⟨33, _⟩ => ⟨S_, .f32⟩
  | .hbm, ⟨34, _⟩ => ⟨S16384x11264, .f32⟩
  | .hbm, ⟨35, _⟩ => ⟨S16384x11264, .f32⟩
  | .hbm, ⟨36, _⟩ => ⟨S16384x11264, .f32⟩
  | .hbm, ⟨37, _⟩ => ⟨S1x11264, .f32⟩
  | .hbm, ⟨38, _⟩ => ⟨S11264, .f32⟩
  | .hbm, ⟨39, _⟩ => ⟨S1x11264, .f32⟩
  | .hbm, ⟨40, _⟩ => ⟨S16384x11264, .f32⟩
  | .hbm, ⟨41, _⟩ => ⟨S16384x11264, .f32⟩
  | .hbm, ⟨42, _⟩ => ⟨S16384x11264, .f32⟩
  | .hbm, ⟨43, _⟩ => ⟨S16384x11264, .f32⟩
  | .hbm, ⟨44, _⟩ => ⟨S1x11264, .f32⟩
  | .hbm, ⟨45, _⟩ => ⟨S11264, .f32⟩
  | .hbm, ⟨46, _⟩ => ⟨S1x11264, .f32⟩
  | .hbm, ⟨47, _⟩ => ⟨S16384x11264, .f32⟩
  | .hbm, ⟨48, _⟩ => ⟨S16384x11264, .f32⟩
  | .hbm, ⟨49, _⟩ => ⟨S16384x11264, .f32⟩
  | .hbm, ⟨50, _⟩ => ⟨S1x11264, .f32⟩
  | .hbm, ⟨51, _⟩ => ⟨S16384x11264, .f32⟩
  | .hbm, ⟨52, _⟩ => ⟨S16384x11264, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S_, .f32⟩
  | .hbm, ⟨58, _⟩ => ⟨S16384x5632, .f32⟩
  | .hbm, ⟨59, _⟩ => ⟨S16384x5632, .f32⟩
  | .hbm, ⟨60, _⟩ => ⟨S_, .f32⟩
  | .hbm, ⟨61, _⟩ => ⟨S16384x5632, .f32⟩
  | .hbm, ⟨62, _⟩ => ⟨S16384x5632, .f32⟩
  | .hbm, ⟨63, _⟩ => ⟨S16384x5632, .f32⟩
  | .hbm, ⟨64, _⟩ => ⟨S16384x5632, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x2048, .f32⟩
  | .hbm, ⟨79, _⟩ => ⟨S16384x2048, .f32⟩
  | .hbm, ⟨80, _⟩ => ⟨S1x2048, .f32⟩
  | .hbm, ⟨81, _⟩ => ⟨S16384x2048, .f32⟩
  | .hbm, ⟨82, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel3.lean ====
abbrev S16384x2048 : Shape := ⟨2, ![16384, 2048]⟩
abbrev S2048x8264 : Shape := ⟨2, ![2048, 8264]⟩
abbrev S2048x4096 : Shape := ⟨2, ![2048, 4096]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8264, .f32⟩
  | .hbm, ⟨2, _⟩ => ⟨S2048x4096, .f32⟩
  | .hbm, ⟨3, _⟩ => ⟨S2048x4096, .bf16⟩
  | .hbm, ⟨4, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x8264 : Shape := ⟨2, ![2048, 8264]⟩
abbrev S16384x8264 : Shape := ⟨2, ![16384, 8264]⟩
abbrev S16384x4096 : Shape := ⟨2, ![16384, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8264, .f32⟩
  | .hbm, ⟨2, _⟩ => ⟨S16384x2048, .f32⟩
  | .hbm, ⟨3, _⟩ => ⟨S16384x8264, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S16384x1024 : Shape := ⟨2, ![16384, 1024]⟩
abbrev S1024x2048 : Shape := ⟨2, ![1024, 2048]⟩
abbrev S16384x4096 : Shape := ⟨2, ![16384, 4096]⟩
abbrev S16384x2048 : Shape := ⟨2, ![16384, 2048]⟩
abbrev S512x1024 : Shape := ⟨2, ![512, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .f32⟩
  | .hbm, ⟨3, _⟩ => ⟨S1024x2048, .f32⟩
  | .hbm, ⟨4, _⟩ => ⟨S16384x4096, .bf16⟩
  | .hbm, ⟨5, _⟩ => ⟨S1024x2048, .bf16⟩
  | .hbm, ⟨6, _⟩ => ⟨S1024x2048, .bf16⟩
  | .hbm, ⟨7, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16384x1024 : Shape := ⟨2, ![16384, 1024]⟩
abbrev S1024x2048 : Shape := ⟨2, ![1024, 2048]⟩
abbrev S16384x4096 : Shape := ⟨2, ![16384, 4096]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x2048, .f32⟩
  | .hbm, ⟨3, _⟩ => ⟨S1024x2048, .f32⟩
  | .hbm, ⟨4, _⟩ => ⟨S16384x4096, .bf16⟩
  | .hbm, ⟨5, _⟩ => ⟨S16384x4096, .f32⟩
  | .hbm, ⟨6, _⟩ => ⟨S16384x2048, .f32⟩
  | .hbm, ⟨7, _⟩ => ⟨S16384x2048, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S16384x1024, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S16384x2048 : Shape := ⟨2, ![16384, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S16384x2048 : Shape := ⟨2, ![16384, 2048]⟩
abbrev S2048x8264 : Shape := ⟨2, ![2048, 8264]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x8264, .f32⟩
  | .hbm, ⟨2, _⟩ => ⟨S2048x1024, .f32⟩
  | .hbm, ⟨3, _⟩ => ⟨S2048x1024, .bf16⟩
  | .hbm, ⟨4, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x2048 : Shape := ⟨2, ![16384, 2048]⟩
abbrev S2048x8264 : Shape := ⟨2, ![2048, 8264]⟩
abbrev S16384x8264 : Shape := ⟨2, ![16384, 8264]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8264, .f32⟩
  | .hbm, ⟨2, _⟩ => ⟨S16384x2048, .f32⟩
  | .hbm, ⟨3, _⟩ => ⟨S16384x8264, .f32⟩
  | .hbm, ⟨4, _⟩ => ⟨S16384x1024, .f32⟩
  | .hbm, ⟨5, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S16384x2048 : Shape := ⟨2, ![16384, 2048]⟩
abbrev S16384x128 : Shape := ⟨2, ![16384, 128]⟩
abbrev S2048x8264 : Shape := ⟨2, ![2048, 8264]⟩
abbrev S2048x1024 : Shape := ⟨2, ![2048, 1024]⟩
abbrev S3 : Shape := ⟨1, ![3]⟩
abbrev S3x1x1x1 : Shape := ⟨4, ![3, 1, 1, 1]⟩
abbrev S128 : Shape := ⟨1, ![128]⟩
abbrev S1x128x1x1 : Shape := ⟨4, ![1, 128, 1, 1]⟩
abbrev S8 : Shape := ⟨1, ![8]⟩
abbrev S1x1x8x1 : Shape := ⟨4, ![1, 1, 8, 1]⟩
abbrev S1x1x1x128 : Shape := ⟨4, ![1, 1, 1, 128]⟩
abbrev S1x128x8x1 : Shape := ⟨4, ![1, 128, 8, 1]⟩
abbrev S3x1x1x128 : Shape := ⟨4, ![3, 1, 1, 128]⟩
abbrev S3x128x8x128 : Shape := ⟨4, ![3, 128, 8, 128]⟩
abbrev S3x128x1024 : Shape := ⟨3, ![3, 128, 1024]⟩
abbrev S_ : Shape := ⟨0, ![]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S512x2048 : Shape := ⟨2, ![512, 2048]⟩
abbrev S512x128 : Shape := ⟨2, ![512, 128]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 60
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x128, .f32⟩
  | .hbm, ⟨2, _⟩ => ⟨S2048x8264, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .bf16⟩
  | .hbm, ⟨7, _⟩ => ⟨S3, .i32⟩
  | .hbm, ⟨8, _⟩ => ⟨S3x1x1x1, .i32⟩
  | .hbm, ⟨9, _⟩ => ⟨S128, .i32⟩
  | .hbm, ⟨10, _⟩ => ⟨S1x128x1x1, .i32⟩
  | .hbm, ⟨11, _⟩ => ⟨S8, .i32⟩
  | .hbm, ⟨12, _⟩ => ⟨S1x1x8x1, .i32⟩
  | .hbm, ⟨13, _⟩ => ⟨S128, .i32⟩
  | .hbm, ⟨14, _⟩ => ⟨S1x1x1x128, .i32⟩
  | .hbm, ⟨15, _⟩ => ⟨S1x128x8x1, .i32⟩
  | .hbm, ⟨16, _⟩ => ⟨S1x128x8x1, .i32⟩
  | .hbm, ⟨17, _⟩ => ⟨S1x128x8x1, .i1⟩
  | .hbm, ⟨18, _⟩ => ⟨S3x1x1x128, .i32⟩
  | .hbm, ⟨19, _⟩ => ⟨S3x1x1x128, .i32⟩
  | .hbm, ⟨20, _⟩ => ⟨S3x1x1x128, .i1⟩
  | .hbm, ⟨21, _⟩ => ⟨S3x128x8x128, .i1⟩
  | .hbm, ⟨22, _⟩ => ⟨S3x128x8x128, .i1⟩
  | .hbm, ⟨23, _⟩ => ⟨S3x128x8x128, .i1⟩
  | .hbm, ⟨24, _⟩ => ⟨S3x128x8x128, .bf16⟩
  | .hbm, ⟨25, _⟩ => ⟨S3x128x1024, .bf16⟩
  | .hbm, ⟨26, _⟩ => ⟨S1x128x8x1, .i32⟩
  | .hbm, ⟨27, _⟩ => ⟨S1x128x8x1, .i32⟩
  | .hbm, ⟨28, _⟩ => ⟨S1x128x8x1, .i1⟩
  | .hbm, ⟨29, _⟩ => ⟨S_, .i32⟩
  | .hbm, ⟨30, _⟩ => ⟨S3x1x1x1, .i32⟩
  | .hbm, ⟨31, _⟩ => ⟨S3x1x1x1, .i32⟩
  | .hbm, ⟨32, _⟩ => ⟨S3x1x1x128, .i32⟩
  | .hbm, ⟨33, _⟩ => ⟨S3x1x1x128, .i32⟩
  | .hbm, ⟨34, _⟩ => ⟨S3x1x1x128, .i1⟩
  | .hbm, ⟨35, _⟩ => ⟨S3x128x8x128, .i1⟩
  | .hbm, ⟨36, _⟩ => ⟨S3x128x8x128, .i1⟩
  | .hbm, ⟨37, _⟩ => ⟨S3x128x8x128, .i1⟩
  | .hbm, ⟨38, _⟩ => ⟨S3x128x8x128, .bf16⟩
  | .hbm, ⟨39, _⟩ => ⟨S3x128x1024, .bf16⟩
  | .hbm, ⟨40, _⟩ => ⟨S3x128x1024, .bf16⟩
  | .hbm, ⟨41, _⟩ => ⟨S128, .i32⟩
  | .hbm, ⟨42, _⟩ => ⟨S1x128, .i32⟩
  | .hbm, ⟨43, _⟩ => ⟨S8x128, .i32⟩
  | .hbm, ⟨44, _⟩ => ⟨S1024, .i32⟩
  | .hbm, ⟨45, _⟩ => ⟨S1x1024, .i32⟩
  | .hbm, ⟨46, _⟩ => ⟨S_, .i32⟩
  | .hbm, ⟨47, _⟩ => ⟨S1x1024, .i32⟩
  | .hbm, ⟨48, _⟩ => ⟨S1x1024, .i1⟩
  | .hbm, ⟨49, _⟩ => ⟨S_, .i32⟩
  | .hbm, ⟨50, _⟩ => ⟨S1x1024, .i32⟩
  | .hbm, ⟨51, _⟩ => ⟨S1x1024, .i1⟩
  | .hbm, ⟨52, _⟩ => ⟨S1x1024, .i1⟩
  | .hbm, ⟨53, _⟩ => ⟨S1x1024, .f32⟩
  | .hbm, ⟨54, _⟩ => ⟨S_, .i32⟩
  | .hbm, ⟨55, _⟩ => ⟨S1x1024, .i32⟩
  | .hbm, ⟨56, _⟩ => ⟨S1x1024, .i1⟩
  | .hbm, ⟨57, _⟩ => ⟨S1x1024, .f32⟩
  | .hbm, ⟨58, _⟩ => ⟨S16384x2048, .bf16⟩
  | .hbm, ⟨59, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S2048x1024, .bf16⟩
  | .local _ .vmem, ⟨5, _⟩ => ⟨S2048x1024, .bf16⟩
  | .local _ .vmem, ⟨6, _⟩ => ⟨S3x128x1024, .bf16⟩
  | .local _ .vmem, ⟨7, _⟩ => ⟨S3x128x1024, .bf16⟩
  | .local _ .vmem, ⟨8, _⟩ => ⟨S1x1024, .f32⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_c : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_c_0 : Ref sig .tc := ⟨.hbm, 46, rfl⟩
abbrev main_v42 : Ref sig .tc := ⟨.hbm, 47, rfl⟩
abbrev main_v43 : Ref sig .tc := ⟨.hbm, 48, rfl⟩
abbrev main_c_1 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_c_2 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51_0 : Ref sig .tc := ⟨.hbm, 58, rfl⟩
abbrev main_v51_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16384x2048 : Shape := ⟨2, ![16384, 2048]⟩
abbrev S16384x128 : Shape := ⟨2, ![16384, 128]⟩
abbrev S2048x8264 : Shape := ⟨2, ![2048, 8264]⟩
abbrev S16384x8264 : Shape := ⟨2, ![16384, 8264]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S16384x8x3 : Shape := ⟨3, ![16384, 8, 3]⟩
abbrev S16384x8x2 : Shape := ⟨3, ![16384, 8, 2]⟩
abbrev S16384x8x122 : Shape := ⟨3, ![16384, 8, 122]⟩
abbrev S16384x8x256 : Shape := ⟨3, ![16384, 8, 256]⟩
abbrev S16384x8x124 : Shape := ⟨3, ![16384, 8, 124]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x128, .f32⟩
  | .hbm, ⟨2, _⟩ => ⟨S2048x8264, .f32⟩
  | .hbm, ⟨3, _⟩ => ⟨S16384x2048, .f32⟩
  | .hbm, ⟨4, _⟩ => ⟨S16384x8264, .f32⟩
  | .hbm, ⟨5, _⟩ => ⟨S16384x1024, .f32⟩
  | .hbm, ⟨6, _⟩ => ⟨S16384x8x128, .f32⟩
  | .hbm, ⟨7, _⟩ => ⟨S_, .f32⟩
  | .hbm, ⟨8, _⟩ => ⟨S16384x8x128, .f32⟩
  | .hbm, ⟨9, _⟩ => ⟨S16384x8x128, .f32⟩
  | .hbm, ⟨10, _⟩ => ⟨S16384x1024, .f32⟩
  | .hbm, ⟨11, _⟩ => ⟨S16384x8x128, .f32⟩
  | .hbm, ⟨12, _⟩ => ⟨S16384x8, .f32⟩
  | .hbm, ⟨13, _⟩ => ⟨S16384x8x1, .f32⟩
  | .hbm, ⟨14, _⟩ => ⟨S_, .f32⟩
  | .hbm, ⟨15, _⟩ => ⟨S16384x8x128, .f32⟩
  | .hbm, ⟨16, _⟩ => ⟨S_, .f32⟩
  | .hbm, ⟨17, _⟩ => ⟨S16384x8x3, .f32⟩
  | .hbm, ⟨18, _⟩ => ⟨S16384x8x2, .f32⟩
  | .hbm, ⟨19, _⟩ => ⟨S16384x8x122, .f32⟩
  | .hbm, ⟨20, _⟩ => ⟨S16384x8x256, .f32⟩
  | .hbm, ⟨21, _⟩ => ⟨S16384x8x1, .f32⟩
  | .hbm, ⟨22, _⟩ => ⟨S16384x8x124, .f32⟩
  | .hbm, ⟨23, _⟩ => ⟨S16384x8x256, .f32⟩
  | .hbm, ⟨24, _⟩ => ⟨S16384x2048, .f32⟩
  | .hbm, ⟨25, _⟩ => ⟨S16384x2048, .bf16⟩
  | .hbm, ⟨26, _⟩ => ⟨S16384x2048, .f32⟩
  | .hbm, ⟨27, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel8.lean ====
abbrev S16384x2048 : Shape := ⟨2, ![16384, 2048]⟩
abbrev S2048x8264 : Shape := ⟨2, ![2048, 8264]⟩
abbrev S2048x1024 : Shape := ⟨2, ![2048, 1024]⟩
abbrev S2048x64 : Shape := ⟨2, ![2048, 64]⟩
abbrev S2048x32 : Shape := ⟨2, ![2048, 32]⟩
abbrev S_ : Shape := ⟨0, ![]⟩
abbrev S2048x128 : Shape := ⟨2, ![2048, 128]⟩
abbrev S2048x8 : Shape := ⟨2, ![2048, 8]⟩
abbrev S2048x1408 : Shape := ⟨2, ![2048, 1408]⟩
abbrev S16384x1408 : Shape := ⟨2, ![16384, 1408]⟩
abbrev S512x2048 : Shape := ⟨2, ![512, 2048]⟩
abbrev S512x1408 : Shape := ⟨2, ![512, 1408]⟩

abbrev nBuf : Space → Nat
  | .hbm => 20
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x8264, .f32⟩
  | .hbm, ⟨2, _⟩ => ⟨S2048x1024, .f32⟩
  | .hbm, ⟨3, _⟩ => ⟨S2048x64, .f32⟩
  | .hbm, ⟨4, _⟩ => ⟨S2048x32, .f32⟩
  | .hbm, ⟨5, _⟩ => ⟨S2048x32, .f32⟩
  | .hbm, ⟨6, _⟩ => ⟨S2048x64, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x8, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x1408, .f32⟩
  | .hbm, ⟨18, _⟩ => ⟨S2048x1408, .bf16⟩
  | .hbm, ⟨19, _⟩ => ⟨S16384x1408, .f32⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S512x1408, .f32⟩
  | .local _ .vmem, ⟨4, _⟩ => ⟨S512x1408, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x2048 : Shape := ⟨2, ![16384, 2048]⟩
abbrev S2048x8264 : Shape := ⟨2, ![2048, 8264]⟩
abbrev S16384x8264 : Shape := ⟨2, ![16384, 8264]⟩
abbrev S16384x64 : Shape := ⟨2, ![16384, 64]⟩
abbrev S16384x32 : Shape := ⟨2, ![16384, 32]⟩
abbrev S16384x1024 : Shape := ⟨2, ![16384, 1024]⟩
abbrev S_ : Shape := ⟨0, ![]⟩
abbrev S16384x128 : Shape := ⟨2, ![16384, 128]⟩
abbrev S16384x8 : Shape := ⟨2, ![16384, 8]⟩
abbrev S16384x1408 : Shape := ⟨2, ![16384, 1408]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8264, .f32⟩
  | .hbm, ⟨2, _⟩ => ⟨S16384x2048, .f32⟩
  | .hbm, ⟨3, _⟩ => ⟨S16384x8264, .f32⟩
  | .hbm, ⟨4, _⟩ => ⟨S16384x64, .f32⟩
  | .hbm, ⟨5, _⟩ => ⟨S16384x32, .f32⟩
  | .hbm, ⟨6, _⟩ => ⟨S16384x32, .f32⟩
  | .hbm, ⟨7, _⟩ => ⟨S16384x64, .f32⟩
  | .hbm, ⟨8, _⟩ => ⟨S16384x1024, .f32⟩
  | .hbm, ⟨9, _⟩ => ⟨S_, .i32⟩
  | .hbm, ⟨10, _⟩ => ⟨S_, .f32⟩
  | .hbm, ⟨11, _⟩ => ⟨S16384x128, .f32⟩
  | .hbm, ⟨12, _⟩ => ⟨S_, .i32⟩
  | .hbm, ⟨13, _⟩ => ⟨S_, .f32⟩
  | .hbm, ⟨14, _⟩ => ⟨S16384x128, .f32⟩
  | .hbm, ⟨15, _⟩ => ⟨S16384x8, .f32⟩
  | .hbm, ⟨16, _⟩ => ⟨S_, .i32⟩
  | .hbm, ⟨17, _⟩ => ⟨S_, .f32⟩
  | .hbm, ⟨18, _⟩ => ⟨S16384x128, .f32⟩
  | .hbm, ⟨19, _⟩ => ⟨S16384x1408, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel9.lean ====
abbrev S16384x1408 : Shape := ⟨2, ![16384, 1408]⟩
abbrev S16384x32 : Shape := ⟨2, ![16384, 32]⟩
abbrev S512 : Shape := ⟨1, ![512]⟩
abbrev S512x1536 : Shape := ⟨2, ![512, 1536]⟩
abbrev S512x2048 : Shape := ⟨2, ![512, 2048]⟩
abbrev S512x8x192 : Shape := ⟨3, ![512, 8, 192]⟩
abbrev S512x8x128 : Shape := ⟨3, ![512, 8, 128]⟩
abbrev S512x1024 : Shape := ⟨2, ![512, 1024]⟩
abbrev S512x8x32 : Shape := ⟨3, ![512, 8, 32]⟩
abbrev S_ : Shape := ⟨0, ![]⟩
abbrev S512x8x64 : Shape := ⟨3, ![512, 8, 64]⟩
abbrev S512x8x256 : Shape := ⟨3, ![512, 8, 256]⟩
abbrev S16384x64 : Shape := ⟨2, ![16384, 64]⟩
abbrev S16384x128 : Shape := ⟨2, ![16384, 128]⟩
abbrev S1x512 : Shape := ⟨2, ![1, 512]⟩
abbrev S16384x2048 : Shape := ⟨2, ![16384, 2048]⟩
abbrev S16384x1024 : Shape := ⟨2, ![16384, 1024]⟩
abbrev S512x512 : Shape := ⟨2, ![512, 512]⟩
abbrev S512x128 : Shape := ⟨2, ![512, 128]⟩
abbrev S512x1 : Shape := ⟨2, ![512, 1]⟩

abbrev nBuf : Space → Nat
  | .hbm => 38
  | .vmem => 25
  | .smem => 0
  | _ => 0

abbrev bufTy : (tb : Table) → Fin (tcTables nBuf tb) → BufTy
  | .hbm, ⟨0, _⟩ => ⟨S16384x1408, .f32⟩
  | .hbm, ⟨1, _⟩ => ⟨S16384x32, .f32⟩
  | .hbm, ⟨2, _⟩ => ⟨S16384x32, .f32⟩
  | .hbm, ⟨3, _⟩ => ⟨S512, .f32⟩
  | .hbm, ⟨4, _⟩ => ⟨S512, .f32⟩
  | .hbm, ⟨5, _⟩ => ⟨S512x1536, .f32⟩
  | .hbm, ⟨6, _⟩ => ⟨S512x2048, .f32⟩
  | .hbm, ⟨7, _⟩ => ⟨S512x8x192, .f32⟩
  | .hbm, ⟨8, _⟩ => ⟨S512x8x128, .f32⟩
  | .hbm, ⟨9, _⟩ => ⟨S512x1024, .f32⟩
  | .hbm, ⟨10, _⟩ => ⟨S512x1024, .bf16⟩
  | .hbm, ⟨11, _⟩ => ⟨S512x8x32, .f32⟩
  | .hbm, ⟨12, _⟩ => ⟨S512x8x32, .f32⟩
  | .hbm, ⟨13, _⟩ => ⟨S_, .f32⟩
  | .hbm, ⟨14, _⟩ => ⟨S512x8x64, .f32⟩
  | .hbm, ⟨15, _⟩ => ⟨S512x8x128, .f32⟩
  | .hbm, ⟨16, _⟩ => ⟨S512x1024, .f32⟩
  | .hbm, ⟨17, _⟩ => ⟨S512x1024, .bf16⟩
  | .hbm, ⟨18, _⟩ => ⟨S512x8x128, .f32⟩
  | .hbm, ⟨19, _⟩ => ⟨S512x1024, .f32⟩
  | .hbm, ⟨20, _⟩ => ⟨S512x1024, .bf16⟩
  | .hbm, ⟨21, _⟩ => ⟨S512x8x256, .f32⟩
  | .hbm, ⟨22, _⟩ => ⟨S512x8x128, .f32⟩
  | .hbm, ⟨23, _⟩ => ⟨S512x1024, .f32⟩
  | .hbm, ⟨24, _⟩ => ⟨S512x1024, .bf16⟩
  | .hbm, ⟨25, _⟩ => ⟨S512x8x128, .f32⟩
  | .hbm, ⟨26, _⟩ => ⟨S512x1024, .f32⟩
  | .hbm, ⟨27, _⟩ => ⟨S512x1024, .bf16⟩
  | .hbm, ⟨28, _⟩ => ⟨S_, .f32⟩
  | .hbm, ⟨29, _⟩ => ⟨S16384x64, .f32⟩
  | .hbm, ⟨30, _⟩ => ⟨S16384x128, .f32⟩
  | .hbm, ⟨31, _⟩ => ⟨S16384x32, .f32⟩
  | .hbm, ⟨32, _⟩ => ⟨S16384x128, .f32⟩
  | .hbm, ⟨33, _⟩ => ⟨S1x512, .f32⟩
  | .hbm, ⟨34, _⟩ => ⟨S1x512, .f32⟩
  | .hbm, ⟨35, _⟩ => ⟨S16384x2048, .bf16⟩
  | .hbm, ⟨36, _⟩ => ⟨S16384x2048, .bf16⟩
  | .hbm, ⟨37, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x1024, .bf16⟩
  | .local _ .vmem, ⟨24, _⟩ => ⟨S512x1024, .bf16⟩
  | _, _ => ⟨S16384x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference9Ideal.lean ====
abbrev S16384x1408 : Shape := ⟨2, ![16384, 1408]⟩
abbrev S16384x32 : Shape := ⟨2, ![16384, 32]⟩
abbrev S512 : Shape := ⟨1, ![512]⟩
abbrev S512x1536 : Shape := ⟨2, ![512, 1536]⟩
abbrev S512x2048 : Shape := ⟨2, ![512, 2048]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x1536 : Shape := ⟨2, ![16384, 1536]⟩
abbrev S16384x8x192 : Shape := ⟨3, ![16384, 8, 192]⟩
abbrev S16384x2048 : Shape := ⟨2, ![16384, 2048]⟩
abbrev S16384x8x256 : Shape := ⟨3, ![16384, 8, 256]⟩
abbrev S16384x8x32 : Shape := ⟨3, ![16384, 8, 32]⟩
abbrev S16384x1x32 : Shape := ⟨3, ![16384, 1, 32]⟩
abbrev S16384x8x128 : Shape := ⟨3, ![16384, 8, 128]⟩
abbrev S16384x64 : Shape := ⟨2, ![16384, 64]⟩
abbrev S16384x1x64 : Shape := ⟨3, ![16384, 1, 64]⟩
abbrev S16384x8x64 : Shape := ⟨3, ![16384, 8, 64]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x1408, .f32⟩
  | .hbm, ⟨1, _⟩ => ⟨S16384x32, .f32⟩
  | .hbm, ⟨2, _⟩ => ⟨S16384x32, .f32⟩
  | .hbm, ⟨3, _⟩ => ⟨S512, .f32⟩
  | .hbm, ⟨4, _⟩ => ⟨S512, .f32⟩
  | .hbm, ⟨5, _⟩ => ⟨S512x1536, .f32⟩
  | .hbm, ⟨6, _⟩ => ⟨S512x2048, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x512, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S16384x1536, .f32⟩
  | .hbm, ⟨42, _⟩ => ⟨S16384x8x192, .f32⟩
  | .hbm, ⟨43, _⟩ => ⟨S16384x2048, .f32⟩
  | .hbm, ⟨44, _⟩ => ⟨S16384x8x256, .f32⟩
  | .hbm, ⟨45, _⟩ => ⟨S16384x8x32, .f32⟩
  | .hbm, ⟨46, _⟩ => ⟨S16384x8x32, .f32⟩
  | .hbm, ⟨47, _⟩ => ⟨S16384x1x32, .f32⟩
  | .hbm, ⟨48, _⟩ => ⟨S16384x1x32, .f32⟩
  | .hbm, ⟨49, _⟩ => ⟨S16384x8x128, .f32⟩
  | .hbm, ⟨50, _⟩ => ⟨S16384x8x32, .f32⟩
  | .hbm, ⟨51, _⟩ => ⟨S16384x8x32, .f32⟩
  | .hbm, ⟨52, _⟩ => ⟨S16384x8x32, .f32⟩
  | .hbm, ⟨53, _⟩ => ⟨S16384x8x32, .f32⟩
  | .hbm, ⟨54, _⟩ => ⟨S16384x8x32, .f32⟩
  | .hbm, ⟨55, _⟩ => ⟨S16384x8x32, .f32⟩
  | .hbm, ⟨56, _⟩ => ⟨S16384x8x32, .f32⟩
  | .hbm, ⟨57, _⟩ => ⟨S16384x8x32, .f32⟩
  | .hbm, ⟨58, _⟩ => ⟨S16384x8x32, .f32⟩
  | .hbm, ⟨59, _⟩ => ⟨S16384x8x32, .f32⟩
  | .hbm, ⟨60, _⟩ => ⟨S16384x8x192, .f32⟩
  | .hbm, ⟨61, _⟩ => ⟨S_, .f32⟩
  | .hbm, ⟨62, _⟩ => ⟨S16384x8x192, .f32⟩
  | .hbm, ⟨63, _⟩ => ⟨S16384x8x192, .f32⟩
  | .hbm, ⟨64, _⟩ => ⟨S16384x32, .f32⟩
  | .hbm, ⟨65, _⟩ => ⟨S16384x32, .f32⟩
  | .hbm, ⟨66, _⟩ => ⟨S16384x32, .f32⟩
  | .hbm, ⟨67, _⟩ => ⟨S16384x32, .f32⟩
  | .hbm, ⟨68, _⟩ => ⟨S16384x32, .f32⟩
  | .hbm, ⟨69, _⟩ => ⟨S16384x32, .f32⟩
  | .hbm, ⟨70, _⟩ => ⟨S16384x32, .f32⟩
  | .hbm, ⟨71, _⟩ => ⟨S16384x32, .f32⟩
  | .hbm, ⟨72, _⟩ => ⟨S16384x32, .f32⟩
  | .hbm, ⟨73, _⟩ => ⟨S16384x32, .f32⟩
  | .hbm, ⟨74, _⟩ => ⟨S16384x64, .f32⟩
  | .hbm, ⟨75, _⟩ => ⟨S16384x1x64, .f32⟩
  | .hbm, ⟨76, _⟩ => ⟨S16384x8x64, .f32⟩
  | .hbm, ⟨77, _⟩ => ⟨S_, .f32⟩
  | .hbm, ⟨78, _⟩ => ⟨S16384x8x64, .f32⟩
  | .hbm, ⟨79, _⟩ => ⟨S16384x8x256, .f32⟩
  | .hbm, ⟨80, _⟩ => ⟨S16384x8x128, .f32⟩
  | .hbm, ⟨81, _⟩ => ⟨S16384x8x256, .f32⟩
  | .hbm, ⟨82, _⟩ => ⟨S16384x8x128, .f32⟩
  | .hbm, ⟨83, _⟩ => ⟨S16384x2048, .f32⟩
  | .hbm, ⟨84, _⟩ => ⟨S16384x2048, .bf16⟩
  | .hbm, ⟨85, _⟩ => ⟨S16384x2048, .f32⟩
  | .hbm, ⟨86, _⟩ => ⟨S16384x2048, .bf16⟩
  | .hbm, ⟨87, _⟩ => ⟨S16384x1024, .f32⟩
  | .hbm, ⟨88, _⟩ => ⟨S16384x1024, .bf16⟩
  | _, _ => ⟨S16384x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Kernel10.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Body.lean ====
/- What one grid point of the attention kernel leaves in its output block, as a term of the program's own
   payloads: the three scratch buffers carry a state (running maximum, running sum, running product) which every
   key block changes by one step. -/
module

public import proofs.«01_k».proof.Proof.Gen.KernelIdeal.Value
public import Idealize.ShloMosaic.Lib.VecWindow

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable {F : FTy → Type} [FloatOps F]

/-- The offsets of a whole read are zero. -/
theorem hz : (![0, 0] : Fin 2 → Nat) = fun _ => 0 := funext fun a => by fin_cases a <;> rfl

section Trip

variable (c : Dev nD) (i : grid0.Coords) (arg2 : Memref sig .tc .vmem S512x256 .bf16) (harg2 : arg2.IsWhole) (arg3 : Memref sig .tc .vmem S16384x256 .bf16) (harg3 : arg3.IsWhole) (arg4 : Memref sig .tc .vmem S16384x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x128 .f32) (harg8 : arg8.IsWhole) (v0 : Vec F S512x256 .bf16) (X_arg3 : BufTy.Contents (Elt F) arg3.view.ty) (X_arg4 : BufTy.Contents (Elt F) arg4.view.ty)

/-- Trip `k` of the main loop stores one whole piece in each scratch buffer: the step's new maximum, sum and product
    of the key block and value block it loads. -/
theorem trip_eq (𝒱 : Variants) (bd : Option 𝒱.V) (k : Fin (k0_t1_loop i).trips) (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 v0 X_arg3 X_arg4 k f6 f7 f8
      = ([⟨Rect.unit (s := S512x1) ![0, 0] S512x1.size inb_S512x1_S512x1_0_0, k0_pay11 v0 (View.ld (arg3.view.read (Elt F) X_arg3) (Rect.unit (s := S16384x256) (k0_off1 i k) S512x256.size (k0_off1_inb i k))) (arg6.view.read (Elt F) f6)⟩],
         [⟨Rect.unit (s := S512x1) ![0, 0] S512x1.size inb_S512x1_S512x1_0_0, k0_pay9 v0 (View.ld (arg3.view.read (Elt F) X_arg3) (Rect.unit (s := S16384x256) (k0_off1 i k) S512x256.size (k0_off1_inb i k))) (arg6.view.read (Elt F) f6) (arg7.view.read (Elt F) f7)⟩],
         [⟨Rect.unit (s := S512x128) ![0, 0] S512x128.size inb_S512x128_S512x128_0_0, k0_pay10 v0 (View.ld (arg3.view.read (Elt F) X_arg3) (Rect.unit (s := S16384x256) (k0_off1 i k) S512x256.size (k0_off1_inb i k))) (View.ld (arg4.view.read (Elt F) X_arg4) (Rect.unit (s := S16384x128) (k0_off2 i k) S512x128.size (k0_off2_inb i k))) (arg6.view.read (Elt F) f6) (arg8.view.read (Elt F) f8)⟩]) := by
  unfold tripL_k0_t1 trip_k0_t1
  dsimp only
  simp only [View.readAt_eq_ld, View.ld_unit_zero (S := S512x1) hz, View.ld_unit_zero (S := S512x128) hz]

/-- The remainder loop never runs: its bounds are equal at every grid point. -/
theorem trips2 (i : grid0.Coords) : (k0_t2_loop i).trips = 0 := by
  revert i
  decide +kernel

/-- The main loop runs once per block of keys before the point's own rows. -/
theorem trips1 (i : grid0.Coords) : (k0_t1_loop i).trips = (i 1).val := by
  revert i
  decide +kernel

/-- The state of the scratch buffers: running maximum, running sum, running product. -/
abbrev St (F : FTy → Type) := Vec F S512x1 .f32 × Vec F S512x1 .f32 × Vec F S512x128 .f32

/-- The state before trip `k` of the main loop, from the point's query block and the head's keys and values. -/
def st (i : grid0.Coords) (q : Vec F S512x256 .bf16) (K : Vec F S16384x256 .bf16) (V : Vec F S16384x128 .bf16) : ℕ → St F
  | 0 => (k0_pay2, k0_pay3, k0_pay4)
  | k + 1 =>
    if h : k < (k0_t1_loop i).trips then
      (k0_pay11 q (View.ld K (Rect.unit (s := S16384x256) (k0_off1 i ⟨k, h⟩) S512x256.size (k0_off1_inb i ⟨k, h⟩))) (st i q K V k).1,
       k0_pay9 q (View.ld K (Rect.unit (s := S16384x256) (k0_off1 i ⟨k, h⟩) S512x256.size (k0_off1_inb i ⟨k, h⟩))) (st i q K V k).1 (st i q K V k).2.1,
       k0_pay10 q (View.ld K (Rect.unit (s := S16384x256) (k0_off1 i ⟨k, h⟩) S512x256.size (k0_off1_inb i ⟨k, h⟩))) (View.ld V (Rect.unit (s := S16384x128) (k0_off2 i ⟨k, h⟩) S512x128.size (k0_off2_inb i ⟨k, h⟩))) (st i q K V k).1 (st i q K V k).2.2)
    else st i q K V k

/-- After any number of trips the scratch buffers, started at the initial state, read as the state. -/
theorem pb_eq (𝒱 : Variants) (bd : Option 𝒱.V) (K : Vec F S16384x256 .bf16) (V : Vec F S16384x128 .bf16) (hK : arg3.view.read (Elt F) X_arg3 = K) (hV : arg4.view.read (Elt F) X_arg4 = V)
    (G6 : BufTy.Contents (Elt F) arg6.view.ty) (G7 : BufTy.Contents (Elt F) arg7.view.ty) (G8 : BufTy.Contents (Elt F) arg8.view.ty)
    (h6 : arg6.view.read (Elt F) G6 = k0_pay2) (h7 : arg7.view.read (Elt F) G7 = k0_pay3) (h8 : arg8.view.read (Elt F) G8 = k0_pay4) :
    ∀ k : ℕ, k ≤ (k0_t1_loop i).trips →
      arg6.view.read (Elt F) (arg6.view.writes (Elt F) G6 (pb_k0_t1 (F := F) 𝒱 c bd i arg2 harg2 arg3 harg3 arg4 harg4 arg5 harg5 arg6 harg6 arg7 harg7 arg8 harg8 v0 X_arg3 X_arg4 G6 G7 G8 k).1) = (st i v0 K V k).1
      ∧ arg7.view.read (Elt F) (arg7.view.writes (Elt F) G7 (pb_k0_t1 (F := F) 𝒱 c bd i arg2 harg2 arg3 harg3 arg4 harg4 arg5 harg5 arg6 harg6 arg7 harg7 arg8 harg8 v0 X_arg3 X_arg4 G6 G7 G8 k).2.1) = (st i v0 K V k).2.1
      ∧ arg8.view.read (Elt F) (arg8.view.writes (Elt F) G8 (pb_k0_t1 (F := F) 𝒱 c bd i arg2 harg2 arg3 harg3 arg4 harg4 arg5 harg5 arg6 harg6 arg7 harg7 arg8 harg8 v0 X_arg3 X_arg4 G6 G7 G8 k).2.2) = (st i v0 K V k).2.2
  | 0, _ => ⟨h6, h7, h8⟩
  | k + 1, hk => by
    obtain ⟨i6, i7, i8⟩ := pb_eq 𝒱 bd K V hK hV G6 G7 G8 h6 h7 h8 k (Nat.le_of_succ_le hk)
    have e := pb_k0_t1_succ (F := F) 𝒱 c bd i arg2 harg2 arg3 harg3 arg4 harg4 arg5 harg5 arg6 harg6 arg7 harg7 arg8 harg8 v0 X_arg3 X_arg4 G6 G7 G8 ⟨k, hk⟩
    rw [trip_eq] at e
    dsimp only [List.cons_append, List.nil_append] at e
    rw [i6, i7, i8, hK, hV] at e
    have hst : st i v0 K V (k + 1) = _ := dif_pos hk
    rw [e, hst]
    exact ⟨View.read_writes_full _ _ _ _ _, View.read_writes_full _ _ _ _ _, View.read_writes_full _ _ _ _ _⟩

/-- No trip of the remainder loop: no piece. -/
theorem pb2_zero (𝒱 : Variants) (bd : Option 𝒱.V) (G6 : BufTy.Contents (Elt F) arg6.view.ty) (G7 : BufTy.Contents (Elt F) arg7.view.ty) (G8 : BufTy.Contents (Elt F) arg8.view.ty) (k : ℕ) (hk : k = 0) :
    pb_k0_t2 (F := F) 𝒱 c bd i arg2 harg2 arg3 harg3 arg4 harg4 arg5 harg5 arg6 harg6 arg7 harg7 arg8 harg8 v0 X_arg3 X_arg4 G6 G7 G8 k = ([], [], []) := by
  subst hk; rfl

/-- A whole load over pieces laid on one whole first store reads what those pieces leave over it. -/
theorem readCov_over [∀ e, Nonempty (Elt F e)] {s : Shape} {e : EltTy} {κ : Kind} {sp : Space} (v : View sig κ sp s e) {off : Fin s.rank → ℕ} (inb : ∀ a, off a + s.size a ≤ s.size a)
    (L : List (View.Piece (Elt F) s e)) (p : View.Piece (Elt F) s e) :
    v.readCov (Val := Elt F) ([] ++ (L ++ [p])) (Rect.unit off s.size inb).toLoadRect = v.read (Elt F) (v.writes (Elt F) (v.writes (Elt F) v.junk [p]) L) := by
  unfold View.readCov
  rw [View.readAt_full, List.nil_append, View.writes_append]

/-- The scores of the point's rows against the keys of their own block. -/
def sd (i : grid0.Coords) (x0 : Vec F S512x256 .bf16) (x1 : Vec F S16384x256 .bf16) : FVec F S512x512 .f32 :=
  k0_pay19 x0 (View.ld x1 (Rect.unit (s := S16384x256) (k0_off5 i) S512x256.size (k0_off5_inb i)))

/-- The block a grid point writes: the last step, over the point's own rows with the causal mask, on the state after
    the main loop, divided by its sum. -/
def outv (i : grid0.Coords) (x0 : Vec F S512x256 .bf16) (x1 : Vec F S16384x256 .bf16) (x2 : Vec F S16384x128 .bf16) : FVec F S512x128 .bf16 :=
  k0_pay1
    (k0_pay25 (BitVec.ofNat 32 (i 1).val) (Scalar.addi (Scalar.muli (BitVec.ofNat 32 (i 1).val) 1#32) 0#32)
      (View.ld x2 (Rect.unit (s := S16384x128) (k0_off6 i) S512x128.size (k0_off6_inb i))) (sd i x0 x1)
      (iota .tc S512x512 32 [0] iota_S512x512_d0_w32) (iota .tc S512x512 32 [1] iota_S512x512_d1_w32)
      (st i x0 x1 x2 (k0_t1_loop i).trips).1 (st i x0 x1 x2 (k0_t1_loop i).trips).2.2)
    (k0_pay24 (BitVec.ofNat 32 (i 1).val) (Scalar.addi (Scalar.muli (BitVec.ofNat 32 (i 1).val) 1#32) 0#32) (sd i x0 x1)
      (iota .tc S512x512 32 [0] iota_S512x512_d0_w32) (iota .tc S512x512 32 [1] iota_S512x512_d1_w32)
      (st i x0 x1 x2 (k0_t1_loop i).trips).1 (st i x0 x1 x2 (k0_t1_loop i).trips).2.1)

/-- What a grid point leaves in its output block. -/
theorem out_eq (x0 : Vec F S512x256 .bf16) (x1 : Vec F S16384x256 .bf16) (x2 : Vec F S16384x128 .bf16) :
    out0_A_3 c i arg2 harg2 arg3 harg3 arg4 harg4 arg5 harg5 arg6 harg6 arg7 harg7 arg8 harg8 x0 x1 x2 = outv i x0 x1 x2 := by
  unfold out0_A_3
  rw [View.read_writes_eq_canon _ _ _ (cover0_A_3 c i arg2 harg2 arg3 harg3 arg4 harg4 arg5 harg5 arg6 harg6 arg7 harg7 arg8 harg8 x0 x1 x2)]
  unfold kernelRun0_A
  dsimp only
  rw [View.canon_unit_zero (S := S512x128) hz]
  sl_unfold_words
  simp only [View.readCov_full (s := S512x128), View.readCov_full (s := S512x1), View.readAt_eq_ld, View.ld_unit_zero (S := S512x256) hz, View.ld_unit_zero (S := S512x1) hz, View.ld_unit_zero (S := S512x128) hz, harg2.read_unread, harg3.read_unread, harg4.read_unread,
    pb2_zero (hk := trips2 i)]
  obtain ⟨e6, e7, e8⟩ := pb_eq c i arg2 harg2 arg3 harg3 arg4 harg4 arg5 harg5 arg6 harg6 arg7 harg7 arg8 harg8 x0 (harg3.unread x1) (harg4.unread x2) Variants.none none x1 x2 (harg3.read_unread x1) (harg4.read_unread x2)
    (arg6.view.writes (Elt F) arg6.view.junk [⟨Rect.unit ![0, 0] ![512, 1] inb_S512x1_S512x1_0_0, k0_pay2⟩])
    (arg7.view.writes (Elt F) arg7.view.junk [⟨Rect.unit ![0, 0] ![512, 1] inb_S512x1_S512x1_0_0, k0_pay3⟩])
    (arg8.view.writes (Elt F) arg8.view.junk [⟨Rect.unit ![0, 0] ![512, 128] inb_S512x128_S512x128_0_0, k0_pay4⟩])
    (View.read_writes_full (s := S512x1) _ _ _ _ _) (View.read_writes_full (s := S512x1) _ _ _ _ _) (View.read_writes_full (s := S512x128) _ _ _ _ _)
    (k0_t1_loop i).trips le_rfl
  have c6 := (readCov_over (s := S512x1) arg6.view inb_S512x1_S512x1_0_0 _ _).trans e6
  have c7 := (readCov_over (s := S512x1) arg7.view inb_S512x1_S512x1_0_0 _ _).trans e7
  have c8 := (readCov_over (s := S512x128) arg8.view inb_S512x128_S512x128_0_0 _ _).trans e8
  refine (congrArg₂ k0_pay1 (congrArg₂ (k0_pay25 _ _ _ _ _ _) ?_ ?_) (congrArg₂ (k0_pay24 _ _ _ _ _) ?_ ?_))
  · exact c6
  · exact c8
  · exact c6
  · exact c7

end Trip

end Cert.KernelIdeal.Body

end
-- ==== Proof.OnlineSoftmax.lean ====
/- The softmax of a row of scores, taken one block of keys at a time, over the extended reals: the running maximum,
   the running sum of powers of two and the running weighted sum, how one block changes them, and their quotient as
   the softmax (in base e, of the scores times log 2) applied to the values. -/
module

public import Idealize.ShloMosaic.PureOps.Ideal

@[expose] public section

noncomputable section

namespace Cert.OnlineSoftmax

open Idealize.ShloMosaic Finset

/-- The greatest of the first `n` scores. -/
def M (s : ℕ → EReal) (n : ℕ) : EReal := (range n).sup s

/-- The sum of the powers of two of the first `n` scores, less their maximum. -/
def L (s : ℕ → EReal) (n : ℕ) : EReal := ∑ j ∈ range n, Ideal.exp2 (s j - M s n)

/-- The same sum, each power times its value. -/
def A (s v : ℕ → EReal) (n : ℕ) : EReal := ∑ j ∈ range n, Ideal.exp2 (s j - M s n) * v j

/-- A power of two is not negative. -/
theorem exp2_nonneg (x : EReal) : 0 ≤ Ideal.exp2 x := by
  induction x with
  | bot => exact le_rfl
  | top => exact le_top
  | coe r => exact EReal.coe_nonneg.2 (Real.rpow_nonneg (by norm_num) r)

/-- The maximum is reached from below: a score is at most the maximum of its range. -/
theorem le_M (s : ℕ → EReal) {n j : ℕ} (h : j < n) : s j ≤ M s n := le_sup (mem_range.2 h)

/-- The maximum of more scores is at least as great. -/
theorem M_mono (s : ℕ → EReal) {n m : ℕ} (h : n ≤ m) : M s n ≤ M s m := sup_mono (range_subset_range.2 h)

/-- Finite scores have a maximum below `⊤`. -/
theorem M_ne_top {s : ℕ → EReal} (hs : ∀ j, s j ≠ ⊤) (n : ℕ) : M s n ≠ ⊤ :=
  ((Finset.sup_lt_iff (by simp)).2 fun j _ => lt_top_iff_ne_top.2 (hs j)).ne

/-- Changing the maximum a power is taken against is one multiplication. -/
theorem exp2_rescale {x m m' : EReal} (hx : x ≤ m) (hm : m ≤ m') (h : m' ≠ ⊤) :
    Ideal.exp2 (m - m') * Ideal.exp2 (x - m) = Ideal.exp2 (x - m') := by
  induction x with
  | top => exact absurd (top_le_iff.1 (hx.trans hm)) h
  | bot => rw [EReal.bot_sub, EReal.bot_sub]; exact mul_zero _
  | coe x =>
    induction m with
    | top => exact absurd (top_le_iff.1 hm) h
    | bot => exact absurd (le_bot_iff.1 hx) (EReal.coe_ne_bot x)
    | coe m =>
      induction m' with
      | top => exact absurd rfl h
      | bot => exact absurd (le_bot_iff.1 hm) (EReal.coe_ne_bot m)
      | coe m' =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (x - m) = (2 : ℝ) ^ (x - m')
        rw [← Real.rpow_add (by norm_num)]
        congr 1
        ring

/-- A power against a maximum not below its exponent's first term is finite. -/
theorem exp2_sub_ne_top {m m' : EReal} (hm : m ≤ m') (h : m' ≠ ⊤) : Ideal.exp2 (m - m') ≠ ⊤ := by
  induction m with
  | top => exact absurd (top_le_iff.1 hm) h
  | bot => rw [EReal.bot_sub]; exact EReal.zero_ne_top
  | coe m =>
    induction m' with
    | top => exact absurd rfl h
    | bot => exact absurd (le_bot_iff.1 hm) (EReal.coe_ne_bot m)
    | coe m' => rw [← EReal.coe_sub, Ideal.exp2_coe]; exact EReal.coe_ne_top _

/-- A finite factor that is not negative goes inside a sum. -/
theorem mul_sum_of_nonneg {ι : Type} {a : EReal} (h0 : 0 ≤ a) (h1 : a ≠ ⊤) (u : Finset ι) (f : ι → EReal) :
    a * ∑ j ∈ u, f j = ∑ j ∈ u, a * f j := by
  classical
  induction u using Finset.induction_on with
  | empty => simp
  | insert x u hx ih => rw [sum_insert hx, sum_insert hx, EReal.left_distrib_of_nonneg_of_ne_top h0 h1, ih]

/-- One block more: the maximum. -/
theorem M_add (s : ℕ → EReal) (n b : ℕ) : M s (n + b) = max (M s n) ((range b).sup fun j => s (n + j)) := by
  refine le_antisymm (Finset.sup_le fun j hj => ?_) (max_le (M_mono s (Nat.le_add_right n b)) (Finset.sup_le fun j hj => le_M s ?_))
  · rcases Nat.lt_or_ge j n with h | h
    · exact (le_M s h).trans (le_max_left _ _)
    · refine le_trans ?_ (le_max_right _ _)
      have := Finset.le_sup (f := fun j => s (n + j)) (show j - n ∈ range b by rw [mem_range] at hj ⊢; omega)
      simpa only [Nat.add_sub_cancel' h] using this
  · have := mem_range.1 hj; omega

/-- One block more: the sum. -/
theorem L_add {s : ℕ → EReal} (hs : ∀ j, s j ≠ ⊤) (n b : ℕ) :
    L s (n + b) = Ideal.exp2 (M s n - M s (n + b)) * L s n + ∑ j ∈ range b, Ideal.exp2 (s (n + j) - M s (n + b)) := by
  have hm := M_mono s (Nat.le_add_right n b)
  unfold L
  rw [sum_range_add, mul_sum_of_nonneg (exp2_nonneg _) (exp2_sub_ne_top hm (M_ne_top hs _))]
  congr 1
  exact sum_congr rfl fun j hj => (exp2_rescale (le_M s (mem_range.1 hj)) hm (M_ne_top hs _)).symm

/-- One block more: the weighted sum. -/
theorem A_add {s : ℕ → EReal} (v : ℕ → EReal) (hs : ∀ j, s j ≠ ⊤) (n b : ℕ) :
    A s v (n + b) = Ideal.exp2 (M s n - M s (n + b)) * A s v n + ∑ j ∈ range b, Ideal.exp2 (s (n + j) - M s (n + b)) * v (n + j) := by
  have hm := M_mono s (Nat.le_add_right n b)
  unfold A
  rw [sum_range_add, mul_sum_of_nonneg (exp2_nonneg _) (exp2_sub_ne_top hm (M_ne_top hs _))]
  congr 1
  refine sum_congr rfl fun j hj => ?_
  rw [← mul_assoc, exp2_rescale (le_M s (mem_range.1 hj)) hm (M_ne_top hs _)]

/-- Scores `⊥` from `n` on do not change the maximum, -/
theorem M_stop {s : ℕ → EReal} {n N : ℕ} (h : n ≤ N) (hb : ∀ j, n ≤ j → s j = ⊥) : M s N = M s n := by
  obtain ⟨b, rfl⟩ := Nat.exists_eq_add_of_le h
  rw [M_add, max_eq_left]
  exact Finset.sup_le fun j _ => (hb _ (Nat.le_add_right n j)).le.trans bot_le

/-- nor the sum, -/
theorem L_stop {s : ℕ → EReal} {n N : ℕ} (h : n ≤ N) (hb : ∀ j, n ≤ j → s j = ⊥) : L s N = L s n := by
  unfold L
  rw [M_stop h hb]
  refine (sum_subset (range_subset_range.2 h) fun j _ hj => ?_).symm
  rw [hb j (by rw [mem_range] at hj; omega), EReal.bot_sub]; rfl

/-- nor the weighted sum. -/
theorem A_stop {s : ℕ → EReal} (v : ℕ → EReal) {n N : ℕ} (h : n ≤ N) (hb : ∀ j, n ≤ j → s j = ⊥) : A s v N = A s v n := by
  unfold A
  rw [M_stop h hb]
  refine (sum_subset (range_subset_range.2 h) fun j _ hj => ?_).symm
  rw [hb j (by rw [mem_range] at hj; omega), EReal.bot_sub]; exact zero_mul _

/-- A power against a finite maximum is a real number that is not negative. -/
theorem exp2_real {x m : EReal} (hx : x ≤ m) (h : m ≠ ⊤) : ∃ r : ℝ, 0 ≤ r ∧ Ideal.exp2 (x - m) = r := by
  have h1 := exp2_sub_ne_top hx h
  have h0 := exp2_nonneg (x - m)
  have h2 : Ideal.exp2 (x - m) ≠ ⊥ := fun e => by rw [e] at h0; exact absurd h0 (by simp)
  exact ⟨(Ideal.exp2 (x - m)).toReal, EReal.toReal_nonneg h0, (EReal.coe_toReal h1 h2).symm⟩

/-- A sum of real numbers is the same in the extended reals. -/
theorem coe_sum_real (n : ℕ) (r : ℕ → ℝ) : ((∑ j ∈ range n, r j : ℝ) : EReal) = ∑ j ∈ range n, (r j : EReal) := by
  induction n with
  | zero => simp
  | succ n ih => rw [sum_range_succ, sum_range_succ, EReal.coe_add, ih]

/-- The sum over finite scores, the first of them real, is a positive real number. -/
theorem L_pos {s : ℕ → EReal} (hs : ∀ j, s j ≠ ⊤) (h0 : s 0 ≠ ⊥) {n : ℕ} (hn : 0 < n) : ∃ l : ℝ, 0 < l ∧ L s n = l := by
  have hr : ∀ j : ℕ, ∃ r : ℝ, 0 ≤ r ∧ (j < n → Ideal.exp2 (s j - M s n) = r) := fun j => by
    by_cases h : j < n
    · obtain ⟨r, a, b⟩ := exp2_real (le_M s h) (M_ne_top hs n)
      exact ⟨r, a, fun _ => b⟩
    · exact ⟨0, le_rfl, fun h' => absurd h' h⟩
  choose r h1 h2 using hr
  refine ⟨∑ j ∈ range n, r j, ?_, ?_⟩
  · refine lt_of_lt_of_le ?_ (single_le_sum (fun j _ => h1 j) (mem_range.2 hn))
    have e := h2 0 hn
    have hle := le_M s hn
    have hM := M_ne_top hs n
    obtain ⟨a, ha⟩ : ∃ a : ℝ, s 0 = a := ⟨_, (EReal.coe_toReal (hs 0) h0).symm⟩
    obtain ⟨b, hb⟩ : ∃ b : ℝ, M s n = b := ⟨_, (EReal.coe_toReal hM (fun hh => h0 (le_bot_iff.1 (hh ▸ hle)))).symm⟩
    rw [ha, hb, ← EReal.coe_sub, Ideal.exp2_coe] at e
    rw [← EReal.coe_eq_coe_iff.1 e]
    exact Real.rpow_pos_of_pos (by norm_num) _
  · unfold L
    rw [coe_sum_real]
    exact sum_congr rfl fun j hj => h2 j (mem_range.1 hj)

/-- The natural logarithm of two. -/
abbrev ln2 : EReal := ((Real.log 2 : ℝ) : EReal)

/-- The logarithm of two is positive. -/
theorem ln2_pos : 0 < Real.log 2 := Real.log_pos (by norm_num)

/-- Multiplying by `log 2` keeps the order, -/
theorem mul_ln2_mono : Monotone fun x : EReal => x * ln2 :=
  fun _ _ h => mul_le_mul_of_nonneg_right h (EReal.coe_nonneg.2 ln2_pos.le)

/-- so it keeps maxima. -/
theorem M_mul_ln2 (s : ℕ → EReal) (n : ℕ) : M (fun j => s j * ln2) n = M s n * ln2 := by
  induction n with
  | zero => exact (EReal.bot_mul_coe_of_pos ln2_pos).symm
  | succ n ih =>
    have e (t : ℕ → EReal) : M t (n + 1) = max (M t n) (t n) := by
      unfold M; rw [range_add_one, sup_insert]; exact max_comm _ _
    rw [e, e, ih]
    exact (mul_ln2_mono.map_max (a := M s n) (b := s n)).symm

/-- A power of `e` of scores times `log 2` is the power of two of the scores. -/
theorem exp_mul_ln2 {x m : EReal} (hx : x ≤ m) (h : m ≠ ⊤) : Ideal.exp (x * ln2 - m * ln2) = Ideal.exp2 (x - m) := by
  induction x with
  | top => exact absurd (top_le_iff.1 hx) h
  | bot => rw [EReal.bot_mul_coe_of_pos ln2_pos, EReal.bot_sub, EReal.bot_sub]; rfl
  | coe x =>
    induction m with
    | top => exact absurd rfl h
    | bot => exact absurd (le_bot_iff.1 hx) (EReal.coe_ne_bot x)
    | coe m =>
      rw [← EReal.coe_mul, ← EReal.coe_mul, ← EReal.coe_sub, ← EReal.coe_sub, Ideal.exp_coe, Ideal.exp2_coe]
      congr 1
      show Real.exp _ = (2 : ℝ) ^ (x - m)
      rw [Real.rpow_def_of_pos (by norm_num)]
      congr 1
      ring

/-- The quotient of the weighted sum by the sum is the softmax of the scores times `log 2`, applied to the values. -/
theorem softmax_eq {s : ℕ → EReal} (v : ℕ → EReal) (hs : ∀ j, s j ≠ ⊤) (h0 : s 0 ≠ ⊥) {n : ℕ} (hn : 0 < n) :
    ∑ j ∈ range n, Ideal.div (Ideal.exp (s j * ln2 - M (fun j => s j * ln2) n))
        (∑ j ∈ range n, Ideal.exp (s j * ln2 - M (fun j => s j * ln2) n)) * v j
      = Ideal.div (A s v n) (L s n) := by
  have e1 : ∀ j ∈ range n, Ideal.exp (s j * ln2 - M (fun j => s j * ln2) n) = Ideal.exp2 (s j - M s n) := fun j hj => by
    rw [M_mul_ln2, exp_mul_ln2 (le_M s (mem_range.1 hj)) (M_ne_top hs n)]
  have e2 : ∑ j ∈ range n, Ideal.exp (s j * ln2 - M (fun j => s j * ln2) n) = L s n := sum_congr rfl e1
  obtain ⟨l, hl, el⟩ := L_pos hs h0 hn
  have hl0 : (l : EReal) ≠ 0 := by exact_mod_cast hl.ne'
  rw [e2, el]
  unfold Ideal.div
  rw [if_neg hl0, ← EReal.coe_inv, mul_comm, A, mul_sum_of_nonneg (EReal.coe_nonneg.2 (inv_nonneg.2 hl.le)) (EReal.coe_ne_top _)]
  refine sum_congr rfl fun j hj => ?_
  rw [if_neg hl0, e1 j hj, ← mul_assoc, mul_comm (Ideal.exp2 _)]

/-- The f32 word of negative infinity is `⊥`. -/
theorem ofBits_neg_inf : Ideal.ofBits .f32 0xFF800000#32 = ⊥ := by
  show Ideal.ieee 8 23 (0xFF800000#32 : BitVec 32) = ⊥
  unfold Ideal.ieee
  dsimp only
  rw [if_pos (by decide), if_pos (by decide), if_pos (by decide)]

/-- The maximum of the first `n` scores, over indices below `n`. -/
theorem sup_univ_eq (n : ℕ) (f : ℕ → EReal) : ((Finset.univ : Finset (Fin n)).sup fun k => f k.val) = (range n).sup f := by
  refine le_antisymm (Finset.sup_le fun k _ => le_M f k.isLt) (Finset.sup_le fun j hj => ?_)
  exact Finset.le_sup (f := fun k : Fin n => f k.val) (Finset.mem_univ ⟨j, mem_range.1 hj⟩)

/-- A sum over indices below `n` is the sum over the first `n` numbers. -/
theorem sum_univ_eq (n : ℕ) (f : ℕ → EReal) : ∑ k : Fin n, f k.val = ∑ j ∈ range n, f j := Fin.sum_univ_eq_sum_range f n

end Cert.OnlineSoftmax
-- ==== Proof.Pay.lean ====
/- The attention kernel's payloads at an index, over the extended reals, and the state of one grid point: the running
   maximum, sum and weighted sum of each row's masked scores. -/
module

public import proofs.«01_k».proof.Proof.Body
public import proofs.«01_k».proof.Proof.OnlineSoftmax
public import Idealize.ShloMosaic.Lib.Pipeline.ValueKit
public import Idealize.ShloMosaic.Lib.Pointwise

@[expose] public section

set_option maxRecDepth 16384

noncomputable section

namespace Cert.KernelIdeal.Pay

open Cert.KernelIdeal Cert.KernelIdeal.Gen Cert.KernelIdeal.Body Cert.OnlineSoftmax Idealize.ShloMosaic Idealize.ShloMosaic.TcCoe Idealize.SL.Sem

/-! ## Payloads at an index -/

/-- The scores of a full tile: the products of its queries and keys. -/
theorem pay5_apply (q K : FVec Ideal S512x256 .bf16) (r k : Fin 512) :
    k0_pay5 (F := Ideal) q K (ix2 r k) = ∑ c : Fin 256, q (ix2 r c) * K (ix2 k c) := by
  unfold k0_pay5
  pointwise

/-- The running maximum after a full tile, under the scores named in the body. -/
theorem pay6_apply (q K : FVec Ideal S512x256 .bf16) (m : FVec Ideal S512x1 .f32) (r : Fin 512) :
    k0_pay6 (F := Ideal) q K m (ix2 r 0) = max (m (ix2 r 0)) (Finset.univ.sup fun k : Fin 512 => k0_pay5 (F := Ideal) q K (ix2 r k)) := by
  unfold k0_pay6
  pointwise
  rw [ofBits_neg_inf]
  rfl

/-- The factor that rescales the earlier sums when the maximum moves. -/
theorem pay7_apply (q K : FVec Ideal S512x256 .bf16) (m : FVec Ideal S512x1 .f32) (r : Fin 512) :
    k0_pay7 (F := Ideal) q K m (ix2 r 0) = Ideal.exp2 (m (ix2 r 0) - k0_pay6 (F := Ideal) q K m (ix2 r 0)) := by
  unfold k0_pay7
  pointwise
  rfl

/-- The weights of a full tile. -/
theorem pay8_apply (q K : FVec Ideal S512x256 .bf16) (m : FVec Ideal S512x1 .f32) (r k : Fin 512) :
    k0_pay8 (F := Ideal) q K m (ix2 r k) = Ideal.exp2 (k0_pay5 (F := Ideal) q K (ix2 r k) - k0_pay6 (F := Ideal) q K m (ix2 r 0)) := by
  unfold k0_pay8
  pointwise
  rfl

/-- The running sum of weights after a full tile. -/
theorem pay9_apply (q K : FVec Ideal S512x256 .bf16) (m l : FVec Ideal S512x1 .f32) (r : Fin 512) :
    k0_pay9 (F := Ideal) q K m l (ix2 r 0) = k0_pay7 (F := Ideal) q K m (ix2 r 0) * l (ix2 r 0) + ∑ k : Fin 512, k0_pay8 (F := Ideal) q K m (ix2 r k) := by
  unfold k0_pay9
  pointwise

/-- The running weighted sum of the values after a full tile. -/
theorem pay10_apply (q K : FVec Ideal S512x256 .bf16) (V : FVec Ideal S512x128 .bf16) (m : FVec Ideal S512x1 .f32) (a : FVec Ideal S512x128 .f32) (r : Fin 512) (d : Fin 128) :
    k0_pay10 (F := Ideal) q K V m a (ix2 r d) = k0_pay7 (F := Ideal) q K m (ix2 r 0) * a (ix2 r d) + ∑ k : Fin 512, k0_pay8 (F := Ideal) q K m (ix2 r k) * V (ix2 k d) := by
  unfold k0_pay10
  pointwise

/-- The running maximum after a full tile, as it is stored. -/
theorem pay11_apply (q K : FVec Ideal S512x256 .bf16) (m : FVec Ideal S512x1 .f32) (r : Fin 512) :
    k0_pay11 (F := Ideal) q K m (ix2 r 0) = k0_pay6 (F := Ideal) q K m (ix2 r 0) := by
  unfold k0_pay11
  pointwise

/-- The scores of the diagonal tile before the mask. -/
theorem pay19_apply (q K : FVec Ideal S512x256 .bf16) (r k : Fin 512) :
    k0_pay19 (F := Ideal) q K (ix2 r k) = ∑ c : Fin 256, q (ix2 r c) * K (ix2 k c) := by
  unfold k0_pay19
  pointwise

/-- The comparison of two row numbers as machine words is the comparison of the numbers. -/
theorem le_word (a b : Fin 512) : IntOp.cmpi .sle (BitVec.ofNat 32 a.val) (BitVec.ofNat 32 b.val) = if a ≤ b then 1#1 else 0#1 := by
  have h (x : Fin 512) : (BitVec.ofNat 32 x.val).toInt = x.val := by
    rw [BitVec.toInt_eq_toNat_of_lt] <;> rw [BitVec.toNat_ofNat] <;> have := x.isLt
    · rw [Nat.mod_eq_of_lt (by omega)]
    · rw [Nat.mod_eq_of_lt (by omega)]; omega
  show BitVec.ofBool ((BitVec.ofNat 32 a.val).sle (BitVec.ofNat 32 b.val)) = _
  rw [BitVec.sle_eq_decide, h, h]
  by_cases hab : a ≤ b
  · rw [if_pos hab, decide_eq_true (by exact_mod_cast hab)]; rfl
  · rw [if_neg hab, decide_eq_false (by exact_mod_cast hab)]; rfl

/-- The scores of the point's own block, masked. -/
abbrev dg (i : grid0.Coords) (sc : FVec Ideal S512x512 .f32) : FVec Ideal S512x512 .f32 :=
  k0_pay20 (F := Ideal) (BitVec.ofNat 32 (i 1).val) (Scalar.addi (Scalar.muli (BitVec.ofNat 32 (i 1).val) 1#32) 0#32) sc
    (iota .tc S512x512 32 [0] iota_S512x512_d0_w32) (iota .tc S512x512 32 [1] iota_S512x512_d1_w32)

/-- The scores of the diagonal tile under the causal mask. -/
theorem pay20_apply (i : grid0.Coords) (sc : FVec Ideal S512x512 .f32) (r k : Fin 512) :
    dg i sc (ix2 r k) = if k ≤ r then sc (ix2 r k) else ⊥ := by
  unfold dg k0_pay20
  pointwise
  have e (x : BitVec 32) : Scalar.subi (Scalar.muli (Scalar.addi (Scalar.muli x 1#32) 0#32) 512#32) (Scalar.muli x 512#32) = 0#32 := by
    show (x * 1#32 + 0#32) * 512#32 - x * 512#32 = 0#32
    rw [BitVec.mul_one, BitVec.add_zero, BitVec.sub_self]
  have e' (y : BitVec 32) : IntOp.addi y 0#32 = y := BitVec.add_zero y
  rw [e, e', le_word, ofBits_neg_inf]
  split <;> rfl

section Diag

variable (i : grid0.Coords) (sc : FVec Ideal S512x512 .f32) (m l : FVec Ideal S512x1 .f32) (r : Fin 512)

/-- The maximum after the point's own block. -/
abbrev dm : FVec Ideal S512x1 .f32 :=
  k0_pay21 (F := Ideal) (BitVec.ofNat 32 (i 1).val) (Scalar.addi (Scalar.muli (BitVec.ofNat 32 (i 1).val) 1#32) 0#32) sc
    (iota .tc S512x512 32 [0] iota_S512x512_d0_w32) (iota .tc S512x512 32 [1] iota_S512x512_d1_w32) m

/-- The running maximum after the diagonal tile. -/
theorem pay21_apply : dm i sc m (ix2 r 0) = max (m (ix2 r 0)) (Finset.univ.sup fun k : Fin 512 => dg i sc (ix2 r k)) := by
  unfold dm k0_pay21
  pointwise
  rw [ofBits_neg_inf]
  rfl

/-- The running sum of weights after the diagonal tile. -/
theorem pay24_apply :
    k0_pay24 (F := Ideal) (BitVec.ofNat 32 (i 1).val) (Scalar.addi (Scalar.muli (BitVec.ofNat 32 (i 1).val) 1#32) 0#32) sc
      (iota .tc S512x512 32 [0] iota_S512x512_d0_w32) (iota .tc S512x512 32 [1] iota_S512x512_d1_w32) m l (ix2 r 0)
      = Ideal.exp2 (m (ix2 r 0) - dm i sc m (ix2 r 0)) * l (ix2 r 0) + ∑ k : Fin 512, Ideal.exp2 (dg i sc (ix2 r k) - dm i sc m (ix2 r 0)) := by
  unfold k0_pay24 k0_pay22 k0_pay23
  pointwise
  rfl

/-- The running weighted sum of the values after the diagonal tile. -/
theorem pay25_apply (V : FVec Ideal S512x128 .bf16) (a : FVec Ideal S512x128 .f32) (d : Fin 128) :
    k0_pay25 (F := Ideal) (BitVec.ofNat 32 (i 1).val) (Scalar.addi (Scalar.muli (BitVec.ofNat 32 (i 1).val) 1#32) 0#32) V sc
      (iota .tc S512x512 32 [0] iota_S512x512_d0_w32) (iota .tc S512x512 32 [1] iota_S512x512_d1_w32) m a (ix2 r d)
      = Ideal.exp2 (m (ix2 r 0) - dm i sc m (ix2 r 0)) * a (ix2 r d) + ∑ k : Fin 512, Ideal.exp2 (dg i sc (ix2 r k) - dm i sc m (ix2 r 0)) * V (ix2 k d) := by
  unfold k0_pay25 k0_pay22 k0_pay23
  pointwise
  rfl

end Diag

/-- The maximum starts at `⊥`. -/
theorem pay2_apply (r : Fin 512) : k0_pay2 (F := Ideal) (ix2 r 0) = ⊥ := by
  unfold k0_pay2
  pointwise
  exact ofBits_neg_inf

/-- The sum of weights starts at zero. -/
theorem pay3_apply (r : Fin 512) : k0_pay3 (F := Ideal) (ix2 r 0) = 0 := by
  unfold k0_pay3
  pointwise

/-- The weighted sum starts at zero. -/
theorem pay4_apply (r : Fin 512) (d : Fin 128) : k0_pay4 (F := Ideal) (ix2 r d) = 0 := by
  unfold k0_pay4
  pointwise

/-- The block that is stored: the weighted sum over the sum of weights. -/
theorem pay1_apply (a : FVec Ideal S512x128 .f32) (l : FVec Ideal S512x1 .f32) (r : Fin 512) (d : Fin 128) :
    k0_pay1 (F := Ideal) a l (ix2 r d) = Ideal.div (a (ix2 r d)) (l (ix2 r 0)) := by
  unfold k0_pay1
  pointwise

/-! ## Where the key and value blocks lie -/

/-- Trip `k` reads its keys from row `512 k`, -/
theorem off1 : ∀ (i : grid0.Coords) (k : Fin (k0_t1_loop i).trips), k0_off1 i k = ![512 * k.val, 0] := by decide +kernel
/-- and its values too. -/
theorem off2 : ∀ (i : grid0.Coords) (k : Fin (k0_t1_loop i).trips), k0_off2 i k = ![512 * k.val, 0] := by decide +kernel
/-- The diagonal tile reads its keys from the row where the queries start, -/
theorem off5 : ∀ i : grid0.Coords, k0_off5 i = ![512 * (i 1).val, 0] := by decide +kernel
/-- and its values too. -/
theorem off6 : ∀ i : grid0.Coords, k0_off6 i = ![512 * (i 1).val, 0] := by decide +kernel

end Cert.KernelIdeal.Pay
-- ==== Proof.State.lean ====
/- The state of one grid point of the attention kernel, and the block that it writes, in the terms of the softmax taken
   one block of keys at a time. -/
module

public import proofs.«01_k».proof.Proof.Pay

@[expose] public section

set_option maxRecDepth 16384

noncomputable section

namespace Cert.KernelIdeal.Pay

open Cert.KernelIdeal Cert.KernelIdeal.Gen Cert.KernelIdeal.Body Cert.OnlineSoftmax Idealize.ShloMosaic Idealize.ShloMosaic.TcCoe Idealize.SL.Sem

/-- The score of row `r` of a block of queries against key `j`, `⊥` where the causal mask hides it from row `R` of the
    array. -/
def score (q : FVec Ideal S512x256 .bf16) (K : FVec Ideal S16384x256 .bf16) (R : ℕ) (r : Fin 512) (j : ℕ) : EReal :=
  if h : j < 16384 then (if j ≤ R then ∑ c : Fin 256, q (ix2 r c) * K (ix2 ⟨j, h⟩ c) else ⊥) else ⊥

/-- Column `d` of the values, by key. -/
def val (V : FVec Ideal S16384x128 .bf16) (d : Fin 128) (j : ℕ) : EReal := if h : j < 16384 then V (ix2 ⟨j, h⟩ d) else 0

variable (i : grid0.Coords) (q : FVec Ideal S512x256 .bf16) (K : FVec Ideal S16384x256 .bf16) (V : FVec Ideal S16384x128 .bf16)

/-- There are 32 tiles of queries. -/
theorem i1_lt : (i 1).val < 32 := (i 1).isLt

/-- A key of a block of the main loop, seen from row `r` of the point. -/
theorem score_main (r : Fin 512) (k : Fin (k0_t1_loop i).trips) (j : Fin 512) :
    k0_pay5 (F := Ideal) q (View.ld (Val := Elt Ideal) (e' := .bf16) K (Rect.unit (s := S16384x256) (k0_off1 i k) S512x256.size (k0_off1_inb i k))) (ix2 r j)
      = score q K (512 * (i 1).val + r.val) r (512 * k.val + j.val) := by
  have hk : k.val < (i 1).val := lt_of_lt_of_eq k.isLt (trips1 i)
  have hi := i1_lt i
  have hj := j.isLt
  have hlt : 512 * k.val + j.val < 16384 := by omega
  unfold score
  rw [pay5_apply, dif_pos hlt, if_pos (by omega)]
  refine Finset.sum_congr rfl fun c _ => congrArg _ (View.ld_unit_apply_of (Val := Elt Ideal) (e := .bf16) K _ _ _ _ _ fun a => ?_)
  refine Eq.trans ?_ (congrArg (· + _) (congrFun (off1 i k) a).symm)
  match a with
  | ⟨0, _⟩ => rfl
  | ⟨1, _⟩ => exact (Nat.zero_add _).symm

/-- A value of a block of the main loop. -/
theorem val_main (d : Fin 128) (k : Fin (k0_t1_loop i).trips) (j : Fin 512) :
    View.ld (Val := Elt Ideal) (e' := .bf16) V (Rect.unit (s := S16384x128) (k0_off2 i k) S512x128.size (k0_off2_inb i k)) (ix2 j d) = val V d (512 * k.val + j.val) := by
  have hk : k.val < (i 1).val := lt_of_lt_of_eq k.isLt (trips1 i)
  have hi := i1_lt i
  have hj := j.isLt
  have hlt : 512 * k.val + j.val < 16384 := by omega
  unfold val
  rw [dif_pos hlt]
  refine View.ld_unit_apply_of (Val := Elt Ideal) (e := .bf16) V _ _ _ _ _ fun a => ?_
  refine Eq.trans ?_ (congrArg (· + _) (congrFun (off2 i k) a).symm)
  match a with
  | ⟨0, _⟩ => rfl
  | ⟨1, _⟩ => exact (Nat.zero_add _).symm

/-- A key of the point's own block, masked. -/
theorem score_diag (r j : Fin 512) :
    dg i (sd (F := Ideal) i q K) (ix2 r j) = score q K (512 * (i 1).val + r.val) r (512 * (i 1).val + j.val) := by
  have hi := i1_lt i
  have hj := j.isLt
  have hlt : 512 * (i 1).val + j.val < 16384 := by omega
  unfold score
  rw [pay20_apply, dif_pos hlt]
  refine if_congr ⟨fun h => Nat.add_le_add_left h _, fun h => Nat.le_of_add_le_add_left h⟩ ?_ rfl
  unfold sd
  rw [pay19_apply]
  refine Finset.sum_congr rfl fun c _ => congrArg _ (View.ld_unit_apply_of (Val := Elt Ideal) (e := .bf16) K _ _ _ _ _ fun a => ?_)
  refine Eq.trans ?_ (congrArg (· + _) (congrFun (off5 i) a).symm)
  match a with
  | ⟨0, _⟩ => rfl
  | ⟨1, _⟩ => exact (Nat.zero_add _).symm

/-- A value of the point's own block. -/
theorem val_diag (d : Fin 128) (j : Fin 512) :
    View.ld (Val := Elt Ideal) (e' := .bf16) V (Rect.unit (s := S16384x128) (k0_off6 i) S512x128.size (k0_off6_inb i)) (ix2 j d) = val V d (512 * (i 1).val + j.val) := by
  have hi := i1_lt i
  have hj := j.isLt
  have hlt : 512 * (i 1).val + j.val < 16384 := by omega
  unfold val
  rw [dif_pos hlt]
  refine View.ld_unit_apply_of (Val := Elt Ideal) (e := .bf16) V _ _ _ _ _ fun a => ?_
  refine Eq.trans ?_ (congrArg (· + _) (congrFun (off6 i) a).symm)
  match a with
  | ⟨0, _⟩ => rfl
  | ⟨1, _⟩ => exact (Nat.zero_add _).symm

/-- The state after `k` blocks of keys: maximum, sum and weighted sum of the first `512 k` scores of each row. -/
theorem st_eq (r : Fin 512) (hs : ∀ j, score q K (512 * (i 1).val + r.val) r j ≠ ⊤) :
    ∀ k : ℕ, k ≤ (k0_t1_loop i).trips →
      (st (F := Ideal) i q K V k).1 (ix2 r 0) = M (score q K (512 * (i 1).val + r.val) r) (512 * k)
      ∧ (st (F := Ideal) i q K V k).2.1 (ix2 r 0) = L (score q K (512 * (i 1).val + r.val) r) (512 * k)
      ∧ ∀ d, (st (F := Ideal) i q K V k).2.2 (ix2 r d) = A (score q K (512 * (i 1).val + r.val) r) (val V d) (512 * k)
  | 0, _ => ⟨pay2_apply r, (pay3_apply r).trans Finset.sum_empty.symm, fun d => (pay4_apply r d).trans Finset.sum_empty.symm⟩
  | k + 1, hk => by
    obtain ⟨i6, i7, i8⟩ := st_eq r hs k (Nat.le_of_succ_le hk)
    have hst : st (F := Ideal) i q K V (k + 1) = _ := dif_pos hk
    have em : k0_pay6 (F := Ideal) q (View.ld (Val := Elt Ideal) (e' := .bf16) K (Rect.unit (s := S16384x256) (k0_off1 i ⟨k, hk⟩) S512x256.size (k0_off1_inb i ⟨k, hk⟩))) (st (F := Ideal) i q K V k).1 (ix2 r 0)
        = M (score q K (512 * (i 1).val + r.val) r) (512 * (k + 1)) := by
      rw [pay6_apply, i6, Nat.mul_succ, M_add, ← sup_univ_eq 512 fun j => score q K (512 * (i 1).val + r.val) r (512 * k + j)]
      exact congrArg _ (Finset.sup_congr rfl fun j _ => score_main i q K r ⟨k, hk⟩ j)
    rw [hst]
    refine ⟨(pay11_apply _ _ _ r).trans em, ?_, fun d => ?_⟩
    · show k0_pay9 (F := Ideal) q _ _ _ (ix2 r 0) = _
      rw [pay9_apply, pay7_apply, em, i6, i7, Nat.mul_succ, L_add hs, ← sum_univ_eq 512]
      congr 1
      refine Finset.sum_congr rfl fun j _ => ?_
      rw [pay8_apply, em, score_main]; rfl
    · show k0_pay10 (F := Ideal) q _ _ _ _ (ix2 r d) = _
      rw [pay10_apply, pay7_apply, em, i6, i8 d, Nat.mul_succ, A_add _ hs, ← sum_univ_eq 512]
      congr 1
      refine Finset.sum_congr rfl fun j _ => ?_
      rw [pay8_apply, em, score_main, val_main]; rfl

/-- The block a grid point writes: each row's weighted sum over its sum, all keys taken. -/
theorem outv_apply (r : Fin 512) (hs : ∀ j, score q K (512 * (i 1).val + r.val) r j ≠ ⊤) (d : Fin 128) :
    outv (F := Ideal) i q K V (ix2 r d) = Ideal.div (A (score q K (512 * (i 1).val + r.val) r) (val V d) 16384) (L (score q K (512 * (i 1).val + r.val) r) 16384) := by
  have hi := i1_lt i
  have hb : ∀ j, 512 * ((i 1).val + 1) ≤ j → score q K (512 * (i 1).val + r.val) r j = ⊥ := fun j hj => by
    unfold score
    split
    · exact if_neg (by have := r.isLt; omega)
    · rfl
  obtain ⟨i6, i7, i8⟩ := st_eq i q K V r hs _ le_rfl
  rw [trips1] at i6 i7 i8
  have em : dm i (sd (F := Ideal) i q K) (st (F := Ideal) i q K V (i 1).val).1 (ix2 r 0) = M (score q K (512 * (i 1).val + r.val) r) (512 * ((i 1).val + 1)) := by
    rw [pay21_apply, i6, Nat.mul_succ, M_add, ← sup_univ_eq 512 fun j => score q K (512 * (i 1).val + r.val) r (512 * (i 1).val + j)]
    exact congrArg _ (Finset.sup_congr rfl fun j _ => score_diag i q K r j)
  unfold outv
  rw [trips1, pay1_apply, pay25_apply, pay24_apply, em, i6, i7, i8 d, A_stop _ (show 512 * ((i 1).val + 1) ≤ 16384 by omega) hb,
    L_stop (show 512 * ((i 1).val + 1) ≤ 16384 by omega) hb]
  have e1 : (∑ k : Fin 512, Ideal.exp2 (dg i (sd (F := Ideal) i q K) (ix2 r k) - M (score q K (512 * (i 1).val + r.val) r) (512 * ((i 1).val + 1))))
      = ∑ j ∈ Finset.range 512, Ideal.exp2 (score q K (512 * (i 1).val + r.val) r (512 * (i 1).val + j) - M (score q K (512 * (i 1).val + r.val) r) (512 * ((i 1).val + 1))) := by
    rw [← sum_univ_eq 512]
    exact Finset.sum_congr rfl fun j _ => by rw [score_diag]
  have e2 : (∑ k : Fin 512, Ideal.exp2 (dg i (sd (F := Ideal) i q K) (ix2 r k) - M (score q K (512 * (i 1).val + r.val) r) (512 * ((i 1).val + 1)))
        * View.ld (Val := Elt Ideal) (e' := .bf16) V (Rect.unit (s := S16384x128) (k0_off6 i) S512x128.size (k0_off6_inb i)) (ix2 k d))
      = ∑ j ∈ Finset.range 512, Ideal.exp2 (score q K (512 * (i 1).val + r.val) r (512 * (i 1).val + j) - M (score q K (512 * (i 1).val + r.val) r) (512 * ((i 1).val + 1)))
        * val V d (512 * (i 1).val + j) := by
    rw [← sum_univ_eq 512]
    exact Finset.sum_congr rfl fun j _ => by rw [score_diag, val_diag]
  rw [e1, e2, Nat.mul_succ, A_add _ hs, L_add hs]

end Cert.KernelIdeal.Pay
-- ==== Proof.Array.lean ====
/- The attention kernel's result array after the run, over the extended reals, where queries and keys are real. -/
module

public import proofs.«01_k».proof.Proof.State
public import Idealize.ShloMosaic.Lib.Pipeline.Covers

@[expose] public section

set_option maxRecDepth 16384

noncomputable section

namespace Cert.KernelIdeal.Arr

open Cert.KernelIdeal Cert.KernelIdeal.Gen Cert.KernelIdeal.Body Cert.KernelIdeal.Pay Cert.OnlineSoftmax Idealize.ShloMosaic Idealize.ShloMosaic.TcCoe Idealize.SL.Sem

/-- The score of row `R` of head `h` against key `j`, `⊥` for a key after the row. -/
def scoreG (X Y : FVec Ideal S16384x2048 .bf16) (R : Fin 16384) (h : Fin 8) (j : ℕ) : EReal :=
  if hj : j < 16384 then
    (if j ≤ R.val then ∑ c : Fin 256, X (ix2 R ⟨256 * h.val + c.val, by omega⟩) * Y (ix2 ⟨j, hj⟩ ⟨256 * h.val + c.val, by omega⟩) else ⊥) else ⊥

/-- A column of the values, by key. -/
def valG (Z : FVec Ideal S16384x1024 .bf16) (d : Fin 1024) (j : ℕ) : EReal := if hj : j < 16384 then Z (ix2 ⟨j, hj⟩ d) else 0

/-- The attention of one row and column: the weighted sum of the values over the sum of the weights. -/
def attn (X Y : FVec Ideal S16384x2048 .bf16) (Z : FVec Ideal S16384x1024 .bf16) (R : Fin 16384) (d : Fin 1024) : EReal :=
  Ideal.div (A (scoreG X Y R ⟨d.val / 128, by omega⟩) (valG Z d) 16384) (L (scoreG X Y R ⟨d.val / 128, by omega⟩) 16384)

/-- A sum of real numbers is a real number, -/
theorem sum_real {ι : Type} (u : Finset ι) (f : ι → ℝ) : ∑ k ∈ u, (f k : EReal) = ((∑ k ∈ u, f k : ℝ) : EReal) := by
  classical
  induction u using Finset.induction_on with
  | empty => rw [Finset.sum_empty, Finset.sum_empty]; rfl
  | insert a u h ih => rw [Finset.sum_insert h, Finset.sum_insert h, ih, EReal.coe_add]

/-- so not `⊤`, -/
theorem sum_real_ne_top {ι : Type} (u : Finset ι) (f : ι → ℝ) : ∑ k ∈ u, (f k : EReal) ≠ ⊤ := by
  rw [sum_real]; exact EReal.coe_ne_top _

/-- and not `⊥`. -/
theorem sum_real_ne_bot {ι : Type} (u : Finset ι) (f : ι → ℝ) : ∑ k ∈ u, (f k : EReal) ≠ ⊥ := by
  rw [sum_real]; exact EReal.coe_ne_bot _

/-- A sum of products of real numbers is not `⊤`. -/
theorem scoreG_ne_top {X Y : FVec Ideal S16384x2048 .bf16} (hX : ∀ x, ∃ r : ℝ, X x = r) (hY : ∀ x, ∃ r : ℝ, Y x = r) (R : Fin 16384) (h : Fin 8) (j : ℕ) :
    scoreG X Y R h j ≠ ⊤ := by
  unfold scoreG
  split
  · split
    · choose x hx using hX
      choose y hy using hY
      simp only [hx, hy, ← EReal.coe_mul]
      exact sum_real_ne_top _ _
    · exact bot_ne_top
  · exact bot_ne_top

variable (m : (ℓ : Loc nD τ sig) → Buf (Elt Ideal) ℓ)

/-- The block of the queries at each grid point, -/
theorem idx_q : ∀ t : Fin cfg0.N, (cfg0.win 0).index t = ![(grid0.coords t 1).val, (grid0.coords t 0).val] := by decide +kernel
/-- of the keys, -/
theorem idx_k : ∀ t : Fin cfg0.N, (cfg0.win 1).index t = ![0, (grid0.coords t 0).val] := by decide +kernel
/-- of the values, -/
theorem idx_v : ∀ t : Fin cfg0.N, (cfg0.win 2).index t = ![0, (grid0.coords t 0).val] := by decide +kernel
/-- and of the result. -/
theorem idx_o : ∀ t : Fin cfg0.N, (cfg0.win 3).index t = ![(grid0.coords t 1).val, (grid0.coords t 0).val] := by decide +kernel

/-- The three arguments, as arrays of extended reals. -/
abbrev X0 (c : Dev nD) : FVec Ideal S16384x2048 .bf16 := m ((c : Thread nD τ).loc main_arg0)
/-- The keys. -/
abbrev Y0 (c : Dev nD) : FVec Ideal S16384x2048 .bf16 := m ((c : Thread nD τ).loc main_arg1)
/-- The values. -/
abbrev Z0 (c : Dev nD) : FVec Ideal S16384x1024 .bf16 := m ((c : Thread nD τ).loc main_arg2)

/-- The result array, an index at a time. -/
def G (c : Dev nD) : FVec Ideal S16384x1024 .bf16 := fun y => attn (X0 m c) (Y0 m c) (Z0 m c) (y 0) (y 1)

/-- A block of the queries, read in the array. -/
theorem iblk_q (c : Dev nD) (t : Fin cfg0.N) (r : Fin 512) (e : Fin 256) (R : Fin 16384) (E : Fin 2048) (hR : R.val = 512 * (grid0.coords t 1).val + r.val) (hE : E.val = 256 * (grid0.coords t 0).val + e.val) :
    iblk m c 0 t (ix2 r e) = X0 m c (ix2 R E) := by
  blk_ext [iblk, V, idx_q t]

/-- A block of the keys, read in the array. -/
theorem iblk_k (c : Dev nD) (t : Fin cfg0.N) (j : Fin 16384) (e : Fin 256) (E : Fin 2048) (hE : E.val = 256 * (grid0.coords t 0).val + e.val) :
    iblk m c 1 t (ix2 j e) = Y0 m c (ix2 j E) := by
  blk_ext [iblk, V, idx_k t]

/-- A block of the values, read in the array. -/
theorem iblk_v (c : Dev nD) (t : Fin cfg0.N) (j : Fin 16384) (d : Fin 128) (D : Fin 1024) (hD : D.val = 128 * (grid0.coords t 0).val + d.val) :
    iblk m c 2 t (ix2 j d) = Z0 m c (ix2 j D) := by
  blk_ext [iblk, V, idx_v t]

/-- Where an element of a block of the result stands in the array. -/
theorem emb_o (t : Fin cfg0.N) (r : Fin 512) (d : Fin 128) (R : Fin 16384) (D : Fin 1024) (hR : R.val = 512 * (grid0.coords t 1).val + r.val) (hD : D.val = 128 * (grid0.coords t 0).val + d.val) :
    ((View.whole main_v0).slice (win0_3.rect t)).emb (ix2 r d) = ix2 R D := by
  blk_ext [idx_o t]

/-- The kernel's result array is the attention, where queries and keys are real. -/
theorem arr_eq (c : Dev nD) (hX : ∀ x, ∃ r : ℝ, X0 m c x = r) (hY : ∀ x, ∃ r : ℝ, Y0 m c x = r) :
    (dats m 0 c).arrAt 3 cfg0.N = G m c := by
  refine (dats m 0 c).arrAt_eq_of_covers 3 _ (by decide +kernel) fun t hf y => ?_
  obtain ⟨r, d, rfl⟩ : ∃ (r : Fin 512) (d : Fin 128), y = ix2 r d := ⟨y 0, y 1, eq_ix2 y⟩
  blk_simp
  rw [after0_3]
  simp only [outsAt0]
  rw [out_eq]
  have h0 : (grid0.coords t 0).val < 8 := (grid0.coords t 0).isLt
  have h1 : (grid0.coords t 1).val < 32 := (grid0.coords t 1).isLt
  have hr := r.isLt
  have hd := d.isLt
  let R : Fin 16384 := ⟨512 * (grid0.coords t 1).val + r.val, by omega⟩
  let D : Fin 1024 := ⟨128 * (grid0.coords t 0).val + d.val, by omega⟩
  have hD : (⟨D.val / 128, by omega⟩ : Fin 8) = grid0.coords t 0 := Fin.ext (by show (128 * (grid0.coords t 0).val + d.val) / 128 = _; omega)
  have es : score (iblk m c 0 t) (iblk m c 1 t) (512 * (grid0.coords t 1).val + r.val) r = scoreG (X0 m c) (Y0 m c) R ⟨D.val / 128, by omega⟩ := by
    funext j
    unfold score scoreG
    refine dite_congr rfl (fun hj => ?_) fun _ => rfl
    refine if_congr Iff.rfl (Finset.sum_congr rfl fun e _ => ?_) rfl
    rw [iblk_q m c t r e R ⟨256 * (D.val / 128) + e.val, by omega⟩ rfl (by rw [← hD]), iblk_k m c t ⟨j, hj⟩ e ⟨256 * (D.val / 128) + e.val, by omega⟩ (by rw [← hD])]
  have ev : val (iblk m c 2 t) d = valG (Z0 m c) D := by
    funext j
    unfold val valG
    exact dite_congr rfl (fun hj => iblk_v m c t ⟨j, hj⟩ d D rfl) fun _ => rfl
  rw [emb_o t r d R D rfl rfl, outv_apply _ _ _ _ r (fun j => by rw [es]; exact scoreG_ne_top hX hY _ _ _) d, es, ev]
  rfl

end Cert.KernelIdeal.Arr
-- ==== Proof.Ref.lean ====
/- The attention reference's result at an index, over the extended reals: the same attention as the kernel's. -/
module

public import proofs.«01_k».proof.Proof.Array
public import proofs.«01_k».proof.Proof.Gen.ReferenceIdeal.Read

@[expose] public section

set_option maxRecDepth 16384

noncomputable section

namespace Cert.ReferenceIdeal.Ref

open Cert.ReferenceIdeal Cert.ReferenceIdeal.Gen Cert.ReferenceIdeal.Read Cert.OnlineSoftmax Cert.KernelIdeal.Arr Idealize.ShloMosaic Idealize.ShloMosaic.TcCoe Idealize.SL.Sem

variable (X Y : FVec Ideal S16384x2048 .bf16) (Z : FVec Ideal S16384x1024 .bf16)

/-- The queries, by head. -/
theorem v2_apply (h : Fin 8) (R : Fin 16384) (e : Fin 256) (E : Fin 2048) (hE : E.val = 256 * h.val + e.val) :
    val_main_v2 (F := Ideal) X (ix3 h R e) = X (ix2 R E) := by
  rw [val_main_v2_apply, val_main_v1_apply, val_main_v0_apply]
  refine congrArg X (funext fun a => Fin.ext ?_)
  match a with
  | ⟨0, _⟩ => show ((R.val * 8 + h.val) * 256 + e.val) / 2048 = R.val; omega
  | ⟨1, _⟩ => show ((R.val * 8 + h.val) * 256 + e.val) % 2048 = E.val; omega

/-- The keys, by head. -/
theorem v5_apply (h : Fin 8) (R : Fin 16384) (e : Fin 256) (E : Fin 2048) (hE : E.val = 256 * h.val + e.val) :
    val_main_v5 (F := Ideal) Y (ix3 h R e) = Y (ix2 R E) := by
  rw [val_main_v5_apply, val_main_v4_apply, val_main_v3_apply]
  refine congrArg Y (funext fun a => Fin.ext ?_)
  match a with
  | ⟨0, _⟩ => show ((R.val * 8 + h.val) * 256 + e.val) / 2048 = R.val; omega
  | ⟨1, _⟩ => show ((R.val * 8 + h.val) * 256 + e.val) % 2048 = E.val; omega

/-- The values, by head. -/
theorem v8_apply (h : Fin 8) (R : Fin 16384) (e : Fin 128) (E : Fin 1024) (hE : E.val = 128 * h.val + e.val) :
    val_main_v8 (F := Ideal) Z (ix3 h R e) = Z (ix2 R E) := by
  rw [val_main_v8_apply, val_main_v7_apply, val_main_v6_apply]
  refine congrArg Z (funext fun a => Fin.ext ?_)
  match a with
  | ⟨0, _⟩ => show ((R.val * 8 + h.val) * 128 + e.val) / 1024 = R.val; omega
  | ⟨1, _⟩ => show ((R.val * 8 + h.val) * 128 + e.val) % 1024 = E.val; omega

/-- The f32 word of two is the number two. -/
theorem ofBits_two : Ideal.ofBits .f32 0x40000000#32 = ((2 : ℝ) : EReal) := by
  show Ideal.ieee 8 23 (0x40000000#32 : BitVec 32) = _
  unfold Ideal.ieee
  dsimp only
  rw [if_neg (by decide), if_neg (by decide)]
  congr 1
  have e1 : (BitVec.extractLsb' 23 8 (0x40000000#32 : BitVec 32)).toNat = 128 := by decide
  have e2 : (BitVec.extractLsb' 0 23 (0x40000000#32 : BitVec 32)).toNat = 0 := by decide
  have e3 : (BitVec.extractLsb' (8 + 23) 1 (0x40000000#32 : BitVec 32) == 1#1) = false := by decide
  rw [e1, e2, e3]
  norm_num

/-- The logarithm of two that the reference takes. -/
theorem v10_apply (i : S_.Idx) : val_main_v10 (F := Ideal) i = ln2 := by
  rw [val_main_v10_apply, val_main_cst_apply]
  show Ideal.log (Ideal.ofBits .f32 0x40000000#32) = _
  rw [ofBits_two]
  show (if (2 : ℝ) ≤ 0 then (⊥ : EReal) else (Real.log 2 : EReal)) = _
  rw [if_neg (by norm_num)]

/-- The order of two positions, on their words. -/
theorem le_word (a b : Fin 16384) : IntOp.cmpi .sle (BitVec.ofNat 32 a.val) (BitVec.ofNat 32 b.val) = if a.val ≤ b.val then 1#1 else 0#1 := by
  have h (x : Fin 16384) : (BitVec.ofNat 32 x.val).toInt = x.val := by
    rw [BitVec.toInt_eq_toNat_of_lt] <;> rw [BitVec.toNat_ofNat] <;> have := x.isLt
    · rw [Nat.mod_eq_of_lt (by omega)]
    · rw [Nat.mod_eq_of_lt (by omega)]; omega
  show BitVec.ofBool ((BitVec.ofNat 32 a.val).sle (BitVec.ofNat 32 b.val)) = _
  rw [BitVec.sle_eq_decide, h, h]
  by_cases hab : a.val ≤ b.val
  · rw [if_pos hab, decide_eq_true (by exact_mod_cast hab)]; rfl
  · rw [if_neg hab, decide_eq_false (by exact_mod_cast hab)]; rfl

/-- A logit is the score times `log 2`, masked alike. -/
theorem v19_apply (h : Fin 8) (R j : Fin 16384) : val_main_v19 (F := Ideal) X Y (ix3 h R j) = scoreG X Y R h j.val * ln2 := by
  have hm : val_main_call0_v1 (F := Ideal) (ix3 h R j) = if j.val ≤ R.val then 1#1 else 0#1 := by
    rw [val_main_call0_v1_apply, val_main_v18_apply, val_main_v16_apply, val_main_v17_apply, val_main_v14_apply, val_main_v15_apply, val_main_v13_apply, val_main_v13_apply]
    exact le_word j R
  have hs : val_main_v12 (F := Ideal) X Y (ix3 h R j) = (∑ c : Fin 256, X (ix2 R ⟨256 * h.val + c.val, by omega⟩) * Y (ix2 j ⟨256 * h.val + c.val, by omega⟩)) * ln2 := by
    rw [val_main_v12_apply, val_main_v9_apply, val_main_v11_apply, v10_apply]
    refine congrArg (· * ln2) (Finset.sum_congr rfl fun c _ => ?_)
    have e1 : lidx_main_v9 (ix3 h R j) c = ix3 h R c := funext fun a => by match a with | ⟨0, _⟩ => rfl | ⟨1, _⟩ => rfl | ⟨2, _⟩ => rfl
    have e2 : ridx_main_v9 (ix3 h R j) c = ix3 h j c := funext fun a => by match a with | ⟨0, _⟩ => rfl | ⟨1, _⟩ => rfl | ⟨2, _⟩ => rfl
    rw [e1, e2, v2_apply X h R c ⟨256 * h.val + c.val, by omega⟩ rfl, v5_apply Y h j c ⟨256 * h.val + c.val, by omega⟩ rfl]
  have hb : val_main_call0_v2 (F := Ideal) (ix3 h R j) = ⊥ := by
    rw [val_main_call0_v2_apply, val_main_call0_v0_apply, val_main_cst_0_apply]
    exact ofBits_neg_inf
  rw [val_main_v19_apply, hm, hs, hb]
  unfold scoreG
  rw [dif_pos j.isLt]
  split
  · rfl
  · exact (EReal.bot_mul_coe_of_pos ln2_pos).symm

/-- The row's maximum. -/
theorem v22_apply (h : Fin 8) (R : Fin 16384) : val_main_v22 (F := Ideal) X Y (ix2 h R) = M (fun j => scoreG X Y R h j * ln2) 16384 := by
  have e : val_main_v20 (F := Ideal) X Y (ix2 h R) = M (fun j => scoreG X Y R h j * ln2) 16384 := by
    unfold val_main_v20
    pointwise
    unfold OnlineSoftmax.M
    rw [val_main_cst_1_apply, ← sup_univ_eq 16384 fun j => scoreG X Y R h j * ln2]
    simp only [v19_apply]
    rw [show FloatOps.ofBits (F := Ideal) .f32 0xFF800000#32 = ⊥ from ofBits_neg_inf]
    rfl
  have e' : val_main_v21 (F := Ideal) (ix2 h R) = ⊥ := by
    rw [val_main_v21_apply, val_main_cst_2_apply]
    exact ofBits_neg_inf
  rw [val_main_v22_apply, e, e']
  exact max_eq_right bot_le

/-- A power of `e`. -/
theorem v26_apply (h : Fin 8) (R j : Fin 16384) :
    val_main_v26 (F := Ideal) X Y (ix3 h R j) = Ideal.exp (scoreG X Y R h j.val * ln2 - M (fun j => scoreG X Y R h j * ln2) 16384) := by
  have e : val_main_v24 (F := Ideal) X Y (ix3 h R j) = M (fun j => scoreG X Y R h j * ln2) 16384 := by
    rw [val_main_v24_apply, val_main_v23_apply, ← v22_apply]
    exact congrArg _ (funext fun a => by match a with | ⟨0, _⟩ => rfl | ⟨1, _⟩ => rfl)
  rw [val_main_v26_apply, val_main_v25_apply, v19_apply, e]
  rfl

/-- A weight. -/
theorem v30_apply (h : Fin 8) (R j : Fin 16384) :
    val_main_v30 (F := Ideal) X Y (ix3 h R j)
      = Ideal.div (Ideal.exp (scoreG X Y R h j.val * ln2 - M (fun j => scoreG X Y R h j * ln2) 16384))
          (∑ j ∈ Finset.range 16384, Ideal.exp (scoreG X Y R h j * ln2 - M (fun j => scoreG X Y R h j * ln2) 16384)) := by
  have e : val_main_v29 (F := Ideal) X Y (ix3 h R j) = ∑ j ∈ Finset.range 16384, Ideal.exp (scoreG X Y R h j * ln2 - M (fun j => scoreG X Y R h j * ln2) 16384) := by
    rw [val_main_v29_apply, val_main_v28_apply, val_main_v27_apply, val_main_cst_3_apply]
    rw [← sum_univ_eq 16384 fun j => Ideal.exp (scoreG X Y R h j * ln2 - M (fun j => scoreG X Y R h j * ln2) 16384)]
    refine Eq.trans (congrArg₂ (· + ·) (show FloatOps.ofBits (F := Ideal) .f32 0x00000000#32 = (0 : EReal) by pointwise) (Finset.sum_congr rfl fun k _ => ?_)) (zero_add _)
    rw [← v26_apply]
    exact congrArg _ (funext fun a => by match a with | ⟨0, _⟩ => rfl | ⟨1, _⟩ => rfl | ⟨2, _⟩ => rfl)
  rw [val_main_v30_apply, v26_apply, e]
  rfl

/-- The reference's result at an index: the attention, where queries and keys are real. -/
theorem res_apply (hX : ∀ x, ∃ r : ℝ, X x = r) (hY : ∀ x, ∃ r : ℝ, Y x = r) (R : Fin 16384) (d : Fin 1024) :
    val_main_v34 (F := Ideal) X Y Z (ix2 R d) = attn X Y Z R d := by
  have h0 : scoreG X Y R ⟨d.val / 128, by omega⟩ 0 ≠ ⊥ := by
    unfold scoreG
    rw [dif_pos (by norm_num), if_pos (Nat.zero_le _)]
    choose x hx using hX
    choose y hy using hY
    simp only [hx, hy, ← EReal.coe_mul]
    exact sum_real_ne_bot _ _
  unfold attn
  rw [← softmax_eq (valG Z d) (scoreG_ne_top hX hY R _) h0 (by norm_num : 0 < 16384), val_main_v34_apply, val_main_v33_apply, val_main_v32_apply]
  have e : idx_main_v32 (idx_main_v33 (ix2 R d)) = ix3 (⟨d.val / 128, by omega⟩ : Fin 8) R (⟨d.val % 128, by omega⟩ : Fin 128) := funext fun a => Fin.ext (by
    match a with
    | ⟨0, _⟩ => show (R.val * 1024 + d.val) / 128 % 8 = d.val / 128; omega
    | ⟨1, _⟩ => show (R.val * 1024 + d.val) / 1024 = R.val; omega
    | ⟨2, _⟩ => show (R.val * 1024 + d.val) % 128 = d.val % 128; omega)
  rw [e, val_main_v31_apply, ← sum_univ_eq 16384]
  refine Finset.sum_congr rfl fun k _ => ?_
  have e1 : lidx_main_v31 (ix3 (⟨d.val / 128, by omega⟩ : Fin 8) R (⟨d.val % 128, by omega⟩ : Fin 128)) k = ix3 (⟨d.val / 128, by omega⟩ : Fin 8) R k := funext fun a => by match a with | ⟨0, _⟩ => rfl | ⟨1, _⟩ => rfl | ⟨2, _⟩ => rfl
  have e2 : ridx_main_v31 (ix3 (⟨d.val / 128, by omega⟩ : Fin 8) R (⟨d.val % 128, by omega⟩ : Fin 128)) k = ix3 (⟨d.val / 128, by omega⟩ : Fin 8) k (⟨d.val % 128, by omega⟩ : Fin 128) := funext fun a => by match a with | ⟨0, _⟩ => rfl | ⟨1, _⟩ => rfl | ⟨2, _⟩ => rfl
  rw [e1, e2, v30_apply, v8_apply Z _ k _ d (by show d.val = 128 * (d.val / 128) + d.val % 128; omega)]
  unfold valG
  rw [dif_pos k.isLt]

end Cert.ReferenceIdeal.Ref
-- ==== Proof.FfnBody.lean ====
/- One grid point of the convolutional feed-forward kernel: what it leaves in its accumulator, in the normalised rows it
   keeps, and in its output block, as functions of the blocks it reads. -/
module

public import proofs.«01_k».proof.Proof.Gen.Kernel2Ideal.Value
public import Idealize.ShloMosaic.Lib.VecWindow

@[expose] public section

set_option maxRecDepth 16384

noncomputable section

namespace Cert.Kernel2Ideal.Body

open Cert.Kernel2Ideal Cert.Kernel2Ideal.Gen Idealize.ShloMosaic Idealize.ShloMosaic.TcCoe Idealize.SL.Sem

variable {F : FTy → Type} [FloatOps F]

/-- The offsets of a whole read are zero. -/
theorem hz : (![0, 0] : Fin 2 → Nat) = fun _ => 0 := funext fun a => by fin_cases a <;> rfl

/-- A load of everything finds what the stores before it left. -/
theorem whole_load (v : View sig .tc .vmem S528x2048 .bf16) (L : List (View.Piece (Elt F) S528x2048 .bf16)) :
    v.readCov L (Rect.unit (s := S528x2048) ![0, 0] ![528, 2048] inb_S528x2048_S528x2048_0_0).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- One step of the accumulator: the gated product of the point's columns, added to what it held. -/
def step (xn : Vec F S528x2048 .bf16) (wg wu : Vec F S2048x512 .bf16) (cg cu : Vec F S3x512 .f32) (bg bu : Vec F S1x512 .f32) (wo : Vec F S512x2048 .bf16) (acc : Vec F S512x2048 .f32) : Vec F S512x2048 .f32 :=
  k0_pay1 (k0_pay7 xn wg cg bg) (k0_pay9 xn wu cu) (k0_pay10 xn wu) (k0_pay11 cu) bu acc wo

section Point

variable (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S3x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x2048 .bf16) (harg11 : arg11.IsWhole) (arg12 : Memref sig .tc .vmem S1x2048 .f32) (harg12 : arg12.IsWhole) (arg13 : Memref sig .tc .vmem S512x2048 .f32) (harg13 : arg13.IsWhole) (arg14 : Memref sig .tc .vmem S528x2048 .bf16) (harg14 : arg14.IsWhole) (arg15 : Memref sig .tc .vmem S512x2048 .f32) (harg15 : arg15.IsWhole)
  (x0 : Vec F S512x2048 .f32) (x1 : Vec F S16x2048 .f32) (x2 : Vec F S1x2048 .f32) (x3 : Vec F S2048x512 .bf16) (x4 : Vec F S2048x512 .bf16) (x5 : Vec F S3x512 .f32) (x6 : Vec F S3x512 .f32) (x7 : Vec F S1x512 .f32) (x8 : Vec F S1x512 .f32) (x9 : Vec F S512x2048 .bf16) (x10 : Vec F S1x2048 .f32)

/-- At a point in the middle the accumulator makes one step. -/
theorem acc_B (hc0 : ¬cond0_0 i) (hc1 : ¬cond0_1 i) (xs0 : Vec F S528x2048 .bf16) (xs1 : Vec F S512x2048 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = step xs0 x3 x4 x5 x6 x7 x8 x9 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  rw [View.canon_unit_zero (S := S512x2048) hz]
  sl_unfold_words
  simp only [View.readAt_eq_ld, View.ld_unit_zero (S := S512x2048) hz, View.ld_unit_zero (S := S16x2048) hz, View.ld_unit_zero (S := S1x2048) hz, View.ld_unit_zero (S := S2048x512) hz, View.ld_unit_zero (S := S3x512) hz, View.ld_unit_zero (S := S1x512) hz, View.ld_unit_zero (S := S528x2048) hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

/-- At the last point too, -/
theorem acc_C (hc0 : ¬cond0_0 i) (hc1 : cond0_1 i) (xs0 : Vec F S528x2048 .bf16) (xs1 : Vec F S512x2048 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = step xs0 x3 x4 x5 x6 x7 x8 x9 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero (S := S512x2048) hz]
  simp only [View.readAt_eq_ld, View.ld_unit_zero (S := S512x2048) hz, View.ld_unit_zero (S := S16x2048) hz, View.ld_unit_zero (S := S1x2048) hz, View.ld_unit_zero (S := S2048x512) hz, View.ld_unit_zero (S := S3x512) hz, View.ld_unit_zero (S := S1x512) hz, View.ld_unit_zero (S := S528x2048) hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

/-- and there the output block is the normalised accumulator. -/
theorem out_C (hc0 : ¬cond0_0 i) (hc1 : cond0_1 i) (xs0 : Vec F S528x2048 .bf16) (xs1 : Vec F S512x2048 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay2 (step xs0 x3 x4 x5 x6 x7 x8 x9 xs1) x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  rw [View.canon_unit_zero (S := S512x2048) hz]
  sl_unfold_words
  simp only [View.readCov_full (s := S512x2048), View.readAt_eq_ld, View.ld_unit_zero (S := S512x2048) hz, View.ld_unit_zero (S := S16x2048) hz, View.ld_unit_zero (S := S1x2048) hz, View.ld_unit_zero (S := S2048x512) hz, View.ld_unit_zero (S := S3x512) hz, View.ld_unit_zero (S := S1x512) hz, View.ld_unit_zero (S := S528x2048) hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

/-- The normalised rows that the first point keeps: 16 of the block before, then the block's 512. -/
def rows (x0 : Vec F S512x2048 .f32) (x1 : Vec F S16x2048 .f32) (x2 : Vec F S1x2048 .f32) : List (View.Piece (Elt F) S528x2048 .bf16) :=
  [⟨Rect.unit (s := S528x2048) ![16, 0] S512x2048.size inb_S528x2048_S512x2048_16_0, k0_pay5 x0 x2⟩,
   ⟨Rect.unit (s := S528x2048) ![0, 0] S16x2048.size inb_S528x2048_S16x2048_0_0, k0_pay4 (BitVec.ofNat 32 (i 0).val) x2 x1⟩]

/-- The rows at the first point. -/
theorem rows_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = View.canon (rows i x0 x1 x2) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, View.ld_unit_zero (S := S512x2048) hz, View.ld_unit_zero (S := S16x2048) hz, View.ld_unit_zero (S := S1x2048) hz, View.ld_unit_zero (S := S2048x512) hz, View.ld_unit_zero (S := S3x512) hz, View.ld_unit_zero (S := S1x512) hz, View.ld_unit_zero (S := S528x2048) hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

/-- The accumulator at the first point: one step from the block's own rows. -/
theorem acc_A (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = step (View.canon (rows i x0 x1 x2)) x3 x4 x5 x6 x7 x8 x9 (k0_pay6 x0) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  rw [View.canon_cons_unit_zero (S := S512x2048) hz]
  sl_unfold_words
  simp only [View.readCov_full (s := S512x2048), whole_load, View.readAt_eq_ld, View.ld_unit_zero (S := S512x2048) hz, View.ld_unit_zero (S := S16x2048) hz, View.ld_unit_zero (S := S1x2048) hz, View.ld_unit_zero (S := S2048x512) hz, View.ld_unit_zero (S := S3x512) hz, View.ld_unit_zero (S := S1x512) hz, View.ld_unit_zero (S := S528x2048) hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  rfl

end Point

end Cert.Kernel2Ideal.Body

end
-- ==== Proof.FfnSpec.lean ====
/- The gated feed-forward part with its causal convolution, written at an index over the extended reals. -/
module

public import Idealize.ShloMosaic.Lib.Pointwise

@[expose] public section

noncomputable section

namespace Cert.Ffn

open Idealize.ShloMosaic

/-- A row divided by its root mean square, times the gains. -/
def rms (f g : Fin 2048 → EReal) (d : Fin 2048) : EReal :=
  f d * Ideal.rsqrt (Ideal.div (∑ k, f k * f k) (Ideal.ofBits .f32 0x45000000#32) + Ideal.ofBits .f32 0x358637BD#32) * g d

/-- The product of a normalised row with a column of the first weights. -/
def proj (h : Fin 16384 → Fin 2048 → EReal) (g : Fin 2048 → EReal) (W : Fin 2048 → Fin 11264 → EReal) (R : Fin 16384) (n : Fin 11264) : EReal :=
  ∑ d, rms (h R) g d * W d n

/-- The product `s` rows earlier, zero before the first row. -/
def back (h : Fin 16384 → Fin 2048 → EReal) (g : Fin 2048 → EReal) (W : Fin 2048 → Fin 11264 → EReal) (s : ℕ) (R : Fin 16384) (n : Fin 11264) : EReal :=
  if s ≤ R.val then proj h g W ⟨R.val - s, by omega⟩ n else 0

/-- The causal convolution of width three, with its offset. -/
def conv (h : Fin 16384 → Fin 2048 → EReal) (g : Fin 2048 → EReal) (W : Fin 2048 → Fin 11264 → EReal) (w : Fin 3 → Fin 11264 → EReal) (b : Fin 11264 → EReal) (R : Fin 16384) (n : Fin 11264) : EReal :=
  back h g W 0 R n * w 2 n + back h g W 1 R n * w 1 n + back h g W 2 R n * w 0 n + b n

/-- The gated activation. -/
def act (h : Fin 16384 → Fin 2048 → EReal) (g : Fin 2048 → EReal) (W : Fin 2048 → Fin 11264 → EReal) (w : Fin 3 → Fin 11264 → EReal) (b : Fin 11264 → EReal) (R : Fin 16384) (f : Fin 5632) : EReal :=
  conv h g W w b R ⟨f.val, by omega⟩ * Ideal.logistic (conv h g W w b R ⟨f.val, by omega⟩) * conv h g W w b R ⟨5632 + f.val, by omega⟩

/-- The stream after the feed-forward part. -/
def stream (h : Fin 16384 → Fin 2048 → EReal) (g : Fin 2048 → EReal) (W : Fin 2048 → Fin 11264 → EReal) (w : Fin 3 → Fin 11264 → EReal) (b : Fin 11264 → EReal) (Wo : Fin 5632 → Fin 2048 → EReal) (R : Fin 16384) (d : Fin 2048) : EReal :=
  h R d + ∑ f, act h g W w b R f * Wo f d

end Cert.Ffn

end
-- ==== Proof.FfnBlocks.lean ====
/- The blocks that the convolutional feed-forward kernel reads at a grid point, as parts of its arguments. -/
module

public import proofs.«01_k».proof.Proof.FfnSpec
public import Idealize.ShloMosaic.Lib.Pipeline.Covers
public import Idealize.ShloMosaic.Lib.Pointwise
public import proofs.«01_k».proof.Proof.Gen.Kernel2Ideal.Value

@[expose] public section

set_option maxRecDepth 16384

noncomputable section

namespace Cert.Kernel2Ideal.Blocks

open Cert.Kernel2Ideal Cert.Kernel2Ideal.Gen Idealize.ShloMosaic Idealize.ShloMosaic.TcCoe Idealize.SL.Sem

variable (m : (ℓ : Loc nD τ sig) → Buf (Elt Ideal) ℓ)

/-- The stream, by row and column. -/
def aH (c : Dev nD) (R : Fin 16384) (d : Fin 2048) : EReal := (m ((c : Thread nD τ).loc main_arg0) : FVec Ideal S16384x2048 .f32) (ix2 R d)
/-- The gains of the first normalisation. -/
def aG (c : Dev nD) (d : Fin 2048) : EReal := (m ((c : Thread nD τ).loc main_arg1) : FVec Ideal S2048 .f32) (ix1 d)
/-- The first weights. -/
def aW (c : Dev nD) (d : Fin 2048) (n : Fin 11264) : EReal := (m ((c : Thread nD τ).loc main_arg2) : FVec Ideal S2048x11264 .f32) (ix2 d n)
/-- The convolution's taps. -/
def aC (c : Dev nD) (s : Fin 3) (n : Fin 11264) : EReal := (m ((c : Thread nD τ).loc main_arg3) : FVec Ideal S3x11264 .f32) (ix2 s n)
/-- The convolution's offset. -/
def aB (c : Dev nD) (n : Fin 11264) : EReal := (m ((c : Thread nD τ).loc main_arg4) : FVec Ideal S11264 .f32) (ix1 n)
/-- The second weights. -/
def aO (c : Dev nD) (f : Fin 5632) (d : Fin 2048) : EReal := (m ((c : Thread nD τ).loc main_arg5) : FVec Ideal S5632x2048 .f32) (ix2 f d)
/-- The gains of the last normalisation. -/
def aF (c : Dev nD) (d : Fin 2048) : EReal := (m ((c : Thread nD τ).loc main_arg6) : FVec Ideal S2048 .f32) (ix1 d)

/-- The first gains, as a row. -/
theorem V_v0 (c : Dev nD) : V m c main_v0 = broadcastInDim S1x2048 ![1] bcast_S2048_S1x2048_1 (m ((c : Thread nD τ).loc main_arg1) : (⟨S2048, .f32⟩ : BufTy).Contents (Elt Ideal)) := by
  unfold_abbrev_sides
  after_results
/-- The first weights, cast. -/
theorem V_v1 (c : Dev nD) : V m c main_v1 = (truncf (F := Ideal) .bf16 (m ((c : Thread nD τ).loc main_arg2) : FVec Ideal S2048x11264 .f32) bitsLt_bf16_f32 : FVec Ideal S2048x11264 .bf16) := by
  unfold_abbrev_sides
  after_results
/-- The offset, as a row. -/
theorem V_v2 (c : Dev nD) : V m c main_v2 = broadcastInDim S1x11264 ![1] bcast_S11264_S1x11264_1 (m ((c : Thread nD τ).loc main_arg4) : (⟨S11264, .f32⟩ : BufTy).Contents (Elt Ideal)) := by
  unfold_abbrev_sides
  after_results
/-- The second weights, cast. -/
theorem V_v3 (c : Dev nD) : V m c main_v3 = (truncf (F := Ideal) .bf16 (m ((c : Thread nD τ).loc main_arg5) : FVec Ideal S5632x2048 .f32) bitsLt_bf16_f32 : FVec Ideal S5632x2048 .bf16) := by
  unfold_abbrev_sides
  after_results
/-- The last gains, as a row. -/
theorem V_v4 (c : Dev nD) : V m c main_v4 = broadcastInDim S1x2048 ![1] bcast_S2048_S1x2048_1 (m ((c : Thread nD τ).loc main_arg6) : (⟨S2048, .f32⟩ : BufTy).Contents (Elt Ideal)) := by
  unfold_abbrev_sides
  after_results

/-- The two coordinates of a grid point. -/
theorem coords_eq : ∀ t : Fin cfg0.N, (grid0.coords t 0).val = t.val / 11 ∧ (grid0.coords t 1).val = t.val % 11 := by decide +kernel

/-- The block of the stream at each grid point, -/
theorem idx0 : ∀ t : Fin cfg0.N, (cfg0.win 0).index t = ![t.val / 11, 0] := by decide +kernel
/-- of the rows before it, -/
theorem idx1 : ∀ t : Fin cfg0.N, (cfg0.win 1).index t = ![32 * (t.val / 11) - 1, 0] := by decide +kernel
/-- of the first gains, -/
theorem idx2 : ∀ t : Fin cfg0.N, (cfg0.win 2).index t = ![0, 0] := by decide +kernel
/-- of the gate's columns of the first weights, -/
theorem idx3 : ∀ t : Fin cfg0.N, (cfg0.win 3).index t = ![0, t.val % 11] := by decide +kernel
/-- of the other columns, -/
theorem idx4 : ∀ t : Fin cfg0.N, (cfg0.win 4).index t = ![0, t.val % 11 + 11] := by decide +kernel
/-- of the gate's taps, -/
theorem idx5 : ∀ t : Fin cfg0.N, (cfg0.win 5).index t = ![0, t.val % 11] := by decide +kernel
/-- of the other taps, -/
theorem idx6 : ∀ t : Fin cfg0.N, (cfg0.win 6).index t = ![0, t.val % 11 + 11] := by decide +kernel
/-- of the gate's offsets, -/
theorem idx7 : ∀ t : Fin cfg0.N, (cfg0.win 7).index t = ![0, t.val % 11] := by decide +kernel
/-- of the other offsets, -/
theorem idx8 : ∀ t : Fin cfg0.N, (cfg0.win 8).index t = ![0, t.val % 11 + 11] := by decide +kernel
/-- of the second weights, -/
theorem idx9 : ∀ t : Fin cfg0.N, (cfg0.win 9).index t = ![t.val % 11, 0] := by decide +kernel
/-- of the last gains, -/
theorem idx10 : ∀ t : Fin cfg0.N, (cfg0.win 10).index t = ![0, 0] := by decide +kernel
/-- and of the result. -/
theorem idx11 : ∀ t : Fin cfg0.N, (cfg0.win 11).index t = ![t.val / 11, 0] := by decide +kernel

/-- A block of the stream, read in the stream. -/
theorem blk0 (c : Dev nD) (t : Fin cfg0.N) (r : Fin 512) (d : Fin 2048) (R : Fin 16384) (hR : R.val = 512 * (t.val / 11) + r.val) :
    iblk m c 0 t (ix2 r d) = aH m c R d := by
  unfold aH
  blk_ext [iblk, V, idx0 t]

/-- The rows before a block, read in the stream. -/
theorem blk1 (c : Dev nD) (t : Fin cfg0.N) (r : Fin 16) (d : Fin 2048) (R : Fin 16384) (hR : R.val = 16 * (32 * (t.val / 11) - 1) + r.val) :
    iblk m c 1 t (ix2 r d) = aH m c R d := by
  unfold aH
  blk_ext [iblk, V, idx1 t]

/-- The first gains. -/
theorem blk2 (c : Dev nD) (t : Fin cfg0.N) (d : Fin 2048) : iblk m c 2 t (ix2 0 d) = aG m c d := by
  have e : iblk m c 2 t (ix2 0 d) = (V m c main_v0 : FVec Ideal S1x2048 .f32) (ix2 0 d) := by blk_ext [iblk, idx2 t]
  rw [e, V_v0]
  pointwise
  rfl

/-- A block of the gate's columns. -/
theorem blk3 (c : Dev nD) (t : Fin cfg0.N) (d : Fin 2048) (n : Fin 512) (N : Fin 11264) (hN : N.val = 512 * (t.val % 11) + n.val) :
    iblk m c 3 t (ix2 d n) = aW m c d N := by
  have e : iblk m c 3 t (ix2 d n) = (V m c main_v1 : FVec Ideal S2048x11264 .bf16) (ix2 d N) := by blk_ext [iblk, idx3 t]
  rw [e, V_v1]
  rfl

/-- A block of the other columns. -/
theorem blk4 (c : Dev nD) (t : Fin cfg0.N) (d : Fin 2048) (n : Fin 512) (N : Fin 11264) (hN : N.val = 512 * (t.val % 11 + 11) + n.val) :
    iblk m c 4 t (ix2 d n) = aW m c d N := by
  have e : iblk m c 4 t (ix2 d n) = (V m c main_v1 : FVec Ideal S2048x11264 .bf16) (ix2 d N) := by blk_ext [iblk, idx4 t]
  rw [e, V_v1]
  rfl

/-- A block of the gate's taps. -/
theorem blk5 (c : Dev nD) (t : Fin cfg0.N) (s : Fin 3) (n : Fin 512) (N : Fin 11264) (hN : N.val = 512 * (t.val % 11) + n.val) :
    iblk m c 5 t (ix2 s n) = aC m c s N := by
  unfold aC
  blk_ext [iblk, V, idx5 t]

/-- A block of the other taps. -/
theorem blk6 (c : Dev nD) (t : Fin cfg0.N) (s : Fin 3) (n : Fin 512) (N : Fin 11264) (hN : N.val = 512 * (t.val % 11 + 11) + n.val) :
    iblk m c 6 t (ix2 s n) = aC m c s N := by
  unfold aC
  blk_ext [iblk, V, idx6 t]

/-- A block of the gate's offsets. -/
theorem blk7 (c : Dev nD) (t : Fin cfg0.N) (n : Fin 512) (N : Fin 11264) (hN : N.val = 512 * (t.val % 11) + n.val) :
    iblk m c 7 t (ix2 0 n) = aB m c N := by
  have e : iblk m c 7 t (ix2 0 n) = (V m c main_v2 : FVec Ideal S1x11264 .f32) (ix2 0 N) := by blk_ext [iblk, idx7 t]
  rw [e, V_v2]
  pointwise
  rfl

/-- A block of the other offsets. -/
theorem blk8 (c : Dev nD) (t : Fin cfg0.N) (n : Fin 512) (N : Fin 11264) (hN : N.val = 512 * (t.val % 11 + 11) + n.val) :
    iblk m c 8 t (ix2 0 n) = aB m c N := by
  have e : iblk m c 8 t (ix2 0 n) = (V m c main_v2 : FVec Ideal S1x11264 .f32) (ix2 0 N) := by blk_ext [iblk, idx8 t]
  rw [e, V_v2]
  pointwise
  rfl

/-- A block of the second weights. -/
theorem blk9 (c : Dev nD) (t : Fin cfg0.N) (n : Fin 512) (d : Fin 2048) (N : Fin 5632) (hN : N.val = 512 * (t.val % 11) + n.val) :
    iblk m c 9 t (ix2 n d) = aO m c N d := by
  have e : iblk m c 9 t (ix2 n d) = (V m c main_v3 : FVec Ideal S5632x2048 .bf16) (ix2 N d) := by blk_ext [iblk, idx9 t]
  rw [e, V_v3]
  rfl

/-- The last gains. -/
theorem blk10 (c : Dev nD) (t : Fin cfg0.N) (d : Fin 2048) : iblk m c 10 t (ix2 0 d) = aF m c d := by
  have e : iblk m c 10 t (ix2 0 d) = (V m c main_v4 : FVec Ideal S1x2048 .f32) (ix2 0 d) := by blk_ext [iblk, idx10 t]
  rw [e, V_v4]
  pointwise
  rfl

/-- Where an element of a block of the result stands in the array. -/
theorem emb11 (t : Fin cfg0.N) (r : Fin 512) (d : Fin 2048) (R : Fin 16384) (hR : R.val = 512 * (t.val / 11) + r.val) :
    ((View.whole main_v5).slice (win0_11.rect t)).emb (ix2 r d) = ix2 R d := by
  blk_ext [idx11 t]

end Cert.Kernel2Ideal.Blocks

end
-- ==== Proof.FfnPay.lean ====
/- The values of the convolutional feed-forward kernel's body at an index, over the extended reals. -/
module

public import proofs.«01_k».proof.Proof.Gen.Kernel2Ideal.Skeleton
public import proofs.«01_k».proof.Proof.FfnSpec
public import Idealize.ShloMosaic.Lib.Pointwise

@[expose] public section

set_option maxRecDepth 16384

noncomputable section

namespace Cert.Kernel2Ideal.Pay

open Cert.Kernel2Ideal Cert.Kernel2Ideal.Gen Cert.Ffn Idealize.ShloMosaic Idealize.ShloMosaic.TcCoe

/-- The normalised block at an index. -/
theorem pay5_apply (x : FVec Ideal S512x2048 .f32) (g : FVec Ideal S1x2048 .f32) (r : Fin 512) (d : Fin 2048) :
    k0_pay5 (F := Ideal) x g (ix2 r d) = rms (fun d => x (ix2 r d)) (fun d => g (ix2 0 d)) d := by
  unfold k0_pay5 k0_pay3
  pointwise
  rfl

/-- The normalised accumulator at an index. -/
theorem pay2_apply (x : FVec Ideal S512x2048 .f32) (g : FVec Ideal S1x2048 .f32) (r : Fin 512) (d : Fin 2048) :
    k0_pay2 (F := Ideal) x g (ix2 r d) = rms (fun d => x (ix2 r d)) (fun d => g (ix2 0 d)) d := by
  unfold k0_pay2
  pointwise
  rfl

/-- The sixteen rows before the block, normalised, at an index: zero in the first block. -/
theorem pay4_apply (a : BitVec 32) (x : FVec Ideal S16x2048 .f32) (g : FVec Ideal S1x2048 .f32) (r : Fin 16) (d : Fin 2048) :
    k0_pay4 (F := Ideal) a g x (ix2 r d) = rms (fun d => x (ix2 r d)) (fun d => g (ix2 0 d)) d
      * Scalar.select (Scalar.cmpi .sgt a 0#32) (Ideal.ofBits .f32 0x3F800000#32) (Ideal.ofBits .f32 0x00000000#32) := by
  unfold k0_pay4 k0_pay3
  pointwise
  rfl

/-- The product of a kept row with a column of the point's weights. -/
def dotp (xn : FVec Ideal S528x2048 .bf16) (w : FVec Ideal S2048x512 .bf16) (p : Fin 528) (n : Fin 512) : EReal :=
  ∑ d : Fin 2048, xn (ix2 p d) * w (ix2 d n)

/-- The convolution over the kept rows. -/
def convp (xn : FVec Ideal S528x2048 .bf16) (w : FVec Ideal S2048x512 .bf16) (c : FVec Ideal S3x512 .f32) (b : FVec Ideal S1x512 .f32) (r n : Fin 512) : EReal :=
  dotp xn w ⟨16 + r.val, by omega⟩ n * c (ix2 2 n) + dotp xn w ⟨15 + r.val, by omega⟩ n * c (ix2 1 n) + dotp xn w ⟨14 + r.val, by omega⟩ n * c (ix2 0 n) + b (ix2 0 n)

/-- The gate at an index. -/
theorem pay7_apply (xn : FVec Ideal S528x2048 .bf16) (w : FVec Ideal S2048x512 .bf16) (c : FVec Ideal S3x512 .f32) (b : FVec Ideal S1x512 .f32) (r n : Fin 512) :
    k0_pay7 (F := Ideal) xn w c b (ix2 r n) = convp xn w c b r n := by
  unfold k0_pay7
  pointwise
  rfl

/-- The accumulator after a step at an index. -/
theorem pay1_apply (gt : FVec Ideal S512x512 .f32) (xn : FVec Ideal S528x2048 .bf16) (w : FVec Ideal S2048x512 .bf16) (c : FVec Ideal S3x512 .f32) (b : FVec Ideal S1x512 .f32)
    (acc : FVec Ideal S512x2048 .f32) (wo : FVec Ideal S512x2048 .bf16) (r : Fin 512) (d : Fin 2048) :
    k0_pay1 (F := Ideal) gt (k0_pay9 (F := Ideal) xn w c) (k0_pay10 (F := Ideal) xn w) (k0_pay11 (F := Ideal) c) b acc wo (ix2 r d)
      = acc (ix2 r d) + ∑ n : Fin 512, gt (ix2 r n) * Ideal.logistic (gt (ix2 r n)) * convp xn w c b r n * wo (ix2 n d) := by
  unfold k0_pay1 k0_pay9 k0_pay10 k0_pay11 k0_pay8
  pointwise
  rfl

end Cert.Kernel2Ideal.Pay

end
-- ==== Proof.FfnState.lean ====
/- The convolutional feed-forward kernel's two scratch buffers over its grid: the normalised rows of the row block, and
   the stream plus the gated product over the columns met so far. The result array follows from its last column block. -/
module

public import proofs.«01_k».proof.Proof.FfnBody
public import proofs.«01_k».proof.Proof.FfnBlocks
public import proofs.«01_k».proof.Proof.FfnPay
public import Idealize.ShloMosaic.Lib.IdealHost
public import Idealize.ShloMosaic.Lib.Writes

@[expose] public section

set_option maxRecDepth 16384

noncomputable section

namespace Cert.Kernel2Ideal.State

open Cert.Kernel2Ideal Cert.Kernel2Ideal.Gen Cert.Kernel2Ideal.Body Cert.Kernel2Ideal.Blocks Cert.Kernel2Ideal.Pay Cert.Ffn Idealize.ShloMosaic Idealize.ShloMosaic.TcCoe Idealize.SL.Sem

variable (m : (ℓ : Loc nD τ sig) → Buf (Elt Ideal) ℓ)

/-- The normalised rows kept for row block `i`: the sixteen before it, then its own; zero before the first row. -/
def kept (c : Dev nD) (i : ℕ) (p : Fin 528) (d : Fin 2048) : EReal :=
  if 16 ≤ 512 * i + p.val then (if h : 512 * i + p.val - 16 < 16384 then rms (aH m c ⟨512 * i + p.val - 16, h⟩) (aG m c) d else 0) else 0

/-- One column's contribution to the gated product. -/
def term (c : Dev nD) (R : Fin 16384) (d : Fin 2048) (f : ℕ) : EReal :=
  if h : f < 5632 then act (aH m c) (aG m c) (aW m c) (aC m c) (aB m c) R ⟨f, h⟩ * aO m c ⟨f, h⟩ d else 0

/-- The stream plus the gated product over the first `n` columns. -/
def part (c : Dev nD) (R : Fin 16384) (d : Fin 2048) (n : ℕ) : EReal :=
  aH m c R d + ∑ f ∈ Finset.range n, term m c R d f

/-- Over all columns it is the stream after the feed-forward part. -/
theorem part_all (c : Dev nD) (R : Fin 16384) (d : Fin 2048) :
    part m c R d 5632 = stream (aH m c) (aG m c) (aW m c) (aC m c) (aB m c) (aO m c) R d := by
  unfold part stream
  rw [Finset.sum_range]
  refine congrArg (aH m c R d + ·) (Finset.sum_congr rfl fun f _ => ?_)
  exact dif_pos f.isLt

/-- The factor of the rows before the block: zero in the first block, one in the others. -/
theorem first_sel : ∀ i : Fin 32, Scalar.cmpi .sgt (BitVec.ofNat 32 i.val) 0#32 = if i.val = 0 then 0#1 else 1#1 := by decide +kernel

/-- What the first point of a row block keeps. -/
theorem canon_rows (c : Dev nD) (t : Fin cfg0.N) (p : Fin 528) (d : Fin 2048) :
    View.canon (rows (F := Ideal) (grid0.coords t) (iblk m c 0 t) (iblk m c 1 t) (iblk m c 2 t)) (ix2 p d) = kept m c (t.val / 11) p d := by
  have ht : t.val < 352 := lt_of_lt_of_eq t.isLt N_0
  have hp := p.isLt
  unfold rows kept
  have hG : (fun d => iblk m c 2 t (ix2 0 d)) = aG m c := funext fun d => blk2 m c t d
  by_cases h : 16 ≤ p.val
  · have e : ix2 p d = (Rect.unit (s := S528x2048) ![16, 0] S512x2048.size inb_S528x2048_S512x2048_16_0).emb (ix2 (⟨p.val - 16, by omega⟩ : Fin 512) d) := by
      funext a
      refine Fin.ext ?_
      match a with
      | ⟨0, _⟩ => show p.val = 16 + 1 * (p.val - 16); omega
      | ⟨1, _⟩ => show d.val = 0 + 1 * d.val; omega
    rw [e, View.canon_cons_emb, pay5_apply, if_pos (by omega), dif_pos (by omega), hG]
    congr 1
    funext d
    exact blk0 m c t _ d _ (by show 512 * (t.val / 11) + p.val - 16 = 512 * (t.val / 11) + (p.val - 16); omega)
  · have e : ix2 p d = (Rect.unit (s := S528x2048) ![0, 0] S16x2048.size inb_S528x2048_S16x2048_0_0).emb (ix2 (⟨p.val, by omega⟩ : Fin 16) d) := by
      funext a
      refine Fin.ext ?_
      match a with
      | ⟨0, _⟩ => show p.val = 0 + 1 * p.val; omega
      | ⟨1, _⟩ => show d.val = 0 + 1 * d.val; omega
    rw [View.canon_cons_of_not_mem]
    · rw [e, View.canon_cons_emb, pay4_apply, hG]
      have h0 := first_sel (grid0.coords t 0)
      rw [h0, (coords_eq t).1]
      by_cases hi : t.val / 11 = 0
      · rw [if_pos hi, if_neg (by omega)]
        unfold Scalar.select
        rw [if_neg (by decide), Ideal.ofBits_zero_f32, mul_zero]
      · rw [if_neg hi, if_pos (by omega), dif_pos (by omega)]
        unfold Scalar.select
        rw [if_pos (by decide), Ideal.ofBits_one_f32, mul_one]
        congr 1
        funext d
        exact blk1 m c t _ d _ (by show 512 * (t.val / 11) + p.val - 16 = 16 * (32 * (t.val / 11) - 1) + p.val; omega)
    · exact Rect.not_mem_set_of_axis _ _ 0 16 512 rfl rfl rfl (Or.inl (by show p.val < 16; omega))

/-- The product of a kept row with a column. -/
theorem dotp_eq (c : Dev nD) (i : ℕ) (hi : i < 32) (xn : FVec Ideal S528x2048 .bf16) (hx : ∀ p d, xn (ix2 p d) = kept m c i p d)
    (w : FVec Ideal S2048x512 .bf16) (n : Fin 512) (N : Fin 11264) (hw : ∀ d, w (ix2 d n) = aW m c d N)
    (s : ℕ) (hs : s ≤ 16) (r : Fin 512) (p : Fin 528) (hp : p.val + s = 16 + r.val) (R : Fin 16384) (hR : R.val = 512 * i + r.val) :
    dotp xn w p n = back (aH m c) (aG m c) (aW m c) s R N := by
  unfold dotp back
  by_cases h : s ≤ R.val
  · rw [if_pos h]
    unfold proj
    refine Finset.sum_congr rfl fun d _ => ?_
    rw [hx, hw]
    unfold kept
    rw [if_pos (by omega), dif_pos (by omega)]
    have e : (⟨512 * i + p.val - 16, by omega⟩ : Fin 16384) = ⟨R.val - s, by omega⟩ := Fin.ext (by show 512 * i + p.val - 16 = R.val - s; omega)
    rw [e]
  · rw [if_neg h]
    refine Finset.sum_eq_zero fun d _ => ?_
    rw [hx]
    unfold kept
    rw [if_neg (by omega), zero_mul]

/-- The convolution over the kept rows. -/
theorem convp_eq (c : Dev nD) (i : ℕ) (hi : i < 32) (xn : FVec Ideal S528x2048 .bf16) (hx : ∀ p d, xn (ix2 p d) = kept m c i p d)
    (w : FVec Ideal S2048x512 .bf16) (k : FVec Ideal S3x512 .f32) (b : FVec Ideal S1x512 .f32) (n : Fin 512) (N : Fin 11264)
    (hw : ∀ d, w (ix2 d n) = aW m c d N) (hk : ∀ s, k (ix2 s n) = aC m c s N) (hb : b (ix2 0 n) = aB m c N)
    (r : Fin 512) (R : Fin 16384) (hR : R.val = 512 * i + r.val) :
    convp xn w k b r n = conv (aH m c) (aG m c) (aW m c) (aC m c) (aB m c) R N := by
  unfold convp conv
  rw [dotp_eq m c i hi xn hx w n N hw 0 (by omega) r _ (by show 16 + r.val + 0 = _; omega) R hR,
    dotp_eq m c i hi xn hx w n N hw 1 (by omega) r _ (by show 15 + r.val + 1 = _; omega) R hR,
    dotp_eq m c i hi xn hx w n N hw 2 (by omega) r _ (by show 14 + r.val + 2 = _; omega) R hR, hk, hk, hk, hb]

/-- One step adds the point's columns. -/
theorem step_eq (c : Dev nD) (t : Fin cfg0.N) (xn : FVec Ideal S528x2048 .bf16) (hx : ∀ p d, xn (ix2 p d) = kept m c (t.val / 11) p d)
    (acc : FVec Ideal S512x2048 .f32) (r : Fin 512) (d : Fin 2048) (R : Fin 16384) (hR : R.val = 512 * (t.val / 11) + r.val)
    (ha : acc (ix2 r d) = part m c R d (512 * (t.val % 11))) :
    step (F := Ideal) xn (iblk m c 3 t) (iblk m c 4 t) (iblk m c 5 t) (iblk m c 6 t) (iblk m c 7 t) (iblk m c 8 t) (iblk m c 9 t) acc (ix2 r d)
      = part m c R d (512 * (t.val % 11 + 1)) := by
  have ht : t.val < 352 := lt_of_lt_of_eq t.isLt N_0
  unfold step
  rw [pay1_apply, ha]
  unfold part
  rw [show 512 * (t.val % 11 + 1) = 512 * (t.val % 11) + 512 from rfl, Finset.sum_range_add, ← add_assoc, Finset.sum_range (n := 512)]
  refine congrArg _ (Finset.sum_congr rfl fun n _ => ?_)
  have hn := n.isLt
  have hj : t.val % 11 < 11 := Nat.mod_lt _ (by decide)
  rw [pay7_apply, convp_eq m c (t.val / 11) (by omega) xn hx _ _ _ n ⟨512 * (t.val % 11) + n.val, by omega⟩ (fun d => blk3 m c t d n _ rfl) (fun s => blk5 m c t s n _ rfl) (blk7 m c t n _ rfl) r R hR,
    convp_eq m c (t.val / 11) (by omega) xn hx _ _ _ n ⟨5632 + (512 * (t.val % 11) + n.val), by omega⟩ (fun d => blk4 m c t d n _ (by show 5632 + (512 * (t.val % 11) + n.val) = _; omega)) (fun s => blk6 m c t s n _ (by show 5632 + (512 * (t.val % 11) + n.val) = _; omega)) (blk8 m c t n _ (by show 5632 + (512 * (t.val % 11) + n.val) = _; omega)) r R hR,
    blk9 m c t n d ⟨512 * (t.val % 11) + n.val, by omega⟩ rfl]
  unfold term
  rw [dif_pos (by omega)]
  rfl

/-- The two scratch buffers after each point. -/
theorem state (c : Dev nD) : ∀ (n : ℕ) (hn : n < cfg0.N), (∀ p d, (outsAt0 m c n hn).2.1 (ix2 p d) = kept m c (n / 11) p d)
    ∧ ∀ (r : Fin 512) (d : Fin 2048) (R : Fin 16384), R.val = 512 * (n / 11) + r.val → (outsAt0 m c n hn).2.2 (ix2 r d) = part m c R d (512 * (n % 11 + 1)) := by
  intro n
  induction n using Nat.strong_induction_on with
  | _ n ih =>
    intro hn
    have ht : n < 352 := lt_of_lt_of_eq hn N_0
    by_cases h0 : n % 11 = 0
    · have e := outsAt0_A m c ⟨n, hn⟩ h0 (by show ¬n % 11 = 10; omega)
      have e1 : ∀ p d, (outsAt0 m c n hn).2.1 (ix2 p d) = kept m c (n / 11) p d := by
        intro p d
        rw [e]
        dsimp only
        rw [rows_A]
        exact canon_rows m c ⟨n, hn⟩ p d
      refine ⟨e1, fun r d R hR => ?_⟩
      rw [e]
      dsimp only
      rw [acc_A]
      refine step_eq m c ⟨n, hn⟩ _ (fun p d => canon_rows m c ⟨n, hn⟩ p d) _ r d R hR ?_
      show k0_pay6 (iblk m c 0 ⟨n, hn⟩) (ix2 r d) = part m c R d (512 * (n % 11))
      rw [h0]
      unfold part k0_pay6
      rw [Finset.range_zero, Finset.sum_empty, add_zero]
      pointwise
      exact blk0 m c ⟨n, hn⟩ r d R hR
    · obtain ⟨i1, i2⟩ := ih (n - 1) (by omega) (by omega)
      have hd : (n - 1) / 11 = n / 11 := by omega
      have hm : (n - 1) % 11 + 1 = n % 11 := by omega
      rw [hd] at i1 i2
      rw [hm] at i2
      by_cases h1 : n % 11 = 10
      · have e := outsAt0_C m c ⟨n, hn⟩ h0 h1
        refine ⟨fun p d => ?_, fun r d R hR => ?_⟩
        · rw [e]
          exact i1 p d
        · rw [e]
          dsimp only
          rw [acc_C]
          exact step_eq m c ⟨n, hn⟩ _ i1 _ r d R hR (i2 r d R hR)
      · have e := outsAt0_B m c ⟨n, hn⟩ h0 h1
        refine ⟨fun p d => ?_, fun r d R hR => ?_⟩
        · rw [e]
          exact i1 p d
        · rw [e]
          dsimp only
          rw [acc_B]
          exact step_eq m c ⟨n, hn⟩ _ i1 _ r d R hR (i2 r d R hR)

/-- The result array, an index at a time. -/
def G (c : Dev nD) : FVec Ideal S16384x2048 .f32 := fun y =>
  rms (stream (aH m c) (aG m c) (aW m c) (aC m c) (aB m c) (aO m c) (y 0)) (aF m c) (y 1)

/-- The kernel's result array is the normalised stream after the feed-forward part. -/
theorem arr_eq (c : Dev nD) : (dats m 0 c).arrAt 11 cfg0.N = G m c := by
  refine (dats m 0 c).arrAt_eq_of_covers 11 _ (by decide +kernel) fun t hf y => ?_
  obtain ⟨r, d, rfl⟩ : ∃ (r : Fin 512) (d : Fin 2048), y = ix2 r d := ⟨y 0, y 1, eq_ix2 y⟩
  have ht : t.val < 352 := lt_of_lt_of_eq t.isLt N_0
  have hm : t.val % 11 = 10 := (flush0_11 t).mp hf
  have h0 : ¬t.val % 11 = 0 := by omega
  have hr := r.isLt
  blk_simp
  rw [after0_11, outsAt0_C m c t h0 hm]
  dsimp only
  rw [out_C, pay2_apply, emb11 t r d ⟨512 * (t.val / 11) + r.val, by omega⟩ rfl]
  obtain ⟨i1, i2⟩ := state m c (t.val - 1) (lt_of_le_of_lt (Nat.sub_le _ _) t.isLt)
  rw [show (t.val - 1) / 11 = t.val / 11 by omega] at i1 i2
  rw [show (t.val - 1) % 11 + 1 = t.val % 11 by omega] at i2
  have e1 : (fun d => iblk m c 10 t (ix2 0 d)) = aF m c := funext fun d => blk10 m c t d
  rw [e1]
  show rms _ _ d = rms _ _ d
  congr 1
  funext d
  rw [step_eq m c t _ i1 _ r d ⟨512 * (t.val / 11) + r.val, by omega⟩ rfl (i2 r d _ rfl), hm]
  exact part_all m c _ d

end Cert.Kernel2Ideal.State

end
-- ==== Proof.FfnRef.lean ====
/- The feed-forward reference's result at an index, over the extended reals. -/
module

public import proofs.«01_k».proof.Proof.FfnSpec
public import proofs.«01_k».proof.Proof.Gen.Reference2Ideal.Read
public import Idealize.ShloMosaic.Lib.IdealHost
public import Idealize.ShloMosaic.Lib.Pointwise
public import Idealize.ShloMosaic.Lib.KernelVsHost

@[expose] public section

set_option maxRecDepth 16384

noncomputable section

namespace Cert.Reference2Ideal.Ref

open Cert.Reference2Ideal Cert.Reference2Ideal.Gen Cert.Reference2Ideal.Read Cert.Ffn Idealize.ShloMosaic Idealize.ShloMosaic.TcCoe Idealize.SL.Sem

variable (H : FVec Ideal S16384x2048 .f32) (G : FVec Ideal S2048 .f32) (W : FVec Ideal S2048x11264 .f32) (C : FVec Ideal S3x11264 .f32) (B : FVec Ideal S11264 .f32)
  (O : FVec Ideal S5632x2048 .f32) (E : FVec Ideal S2048 .f32)

/-- The normalised rows. -/
theorem v12_apply (R : Fin 16384) (d : Fin 2048) :
    val_main_v12 (F := Ideal) H G (ix2 R d) = rms (fun d => H (ix2 R d)) (fun d => G (ix1 d)) d := by
  simp only [val_main_v12_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_cst_apply, val_main_cst_0_apply, val_main_cst_1_apply]
  have e0 : ∀ k : Fin 2048, idx_main_v1 (idx_main_v2 (idx_main_v8 (ix2 R d))) k = ix2 R k := fun k => eq_ix2 _
  have e1 : idx_main_v10 (idx_main_v11 (ix2 R d)) = ix1 d := funext fun a => match a with | ⟨0, _⟩ => rfl
  have z : (FloatOps.ofBits (F := Ideal) .f32 0#32 : EReal) = 0 := Ideal.ofBits_zero_f32
  simp only [e0, e1]
  erw [z, zero_add]
  rfl

/-- Their products with the first weights. -/
theorem v13_apply (R : Fin 16384) (n : Fin 11264) :
    val_main_v13 (F := Ideal) H G W (ix2 R n) = proj (fun R d => H (ix2 R d)) (fun d => G (ix1 d)) (fun d n => W (ix2 d n)) R n := by
  rw [val_main_v13_apply]
  unfold proj
  refine Finset.sum_congr rfl fun d _ => ?_
  have e1 : lidx_main_v13 (ix2 R n) d = ix2 R d := eq_ix2 _
  have e2 : ridx_main_v13 (ix2 R n) d = ix2 d n := eq_ix2 _
  rw [e1, e2, v12_apply]

/-- The padded products, `s` rows back. -/
theorem v14_apply (R : Fin 16384) (n : Fin 11264) (s : ℕ) (P : Fin 16386) (hP : P.val + s = R.val + 2) :
    val_main_v14 (F := Ideal) H G W (ix2 P n) = back (fun R d => H (ix2 R d)) (fun d => G (ix1 d)) (fun d n => W (ix2 d n)) s R n := by
  unfold val_main_v14 back
  by_cases h : s ≤ R.val
  · rw [if_pos h, pad_apply_of_inside (k := ix2 (⟨R.val - s, by omega⟩ : Fin 16384) n), v13_apply]
    intro a
    match a with
    | ⟨0, _⟩ => show P.val = 2 + (R.val - s) * (0 + 1); omega
    | ⟨1, _⟩ => show n.val = 0 + n.val * (0 + 1); omega
  · rw [if_neg h, pad_apply_of_not_inside (a := 0), val_main_call0_v0_apply, val_main_c_apply]
    · show ((BitVec.toInt 0#32 : ℝ) : EReal) = 0
      simp
    · intro hh
      have h2 : 2 ≤ P.val := hh.1
      omega

/-- The convolution. -/
theorem v39_apply (R : Fin 16384) (n : Fin 11264) :
    val_main_v39 (F := Ideal) H G W C B (ix2 R n) = conv (fun R d => H (ix2 R d)) (fun d => G (ix1 d)) (fun d n => W (ix2 d n)) (fun s n => C (ix2 s n)) (fun n => B (ix1 n)) R n := by
  have a0 := v14_apply H G W R n 2 ⟨R.val, by omega⟩ rfl
  have a1 := v14_apply H G W R n 1 ⟨1 + R.val, by omega⟩ (by show 1 + R.val + 1 = _; omega)
  have a2 := v14_apply H G W R n 0 ⟨2 + R.val, by omega⟩ (by show 2 + R.val + 0 = _; omega)
  unfold conv
  rw [← a0, ← a1, ← a2]
  simp only [val_main_v39_apply, val_main_v38_apply, val_main_v37_apply, val_main_v36_apply, val_main_v35_apply, val_main_v34_apply, val_main_v33_apply, val_main_v32_apply,
    val_main_v31_apply, val_main_v30_apply, val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply, val_main_v16_apply, val_main_v15_apply, val_main_cst_2_apply]
  have e0 : idx_main_v15 (ix2 R n) = ix2 (⟨R.val, by omega⟩ : Fin 16386) n := eq_ix2 _
  have e1 : idx_main_v23 (ix2 R n) = ix2 (⟨1 + R.val, by omega⟩ : Fin 16386) n := eq_ix2 _
  have e2 : idx_main_v30 (ix2 R n) = ix2 (⟨2 + R.val, by omega⟩ : Fin 16386) n := eq_ix2 _
  have c0 : idx_main_v16 (idx_main_v17 (idx_main_v18 (idx_main_v19 (ix2 R n)))) = ix2 0 n := funext fun a => Fin.ext (match a with | ⟨0, _⟩ => rfl | ⟨1, _⟩ => Nat.mod_eq_of_lt n.isLt)
  have c1 : idx_main_v24 (idx_main_v25 (idx_main_v26 (idx_main_v27 (ix2 R n)))) = ix2 1 n := funext fun a => Fin.ext (match a with | ⟨0, _⟩ => rfl | ⟨1, _⟩ => Nat.mod_eq_of_lt n.isLt)
  have c2 : idx_main_v31 (idx_main_v32 (idx_main_v33 (idx_main_v34 (ix2 R n)))) = ix2 2 n := funext fun a => Fin.ext (match a with | ⟨0, _⟩ => rfl | ⟨1, _⟩ => Nat.mod_eq_of_lt n.isLt)
  have b : idx_main_v37 (idx_main_v38 (ix2 R n)) = ix1 n := funext fun a => match a with | ⟨0, _⟩ => rfl
  have z : (FloatOps.ofBits (F := Ideal) .f32 0#32 : EReal) = 0 := Ideal.ofBits_zero_f32
  simp only [e0, e1, e2, c0, c1, c2, b, Ideal.addf_def, Ideal.mulf_def]
  erw [z, zero_add]
  congr 1
  rw [add_comm, add_comm (val_main_v14 (F := Ideal) H G W _ * C (ix2 0 n)), ← add_assoc]

/-- The gated activation. -/
theorem v43_apply (R : Fin 16384) (f : Fin 5632) :
    val_main_v43 (F := Ideal) H G W C B (ix2 R f) = act (fun R d => H (ix2 R d)) (fun d => G (ix1 d)) (fun d n => W (ix2 d n)) (fun s n => C (ix2 s n)) (fun n => B (ix1 n)) R f := by
  have a0 := v39_apply H G W C B R ⟨f.val, by omega⟩
  have a1 := v39_apply H G W C B R ⟨5632 + f.val, by omega⟩
  unfold act
  rw [← a0, ← a1]
  simp only [val_main_v43_apply, val_main_v42_apply, val_main_v41_apply, val_main_v40_apply, val_main_call1_v0_apply, val_main_call1_v1_apply, val_main_call1_cst_apply, val_main_call1_v2_apply,
    val_main_call1_v3_apply, val_main_call1_cst_0_apply, val_main_call1_v4_apply, val_main_call1_v5_apply]
  have e0 : idx_main_v40 (ix2 R f) = ix2 R (⟨f.val, by omega⟩ : Fin 11264) := eq_ix2 _
  have e1 : idx_main_v41 (ix2 R f) = ix2 R (⟨5632 + f.val, by omega⟩ : Fin 11264) := eq_ix2 _
  have o : (FloatOps.ofBits (F := Ideal) .f32 1065353216#32 : EReal) = 1 := Ideal.ofBits_one_f32
  simp only [e0, e1]
  unfold Ideal.logistic
  erw [o]
  rfl

/-- The stream. -/
theorem v45_apply (R : Fin 16384) (d : Fin 2048) :
    val_main_v45 (F := Ideal) H G W C B O (ix2 R d) = stream (fun R d => H (ix2 R d)) (fun d => G (ix1 d)) (fun d n => W (ix2 d n)) (fun s n => C (ix2 s n)) (fun n => B (ix1 n)) (fun f d => O (ix2 f d)) R d := by
  rw [val_main_v45_apply, val_main_v44_apply]
  unfold stream
  refine congrArg (H (ix2 R d) + ·) (Finset.sum_congr rfl fun f _ => ?_)
  have e1 : lidx_main_v44 (ix2 R d) f = ix2 R f := eq_ix2 _
  have e2 : ridx_main_v44 (ix2 R d) f = ix2 f d := eq_ix2 _
  rw [e1, e2, v43_apply]

/-- The reference's result. -/
theorem v58_apply (R : Fin 16384) (d : Fin 2048) :
    val_main_v58 (F := Ideal) H G W C B O E (ix2 R d)
      = rms (stream (fun R d => H (ix2 R d)) (fun d => G (ix1 d)) (fun d n => W (ix2 d n)) (fun s n => C (ix2 s n)) (fun n => B (ix1 n)) (fun f d => O (ix2 f d)) R) (fun d => E (ix1 d)) d := by
  have e : stream (fun R d => H (ix2 R d)) (fun d => G (ix1 d)) (fun d n => W (ix2 d n)) (fun s n => C (ix2 s n)) (fun n => B (ix1 n)) (fun f d => O (ix2 f d)) R = fun d => val_main_v45 (F := Ideal) H G W C B O (ix2 R d) :=
    funext fun d => (v45_apply H G W C B O R d).symm
  rw [e]
  simp only [val_main_v58_apply, val_main_v57_apply, val_main_v56_apply, val_main_v55_apply, val_main_v54_apply, val_main_v53_apply, val_main_v52_apply, val_main_v51_apply, val_main_v50_apply,
    val_main_v49_apply, val_main_v48_apply, val_main_v47_apply, val_main_v46_apply, val_main_cst_3_apply, val_main_cst_4_apply, val_main_cst_5_apply]
  have e0 : ∀ k : Fin 2048, idx_main_v47 (idx_main_v48 (idx_main_v54 (ix2 R d))) k = ix2 R k := fun k => eq_ix2 _
  have e1 : idx_main_v56 (idx_main_v57 (ix2 R d)) = ix1 d := funext fun a => match a with | ⟨0, _⟩ => rfl
  have z : (FloatOps.ofBits (F := Ideal) .f32 0#32 : EReal) = 0 := Ideal.ofBits_zero_f32
  simp only [e0, e1]
  erw [z, zero_add]
  rfl

end Cert.Reference2Ideal.Ref

end
-- ==== Proof.Gates.lean ====
/- The gates' projection: what the kernel leaves in its array and the reference's result, at an index. -/
module

public import Idealize.ShloMosaic.Lib.Pipeline.Covers
public import Idealize.ShloMosaic.Lib.Pointwise
public import Idealize.ShloMosaic.Lib.IdealHost
public import proofs.«01_k».proof.Proof.Gen.Kernel3Ideal.Value
public import proofs.«01_k».proof.Proof.Gen.Reference3Ideal.Read

@[expose] public section

set_option maxRecDepth 16384

noncomputable section

namespace Cert.Gates

open Idealize.ShloMosaic Idealize.ShloMosaic.TcCoe Idealize.SL.Sem

/-- The gates: the last columns of the input projection, through a sigmoid. -/
def spec (X : Fin 16384 → Fin 2048 → EReal) (W : Fin 2048 → Fin 8264 → EReal) (R : Fin 16384) (n : Fin 4096) : EReal :=
  Ideal.logistic (∑ d, X R d * W d ⟨4168 + n.val, by omega⟩)

section Kernel

open Cert.Kernel3Ideal Cert.Kernel3Ideal.Gen

variable (m : (ℓ : Loc nD τ sig) → Buf (Elt Ideal) ℓ)

/-- The rows, by row and column. -/
def aX (c : Dev nD) (R : Fin 16384) (d : Fin 2048) : EReal := (m ((c : Thread nD τ).loc main_arg0) : FVec Ideal S16384x2048 .bf16) (ix2 R d)
/-- The weights of the input projection. -/
def aW (c : Dev nD) (d : Fin 2048) (n : Fin 8264) : EReal := (m ((c : Thread nD τ).loc main_arg1) : FVec Ideal S2048x8264 .f32) (ix2 d n)

/-- The result array. -/
def G (c : Dev nD) : FVec Ideal S16384x4096 .bf16 := fun y => spec (aX m c) (aW m c) (y 0) (y 1)

/-- The gates' columns of the weights, as the kernel receives them. -/
theorem V_v1 (c : Dev nD) (d : Fin 2048) (n : Fin 4096) :
    (V m c main_v1 : FVec Ideal S2048x4096 .bf16) (ix2 d n) = aW m c d ⟨4168 + n.val, by omega⟩ := by
  have e : V m c main_v1 = (truncf (F := Ideal) .bf16 (extractStridedSlice S2048x4096 ![0, 4168] (m ((c : Thread nD τ).loc main_arg1) : FVec Ideal S2048x8264 .f32) slices_S2048x8264_S2048x4096_0_4168 : FVec Ideal S2048x4096 .f32) bitsLt_bf16_f32 : FVec Ideal S2048x4096 .bf16) := by
    unfold_abbrev_sides
    after_results
  rw [e]
  unfold aW
  pointwise

/-- The block of rows at each grid point, -/
theorem idx0 : ∀ t : Fin cfg0.N, (cfg0.win 0).index t = ![t.val / 4, 0] := by decide +kernel
/-- of columns, -/
theorem idx1 : ∀ t : Fin cfg0.N, (cfg0.win 1).index t = ![0, t.val % 4] := by decide +kernel
/-- and of the result. -/
theorem idx2 : ∀ t : Fin cfg0.N, (cfg0.win 2).index t = ![t.val / 4, t.val % 4] := by decide +kernel

/-- A block of the rows. -/
theorem blk0 (c : Dev nD) (t : Fin cfg0.N) (r : Fin 512) (d : Fin 2048) (R : Fin 16384) (hR : R.val = 512 * (t.val / 4) + r.val) :
    iblk m c 0 t (ix2 r d) = aX m c R d := by
  unfold aX
  blk_ext [iblk, V, idx0 t]

/-- A block of the weights. -/
theorem blk1 (c : Dev nD) (t : Fin cfg0.N) (d : Fin 2048) (n : Fin 1024) (N : Fin 4096) (hN : N.val = 1024 * (t.val % 4) + n.val) :
    iblk m c 1 t (ix2 d n) = aW m c d ⟨4168 + N.val, by omega⟩ := by
  have e : iblk m c 1 t (ix2 d n) = (V m c main_v1 : FVec Ideal S2048x4096 .bf16) (ix2 d N) := by blk_ext [iblk, idx1 t]
  rw [e, V_v1]

/-- Where an element of a block of the result stands in the array. -/
theorem emb2 (t : Fin cfg0.N) (r : Fin 512) (n : Fin 1024) (R : Fin 16384) (N : Fin 4096) (hR : R.val = 512 * (t.val / 4) + r.val) (hN : N.val = 1024 * (t.val % 4) + n.val) :
    ((View.whole main_v2).slice (win0_2.rect t)).emb (ix2 r n) = ix2 R N := by
  blk_ext [idx2 t]

/-- The block's value at an index. -/
theorem pay1_apply (x : FVec Ideal S512x2048 .bf16) (w : FVec Ideal S2048x1024 .bf16) (r : Fin 512) (n : Fin 1024) :
    k0_pay1 (F := Ideal) x w (ix2 r n) = Ideal.logistic (∑ d : Fin 2048, x (ix2 r d) * w (ix2 d n)) := by
  unfold k0_pay1
  pointwise

/-- The origin. -/
theorem hz : (![0, 0] : Fin 2 → Nat) = fun _ => 0 := funext fun a => by fin_cases a <;> rfl

/-- What a grid point leaves in the result's block. -/
theorem out_eq (x : FVec Ideal S512x2048 .bf16) (w : FVec Ideal S2048x1024 .bf16) : out0_2 (F := Ideal) x w = k0_pay1 (F := Ideal) x w := by
  unfold out0_2
  rw [View.canon_unit_zero (S := S512x1024) hz, View.ld_unit_zero (S := S512x2048) hz, View.ld_unit_zero (S := S2048x1024) hz]

/-- The result array after the run. -/
theorem arr_eq (c : Dev nD) : (dats m 0 c).arrAt 2 cfg0.N = G m c := by
  refine (dats m 0 c).arrAt_eq_of_covers 2 _ (by decide +kernel) fun t hf y => ?_
  obtain ⟨r, n, rfl⟩ : ∃ (r : Fin 512) (n : Fin 1024), y = ix2 r n := ⟨y 0, y 1, eq_ix2 y⟩
  have ht : t.val < 128 := lt_of_lt_of_eq t.isLt N_0
  have hr := r.isLt
  have hn := n.isLt
  blk_simp
  rw [after0_2, out_eq, pay1_apply, emb2 t r n ⟨512 * (t.val / 4) + r.val, by omega⟩ ⟨1024 * (t.val % 4) + n.val, by omega⟩ rfl rfl]
  unfold G spec
  refine congrArg Ideal.logistic (Finset.sum_congr rfl fun d _ => ?_)
  rw [blk0 m c t r d ⟨512 * (t.val / 4) + r.val, by omega⟩ rfl, blk1 m c t d n ⟨1024 * (t.val % 4) + n.val, by omega⟩ rfl]
  rfl

end Kernel

section Reference

open Cert.Reference3Ideal Cert.Reference3Ideal.Gen Cert.Reference3Ideal.Read

/-- The reference's result at an index. -/
theorem ref_apply (X : FVec Ideal S16384x2048 .bf16) (W : FVec Ideal S2048x8264 .f32) (R : Fin 16384) (n : Fin 4096) :
    val_main_v9 (F := Ideal) X W (ix2 R n) = spec (fun R d => X (ix2 R d)) (fun d n => W (ix2 d n)) R n := by
  simp only [val_main_v9_apply, val_main_v8_apply, val_main_v7_apply, val_main_v6_apply, val_main_v5_apply, val_main_v4_apply, val_main_v3_apply, val_main_v2_apply, val_main_v1_apply,
    val_main_v0_apply, val_main_cst_apply, val_main_cst_0_apply]
  have e : idx_main_v2 (ix2 R n) = ix2 R (⟨4168 + n.val, by omega⟩ : Fin 8264) := eq_ix2 _
  have e1 : ∀ k, lidx_main_v1 (ix2 R (⟨4168 + n.val, by omega⟩ : Fin 8264)) k = ix2 R k := fun k => eq_ix2 _
  have e2 : ∀ k, ridx_main_v1 (ix2 R (⟨4168 + n.val, by omega⟩ : Fin 8264)) k = ix2 k (⟨4168 + n.val, by omega⟩ : Fin 8264) := fun k => eq_ix2 _
  have o : (FloatOps.ofBits (F := Ideal) .f32 1065353216#32 : EReal) = 1 := Ideal.ofBits_one_f32
  simp only [e, e1, e2]
  unfold spec Ideal.logistic
  erw [o]
  rfl

end Reference

end Cert.Gates

end
-- ==== Proof.Merge.lean ====
/- The gated merge of the two branches: what the kernel leaves in its array and the reference's result, at an index. -/
module

public import Idealize.ShloMosaic.Lib.Pipeline.Covers
public import Idealize.ShloMosaic.Lib.Pointwise
public import Idealize.ShloMosaic.Lib.IdealHost
public import proofs.«01_k».proof.Proof.Gen.Kernel4Ideal.Value
public import proofs.«01_k».proof.Proof.Gen.Reference4Ideal.Read

@[expose] public section

set_option maxRecDepth 16384

noncomputable section

namespace Cert.Merge

open Idealize.ShloMosaic Idealize.ShloMosaic.TcCoe Idealize.SL.Sem

/-- The two branches, each through its projection and times its gate, summed. -/
def spec (A B : Fin 16384 → Fin 1024 → EReal) (U V : Fin 1024 → Fin 2048 → EReal) (g : Fin 16384 → Fin 4096 → EReal) (R : Fin 16384) (n : Fin 2048) : EReal :=
  g R ⟨n.val, by omega⟩ * (∑ d, A R d * U d n) + g R ⟨2048 + n.val, by omega⟩ * (∑ d, B R d * V d n)

section Kernel

open Cert.Kernel4Ideal Cert.Kernel4Ideal.Gen

variable (m : (ℓ : Loc nD τ sig) → Buf (Elt Ideal) ℓ)

/-- The first branch, by row and column. -/
def aA (c : Dev nD) (R : Fin 16384) (d : Fin 1024) : EReal := (m ((c : Thread nD τ).loc main_arg0) : FVec Ideal S16384x1024 .bf16) (ix2 R d)
/-- The second branch. -/
def aB (c : Dev nD) (R : Fin 16384) (d : Fin 1024) : EReal := (m ((c : Thread nD τ).loc main_arg1) : FVec Ideal S16384x1024 .bf16) (ix2 R d)
/-- The first branch's projection. -/
def aU (c : Dev nD) (d : Fin 1024) (n : Fin 2048) : EReal := (m ((c : Thread nD τ).loc main_arg2) : FVec Ideal S1024x2048 .f32) (ix2 d n)
/-- The second branch's projection. -/
def aV (c : Dev nD) (d : Fin 1024) (n : Fin 2048) : EReal := (m ((c : Thread nD τ).loc main_arg3) : FVec Ideal S1024x2048 .f32) (ix2 d n)
/-- The gates of both branches. -/
def aG (c : Dev nD) (R : Fin 16384) (n : Fin 4096) : EReal := (m ((c : Thread nD τ).loc main_arg4) : FVec Ideal S16384x4096 .bf16) (ix2 R n)

/-- The result array. -/
def G (c : Dev nD) : FVec Ideal S16384x2048 .bf16 := fun y => spec (aA m c) (aB m c) (aU m c) (aV m c) (aG m c) (y 0) (y 1)

/-- The first projection, cast. -/
theorem V_v0 (c : Dev nD) : V m c main_v0 = (truncf (F := Ideal) .bf16 (m ((c : Thread nD τ).loc main_arg2) : FVec Ideal S1024x2048 .f32) bitsLt_bf16_f32 : FVec Ideal S1024x2048 .bf16) := by
  unfold_abbrev_sides
  after_results
/-- The second projection, cast. -/
theorem V_v1 (c : Dev nD) : V m c main_v1 = (truncf (F := Ideal) .bf16 (m ((c : Thread nD τ).loc main_arg3) : FVec Ideal S1024x2048 .f32) bitsLt_bf16_f32 : FVec Ideal S1024x2048 .bf16) := by
  unfold_abbrev_sides
  after_results

/-- The block of the first branch at each grid point, -/
theorem idx0 : ∀ t : Fin cfg0.N, (cfg0.win 0).index t = ![t.val / 2, 0] := by decide +kernel
/-- of the second, -/
theorem idx1 : ∀ t : Fin cfg0.N, (cfg0.win 1).index t = ![t.val / 2, 0] := by decide +kernel
/-- of the first projection, -/
theorem idx2 : ∀ t : Fin cfg0.N, (cfg0.win 2).index t = ![0, t.val % 2] := by decide +kernel
/-- of the second projection, -/
theorem idx3 : ∀ t : Fin cfg0.N, (cfg0.win 3).index t = ![0, t.val % 2] := by decide +kernel
/-- of the first branch's gates, -/
theorem idx4 : ∀ t : Fin cfg0.N, (cfg0.win 4).index t = ![t.val / 2, t.val % 2] := by decide +kernel
/-- of the second branch's gates, -/
theorem idx5 : ∀ t : Fin cfg0.N, (cfg0.win 5).index t = ![t.val / 2, t.val % 2 + 2] := by decide +kernel
/-- and of the result. -/
theorem idx6 : ∀ t : Fin cfg0.N, (cfg0.win 6).index t = ![t.val / 2, t.val % 2] := by decide +kernel

/-- A block of the first branch. -/
theorem blk0 (c : Dev nD) (t : Fin cfg0.N) (r : Fin 512) (d : Fin 1024) (R : Fin 16384) (hR : R.val = 512 * (t.val / 2) + r.val) :
    iblk m c 0 t (ix2 r d) = aA m c R d := by
  unfold aA
  blk_ext [iblk, V, idx0 t]

/-- A block of the second branch. -/
theorem blk1 (c : Dev nD) (t : Fin cfg0.N) (r : Fin 512) (d : Fin 1024) (R : Fin 16384) (hR : R.val = 512 * (t.val / 2) + r.val) :
    iblk m c 1 t (ix2 r d) = aB m c R d := by
  unfold aB
  blk_ext [iblk, V, idx1 t]

/-- A block of the first projection. -/
theorem blk2 (c : Dev nD) (t : Fin cfg0.N) (d n : Fin 1024) (N : Fin 2048) (hN : N.val = 1024 * (t.val % 2) + n.val) :
    iblk m c 2 t (ix2 d n) = aU m c d N := by
  have e : iblk m c 2 t (ix2 d n) = (V m c main_v0 : FVec Ideal S1024x2048 .bf16) (ix2 d N) := by blk_ext [iblk, idx2 t]
  rw [e, V_v0]
  rfl

/-- A block of the second projection. -/
theorem blk3 (c : Dev nD) (t : Fin cfg0.N) (d n : Fin 1024) (N : Fin 2048) (hN : N.val = 1024 * (t.val % 2) + n.val) :
    iblk m c 3 t (ix2 d n) = aV m c d N := by
  have e : iblk m c 3 t (ix2 d n) = (V m c main_v1 : FVec Ideal S1024x2048 .bf16) (ix2 d N) := by blk_ext [iblk, idx3 t]
  rw [e, V_v1]
  rfl

/-- A block of the first branch's gates. -/
theorem blk4 (c : Dev nD) (t : Fin cfg0.N) (r : Fin 512) (n : Fin 1024) (R : Fin 16384) (N : Fin 4096) (hR : R.val = 512 * (t.val / 2) + r.val) (hN : N.val = 1024 * (t.val % 2) + n.val) :
    iblk m c 4 t (ix2 r n) = aG m c R N := by
  unfold aG
  blk_ext [iblk, V, idx4 t]

/-- A block of the second branch's gates. -/
theorem blk5 (c : Dev nD) (t : Fin cfg0.N) (r : Fin 512) (n : Fin 1024) (R : Fin 16384) (N : Fin 4096) (hR : R.val = 512 * (t.val / 2) + r.val) (hN : N.val = 1024 * (t.val % 2 + 2) + n.val) :
    iblk m c 5 t (ix2 r n) = aG m c R N := by
  unfold aG
  blk_ext [iblk, V, idx5 t]

/-- Where an element of a block of the result stands in the array. -/
theorem emb6 (t : Fin cfg0.N) (r : Fin 512) (n : Fin 1024) (R : Fin 16384) (N : Fin 2048) (hR : R.val = 512 * (t.val / 2) + r.val) (hN : N.val = 1024 * (t.val % 2) + n.val) :
    ((View.whole main_v2).slice (win0_6.rect t)).emb (ix2 r n) = ix2 R N := by
  blk_ext [idx6 t]

/-- The block's value at an index. -/
theorem pay1_apply (x : FVec Ideal S512x1024 .bf16) (u : FVec Ideal S1024x1024 .bf16) (y : FVec Ideal S512x1024 .bf16) (v : FVec Ideal S1024x1024 .bf16) (g h : FVec Ideal S512x1024 .bf16) (r : Fin 512) (n : Fin 1024) :
    k0_pay1 (F := Ideal) x u y v g h (ix2 r n) = g (ix2 r n) * (∑ d : Fin 1024, x (ix2 r d) * u (ix2 d n)) + h (ix2 r n) * (∑ d : Fin 1024, y (ix2 r d) * v (ix2 d n)) := by
  unfold k0_pay1
  pointwise

/-- The origin. -/
theorem hz : (![0, 0] : Fin 2 → Nat) = fun _ => 0 := funext fun a => by fin_cases a <;> rfl

/-- What a grid point leaves in the result's block. -/
theorem out_eq (x y : FVec Ideal S512x1024 .bf16) (u v : FVec Ideal S1024x1024 .bf16) (g h : FVec Ideal S512x1024 .bf16) : out0_6 (F := Ideal) x y u v g h = k0_pay1 (F := Ideal) x u y v g h := by
  unfold out0_6
  simp only [View.canon_unit_zero (S := S512x1024) hz, View.ld_unit_zero (S := S512x1024) hz, View.ld_unit_zero (S := S1024x1024) hz]

/-- The result array after the run. -/
theorem arr_eq (c : Dev nD) : (dats m 0 c).arrAt 6 cfg0.N = G m c := by
  refine (dats m 0 c).arrAt_eq_of_covers 6 _ (by decide +kernel) fun t hf y => ?_
  obtain ⟨r, n, rfl⟩ : ∃ (r : Fin 512) (n : Fin 1024), y = ix2 r n := ⟨y 0, y 1, eq_ix2 y⟩
  have ht : t.val < 64 := lt_of_lt_of_eq t.isLt N_0
  have hr := r.isLt
  have hn := n.isLt
  blk_simp
  rw [after0_6, out_eq, pay1_apply, emb6 t r n ⟨512 * (t.val / 2) + r.val, by omega⟩ ⟨1024 * (t.val % 2) + n.val, by omega⟩ rfl rfl,
    blk4 m c t r n ⟨512 * (t.val / 2) + r.val, by omega⟩ ⟨1024 * (t.val % 2) + n.val, by omega⟩ rfl rfl,
    blk5 m c t r n ⟨512 * (t.val / 2) + r.val, by omega⟩ ⟨2048 + (1024 * (t.val % 2) + n.val), by omega⟩ rfl (by show 2048 + (1024 * (t.val % 2) + n.val) = _; omega)]
  unfold G spec
  refine congrArg₂ (fun a b : EReal => aG m c ⟨512 * (t.val / 2) + r.val, by omega⟩ ⟨1024 * (t.val % 2) + n.val, by omega⟩ * a + aG m c ⟨512 * (t.val / 2) + r.val, by omega⟩ ⟨2048 + (1024 * (t.val % 2) + n.val), by omega⟩ * b)
    (Finset.sum_congr (M := EReal) rfl fun d _ => ?_) (Finset.sum_congr (M := EReal) rfl fun d _ => ?_)
  · rw [blk0 m c t r d ⟨512 * (t.val / 2) + r.val, by omega⟩ rfl, blk2 m c t d n ⟨1024 * (t.val % 2) + n.val, by omega⟩ rfl]
    rfl
  · rw [blk1 m c t r d ⟨512 * (t.val / 2) + r.val, by omega⟩ rfl, blk3 m c t d n ⟨1024 * (t.val % 2) + n.val, by omega⟩ rfl]
    rfl

end Kernel

section Reference

open Cert.Reference4Ideal Cert.Reference4Ideal.Gen Cert.Reference4Ideal.Read

/-- The reference's result at an index. -/
theorem ref_apply (A B : FVec Ideal S16384x1024 .bf16) (U V : FVec Ideal S1024x2048 .f32) (g : FVec Ideal S16384x4096 .bf16) (R : Fin 16384) (n : Fin 2048) :
    val_main_v10 (F := Ideal) A B U V g (ix2 R n)
      = spec (fun R d => A (ix2 R d)) (fun R d => B (ix2 R d)) (fun d n => U (ix2 d n)) (fun d n => V (ix2 d n)) (fun R n => g (ix2 R n)) R n := by
  simp only [val_main_v10_apply, val_main_v9_apply, val_main_v8_apply, val_main_v7_apply, val_main_v6_apply, val_main_v5_apply, val_main_v4_apply, val_main_v3_apply, val_main_v2_apply,
    val_main_v1_apply, val_main_v0_apply]
  have g1 : idx_main_v1 (ix2 R n) = ix2 R (⟨n.val, by omega⟩ : Fin 4096) := eq_ix2 _
  have g2 : idx_main_v2 (ix2 R n) = ix2 R (⟨2048 + n.val, by omega⟩ : Fin 4096) := eq_ix2 _
  have e1 : ∀ k, lidx_main_v4 (ix2 R n) k = ix2 R k := fun k => eq_ix2 _
  have e2 : ∀ k, ridx_main_v4 (ix2 R n) k = ix2 k n := fun k => eq_ix2 _
  have e3 : ∀ k, lidx_main_v7 (ix2 R n) k = ix2 R k := fun k => eq_ix2 _
  have e4 : ∀ k, ridx_main_v7 (ix2 R n) k = ix2 k n := fun k => eq_ix2 _
  simp only [g1, g2, e1, e2, e3, e4]
  rfl

end Reference

end Cert.Merge

end
-- ==== Proof.OutProj.lean ====
/- The output projection with its residual sum: what the kernel leaves in its array and the reference's result, at an index. -/
module

public import Idealize.ShloMosaic.Lib.Pipeline.Covers
public import Idealize.ShloMosaic.Lib.Pointwise
public import Idealize.ShloMosaic.Lib.IdealHost
public import proofs.«01_k».proof.Proof.Gen.Kernel5Ideal.Value
public import proofs.«01_k».proof.Proof.Gen.Reference5Ideal.Read

@[expose] public section

set_option maxRecDepth 16384

noncomputable section

namespace Cert.OutProj

open Idealize.ShloMosaic Idealize.ShloMosaic.TcCoe Idealize.SL.Sem

/-- The stream plus the projection of the merged branches. -/
def spec (X : Fin 16384 → Fin 2048 → EReal) (W : Fin 2048 → Fin 2048 → EReal) (h : Fin 16384 → Fin 2048 → EReal) (R : Fin 16384) (n : Fin 2048) : EReal :=
  h R n + ∑ d, X R d * W d n

section Kernel

open Cert.Kernel5Ideal Cert.Kernel5Ideal.Gen

variable (m : (ℓ : Loc nD τ sig) → Buf (Elt Ideal) ℓ)

/-- The merged branches, by row and column. -/
def aX (c : Dev nD) (R : Fin 16384) (d : Fin 2048) : EReal := (m ((c : Thread nD τ).loc main_arg0) : FVec Ideal S16384x2048 .bf16) (ix2 R d)
/-- The output projection. -/
def aW (c : Dev nD) (d : Fin 2048) (n : Fin 2048) : EReal := (m ((c : Thread nD τ).loc main_arg1) : FVec Ideal S2048x2048 .f32) (ix2 d n)
/-- The stream. -/
def aH (c : Dev nD) (R : Fin 16384) (n : Fin 2048) : EReal := (m ((c : Thread nD τ).loc main_arg2) : FVec Ideal S16384x2048 .f32) (ix2 R n)

/-- The result array. -/
def G (c : Dev nD) : FVec Ideal S16384x2048 .f32 := fun y => spec (aX m c) (aW m c) (aH m c) (y 0) (y 1)

/-- The projection, cast. -/
theorem V_v0 (c : Dev nD) : V m c main_v0 = (truncf (F := Ideal) .bf16 (m ((c : Thread nD τ).loc main_arg1) : FVec Ideal S2048x2048 .f32) bitsLt_bf16_f32 : FVec Ideal S2048x2048 .bf16) := by
  unfold_abbrev_sides
  after_results

/-- The block of rows at each grid point, -/
theorem idx0 : ∀ t : Fin cfg0.N, (cfg0.win 0).index t = ![t.val / 2, 0] := by decide +kernel
/-- of columns of the projection, -/
theorem idx1 : ∀ t : Fin cfg0.N, (cfg0.win 1).index t = ![0, t.val % 2] := by decide +kernel
/-- of the stream, -/
theorem idx2 : ∀ t : Fin cfg0.N, (cfg0.win 2).index t = ![t.val / 2, t.val % 2] := by decide +kernel
/-- and of the result. -/
theorem idx3 : ∀ t : Fin cfg0.N, (cfg0.win 3).index t = ![t.val / 2, t.val % 2] := by decide +kernel

/-- A block of the rows. -/
theorem blk0 (c : Dev nD) (t : Fin cfg0.N) (r : Fin 512) (d : Fin 2048) (R : Fin 16384) (hR : R.val = 512 * (t.val / 2) + r.val) :
    iblk m c 0 t (ix2 r d) = aX m c R d := by
  unfold aX
  blk_ext [iblk, V, idx0 t]

/-- A block of the projection. -/
theorem blk1 (c : Dev nD) (t : Fin cfg0.N) (d : Fin 2048) (n : Fin 1024) (N : Fin 2048) (hN : N.val = 1024 * (t.val % 2) + n.val) :
    iblk m c 1 t (ix2 d n) = aW m c d N := by
  have e : iblk m c 1 t (ix2 d n) = (V m c main_v0 : FVec Ideal S2048x2048 .bf16) (ix2 d N) := by blk_ext [iblk, idx1 t]
  rw [e, V_v0]
  rfl

/-- A block of the stream. -/
theorem blk2 (c : Dev nD) (t : Fin cfg0.N) (r : Fin 512) (n : Fin 1024) (R : Fin 16384) (N : Fin 2048) (hR : R.val = 512 * (t.val / 2) + r.val) (hN : N.val = 1024 * (t.val % 2) + n.val) :
    iblk m c 2 t (ix2 r n) = aH m c R N := by
  unfold aH
  blk_ext [iblk, V, idx2 t]

/-- Where an element of a block of the result stands in the array. -/
theorem emb3 (t : Fin cfg0.N) (r : Fin 512) (n : Fin 1024) (R : Fin 16384) (N : Fin 2048) (hR : R.val = 512 * (t.val / 2) + r.val) (hN : N.val = 1024 * (t.val % 2) + n.val) :
    ((View.whole main_v1).slice (win0_3.rect t)).emb (ix2 r n) = ix2 R N := by
  blk_ext [idx3 t]

/-- The block's value at an index. -/
theorem pay1_apply (x : FVec Ideal S512x2048 .bf16) (w : FVec Ideal S2048x1024 .bf16) (h : FVec Ideal S512x1024 .f32) (r : Fin 512) (n : Fin 1024) :
    k0_pay1 (F := Ideal) x w h (ix2 r n) = (∑ d : Fin 2048, x (ix2 r d) * w (ix2 d n)) + h (ix2 r n) := by
  unfold k0_pay1
  pointwise

/-- The origin. -/
theorem hz : (![0, 0] : Fin 2 → Nat) = fun _ => 0 := funext fun a => by fin_cases a <;> rfl

/-- What a grid point leaves in the result's block. -/
theorem out_eq (x : FVec Ideal S512x2048 .bf16) (w : FVec Ideal S2048x1024 .bf16) (h : FVec Ideal S512x1024 .f32) : out0_3 (F := Ideal) x w h = k0_pay1 (F := Ideal) x w h := by
  unfold out0_3
  simp only [View.canon_unit_zero (S := S512x1024) hz, View.ld_unit_zero (S := S512x2048) hz, View.ld_unit_zero (S := S2048x1024) hz, View.ld_unit_zero (S := S512x1024) hz]

/-- The result array after the run. -/
theorem arr_eq (c : Dev nD) : (dats m 0 c).arrAt 3 cfg0.N = G m c := by
  refine (dats m 0 c).arrAt_eq_of_covers 3 _ (by decide +kernel) fun t hf y => ?_
  obtain ⟨r, n, rfl⟩ : ∃ (r : Fin 512) (n : Fin 1024), y = ix2 r n := ⟨y 0, y 1, eq_ix2 y⟩
  have ht : t.val < 64 := lt_of_lt_of_eq t.isLt N_0
  have hr := r.isLt
  have hn := n.isLt
  blk_simp
  rw [after0_3, out_eq, pay1_apply, emb3 t r n ⟨512 * (t.val / 2) + r.val, by omega⟩ ⟨1024 * (t.val % 2) + n.val, by omega⟩ rfl rfl,
    blk2 m c t r n ⟨512 * (t.val / 2) + r.val, by omega⟩ ⟨1024 * (t.val % 2) + n.val, by omega⟩ rfl rfl, add_comm]
  unfold G spec
  refine congrArg (aH m c ⟨512 * (t.val / 2) + r.val, by omega⟩ ⟨1024 * (t.val % 2) + n.val, by omega⟩ + ·) (Finset.sum_congr rfl fun d _ => ?_)
  rw [blk0 m c t r d ⟨512 * (t.val / 2) + r.val, by omega⟩ rfl, blk1 m c t d n ⟨1024 * (t.val % 2) + n.val, by omega⟩ rfl]
  rfl

end Kernel

section Reference

open Cert.Reference5Ideal Cert.Reference5Ideal.Gen Cert.Reference5Ideal.Read

/-- The reference's result at an index. -/
theorem ref_apply (X : FVec Ideal S16384x2048 .bf16) (W : FVec Ideal S2048x2048 .f32) (h : FVec Ideal S16384x2048 .f32) (R : Fin 16384) (n : Fin 2048) :
    val_main_v2 (F := Ideal) X W h (ix2 R n) = spec (fun R d => X (ix2 R d)) (fun d n => W (ix2 d n)) (fun R n => h (ix2 R n)) R n := by
  simp only [val_main_v2_apply, val_main_v1_apply, val_main_v0_apply]
  have e1 : ∀ k, lidx_main_v1 (ix2 R n) k = ix2 R k := fun k => eq_ix2 _
  have e2 : ∀ k, ridx_main_v1 (ix2 R n) k = ix2 k n := fun k => eq_ix2 _
  simp only [e1, e2]
  rfl

end Reference

end Cert.OutProj

end
-- ==== Proof.FoxValues.lean ====
/- The projection of the forgetting attention's values: what the kernel leaves in its array and the reference's result, at an index. -/
module

public import Idealize.ShloMosaic.Lib.Pipeline.Covers
public import Idealize.ShloMosaic.Lib.Pointwise
public import Idealize.ShloMosaic.Lib.IdealHost
public import proofs.«01_k».proof.Proof.Gen.Kernel6Ideal.Value
public import proofs.«01_k».proof.Proof.Gen.Reference6Ideal.Read

@[expose] public section

set_option maxRecDepth 16384

noncomputable section

namespace Cert.FoxValues

open Idealize.ShloMosaic Idealize.ShloMosaic.TcCoe Idealize.SL.Sem

/-- The values: their columns of the input projection. -/
def spec (X : Fin 16384 → Fin 2048 → EReal) (W : Fin 2048 → Fin 8264 → EReal) (R : Fin 16384) (n : Fin 1024) : EReal :=
  ∑ d, X R d * W d ⟨3136 + n.val, by omega⟩

section Kernel

open Cert.Kernel6Ideal Cert.Kernel6Ideal.Gen

variable (m : (ℓ : Loc nD τ sig) → Buf (Elt Ideal) ℓ)

/-- The rows, by row and column. -/
def aX (c : Dev nD) (R : Fin 16384) (d : Fin 2048) : EReal := (m ((c : Thread nD τ).loc main_arg0) : FVec Ideal S16384x2048 .bf16) (ix2 R d)
/-- The weights of the input projection. -/
def aW (c : Dev nD) (d : Fin 2048) (n : Fin 8264) : EReal := (m ((c : Thread nD τ).loc main_arg1) : FVec Ideal S2048x8264 .f32) (ix2 d n)

/-- The result array. -/
def G (c : Dev nD) : FVec Ideal S16384x1024 .bf16 := fun y => spec (aX m c) (aW m c) (y 0) (y 1)

/-- The values' columns of the weights, as the kernel receives them. -/
theorem V_v1 (c : Dev nD) (d : Fin 2048) (n : Fin 1024) :
    (V m c main_v1 : FVec Ideal S2048x1024 .bf16) (ix2 d n) = aW m c d ⟨3136 + n.val, by omega⟩ := by
  have e : V m c main_v1 = (truncf (F := Ideal) .bf16 (extractStridedSlice S2048x1024 ![0, 3136] (m ((c : Thread nD τ).loc main_arg1) : FVec Ideal S2048x8264 .f32) slices_S2048x8264_S2048x1024_0_3136 : FVec Ideal S2048x1024 .f32) bitsLt_bf16_f32 : FVec Ideal S2048x1024 .bf16) := by
    unfold_abbrev_sides
    after_results
  rw [e]
  unfold aW
  pointwise

/-- The block of rows at each grid point, -/
theorem idx0 : ∀ t : Fin cfg0.N, (cfg0.win 0).index t = ![t.val, 0] := by decide +kernel
/-- of columns, -/
theorem idx1 : ∀ t : Fin cfg0.N, (cfg0.win 1).index t = ![0, 0] := by decide +kernel
/-- and of the result. -/
theorem idx2 : ∀ t : Fin cfg0.N, (cfg0.win 2).index t = ![t.val, 0] := by decide +kernel

/-- A block of the rows. -/
theorem blk0 (c : Dev nD) (t : Fin cfg0.N) (r : Fin 512) (d : Fin 2048) (R : Fin 16384) (hR : R.val = 512 * t.val + r.val) :
    iblk m c 0 t (ix2 r d) = aX m c R d := by
  unfold aX
  blk_ext [iblk, V, idx0 t]

/-- A block of the weights. -/
theorem blk1 (c : Dev nD) (t : Fin cfg0.N) (d : Fin 2048) (n : Fin 1024) :
    iblk m c 1 t (ix2 d n) = aW m c d ⟨3136 + n.val, by omega⟩ := by
  have e : iblk m c 1 t (ix2 d n) = (V m c main_v1 : FVec Ideal S2048x1024 .bf16) (ix2 d n) := by blk_ext [iblk, idx1 t]
  rw [e, V_v1]

/-- Where an element of a block of the result stands in the array. -/
theorem emb2 (t : Fin cfg0.N) (r : Fin 512) (n : Fin 1024) (R : Fin 16384) (hR : R.val = 512 * t.val + r.val) :
    ((View.whole main_v2).slice (win0_2.rect t)).emb (ix2 r n) = ix2 R n := by
  blk_ext [idx2 t]

/-- The block's value at an index. -/
theorem pay1_apply (x : FVec Ideal S512x2048 .bf16) (w : FVec Ideal S2048x1024 .bf16) (r : Fin 512) (n : Fin 1024) :
    k0_pay1 (F := Ideal) x w (ix2 r n) = ∑ d : Fin 2048, x (ix2 r d) * w (ix2 d n) := by
  unfold k0_pay1
  pointwise

/-- The origin. -/
theorem hz : (![0, 0] : Fin 2 → Nat) = fun _ => 0 := funext fun a => by fin_cases a <;> rfl

/-- What a grid point leaves in the result's block. -/
theorem out_eq (x : FVec Ideal S512x2048 .bf16) (w : FVec Ideal S2048x1024 .bf16) : out0_2 (F := Ideal) x w = k0_pay1 (F := Ideal) x w := by
  unfold out0_2
  rw [View.canon_unit_zero (S := S512x1024) hz, View.ld_unit_zero (S := S512x2048) hz, View.ld_unit_zero (S := S2048x1024) hz]

/-- The result array after the run. -/
theorem arr_eq (c : Dev nD) : (dats m 0 c).arrAt 2 cfg0.N = G m c := by
  refine (dats m 0 c).arrAt_eq_of_covers 2 _ (by decide +kernel) fun t hf y => ?_
  obtain ⟨r, n, rfl⟩ : ∃ (r : Fin 512) (n : Fin 1024), y = ix2 r n := ⟨y 0, y 1, eq_ix2 y⟩
  have ht : t.val < 32 := lt_of_lt_of_eq t.isLt N_0
  have hr := r.isLt
  have hn := n.isLt
  blk_simp
  rw [after0_2, out_eq, pay1_apply, emb2 t r n ⟨512 * t.val + r.val, by omega⟩ rfl]
  unfold G spec
  refine Finset.sum_congr (M := EReal) rfl fun d _ => ?_
  rw [blk0 m c t r d ⟨512 * t.val + r.val, by omega⟩ rfl, blk1 m c t d n]
  rfl

end Kernel

section Reference

open Cert.Reference6Ideal Cert.Reference6Ideal.Gen Cert.Reference6Ideal.Read

/-- The reference's result at an index. -/
theorem ref_apply (X : FVec Ideal S16384x2048 .bf16) (W : FVec Ideal S2048x8264 .f32) (R : Fin 16384) (n : Fin 1024) :
    val_main_v3 (F := Ideal) X W (ix2 R n) = spec (fun R d => X (ix2 R d)) (fun d n => W (ix2 d n)) R n := by
  simp only [val_main_v3_apply, val_main_v2_apply, val_main_v1_apply, val_main_v0_apply]
  have e : idx_main_v2 (ix2 R n) = ix2 R (⟨3136 + n.val, by omega⟩ : Fin 8264) := eq_ix2 _
  have e1 : ∀ k, lidx_main_v1 (ix2 R (⟨3136 + n.val, by omega⟩ : Fin 8264)) k = ix2 R k := fun k => eq_ix2 _
  have e2 : ∀ k, ridx_main_v1 (ix2 R (⟨3136 + n.val, by omega⟩ : Fin 8264)) k = ix2 k (⟨3136 + n.val, by omega⟩ : Fin 8264) := fun k => eq_ix2 _
  simp only [e, e1, e2]
  rfl

end Reference

end Cert.FoxValues

end
-- ==== Proof.FoxTables.lean ====
/- The tables that place the decays, as the kernel receives them. -/
module

public import Idealize.ShloMosaic.Lib.Pipeline.Covers
public import Idealize.ShloMosaic.Lib.Pointwise
public import Idealize.ShloMosaic.Lib.IdealHost
public import Idealize.ShloMosaic.Lib.StableHlo.ReadAt
public import proofs.«01_k».proof.Proof.Gen.Kernel7Ideal.Value

@[expose] public section

set_option maxRecDepth 16384

noncomputable section

namespace Cert.FoxPrep

open Idealize.ShloMosaic Idealize.ShloMosaic.TcCoe Idealize.SL.Sem

/-- A bit as a number. -/
theorem bit (φ : FTy) (b : Bool) : FloatOps.uitofp (F := Ideal) φ (BitVec.ofBool b) = (if b = true then 1 else 0 : EReal) := by
  cases b <;> simp [FloatOps.uitofp]
/-- Two bits joined, as a number. -/
theorem bits (φ : FTy) (P Q : Prop) [Decidable P] [Decidable Q] :
    FloatOps.uitofp (F := Ideal) φ (IntOp.andi (BitVec.ofBool (decide P)) (BitVec.ofBool (decide Q))) = (if P ∧ Q then 1 else 0 : EReal) := by
  have e : IntOp.andi (BitVec.ofBool (decide P)) (BitVec.ofBool (decide Q)) = BitVec.ofBool (decide (P ∧ Q)) := by
    by_cases hP : P <;> by_cases hQ : Q <;> simp [hP, hQ, IntOp.andi]
  rw [e, bit]
  simp only [decide_eq_true_eq]
/-- Three and a small number, as words. -/
theorem three_add (p : Fin 3) : IntOp.addi 3#32 (BitVec.ofNat 32 p.val) = BitVec.ofNat 32 (3 + p.val) := by
  revert p
  decide +kernel

section Kernel

open Cert.Kernel7Ideal Cert.Kernel7Ideal.Gen

variable (m : (ℓ : Loc nD τ sig) → Buf (Elt Ideal) ℓ)

/-- The table of the queries. -/
theorem V_v22 (c : Dev nD) (p : Fin 3) (d : Fin 128) (n : Fin 1024) :
    (V m c main_v22 : FVec Ideal S3x128x1024 .bf16) (ix3 p d n) = (if d.val = n.val / 128 ∧ n.val % 128 = p.val then 1 else 0 : EReal) := by
  unfold V
  after_reads_at
  have hd := d.isLt
  have hn := n.isLt
  have hp := p.isLt
  rw [WordCmp.cmpi_eq_ofNat (by omega) (by omega), WordCmp.cmpi_eq_ofNat (by omega) (by omega)]
  exact bits _ _ _

/-- The table of the keys. -/
theorem V_v36 (c : Dev nD) (p : Fin 3) (d : Fin 128) (n : Fin 1024) :
    (V m c main_v36 : FVec Ideal S3x128x1024 .bf16) (ix3 p d n) = (if d.val = n.val / 128 ∧ n.val % 128 = 3 + p.val then -1 else 0 : EReal) := by
  unfold V
  after_reads_at
  have hd := d.isLt
  have hn := n.isLt
  have hp := p.isLt
  rw [three_add, WordCmp.cmpi_eq_ofNat (by omega) (by omega), WordCmp.cmpi_eq_ofNat (by omega) (by omega), bits]
  split_ifs
  · rfl
  · exact neg_zero

/-- The ones of the queries. -/
theorem V_v47 (c : Dev nD) (n : Fin 1024) :
    (V m c main_v47 : FVec Ideal S1x1024 .f32) (ix2 0 n) = (if 3 ≤ n.val % 128 ∧ n.val % 128 < 6 then 1 else 0 : EReal) := by
  unfold V
  after_reads_at
  have hn := n.isLt
  rw [WordCmp.cmpi_sge_ofNat (a := n.val % 128) (b := 3) (by omega) (by omega), WordCmp.cmpi_slt_ofNat (a := n.val % 128) (b := 6) (by omega) (by omega)]
  exact bits _ _ _

/-- The ones of the keys. -/
theorem V_v50 (c : Dev nD) (n : Fin 1024) :
    (V m c main_v50 : FVec Ideal S1x1024 .f32) (ix2 0 n) = (if n.val % 128 < 3 then 1 else 0 : EReal) := by
  unfold V
  after_reads_at
  have hn := n.isLt
  rw [WordCmp.cmpi_slt_ofNat (a := n.val % 128) (b := 3) (by omega) (by omega)]
  exact (bit _ _).trans (by simp only [decide_eq_true_eq])

end Kernel

end Cert.FoxPrep
-- ==== Proof.FoxTiles.lean ====
/- The blocks of queries and keys that a grid point stores, read at an index: per head its columns of the projection, then the decay's. -/
module

public import Idealize.ShloMosaic.Lib.Pipeline.Covers
public import Idealize.ShloMosaic.Lib.Pointwise
public import Idealize.ShloMosaic.Lib.IdealHost
public import Idealize.ShloMosaic.Lib.Pipeline.ValueKit.Tiles
public import proofs.«01_k».proof.Proof.Gen.Kernel7Ideal.Value

@[expose] public section

set_option maxRecDepth 16384

noncomputable section

namespace Cert.FoxPrep

open Idealize.ShloMosaic Idealize.ShloMosaic.TcCoe Idealize.SL.Sem

open Cert.Kernel7Ideal Cert.Kernel7Ideal.Gen

/-- Head by head a slice of the one array, then the same slice of the other. -/
def pick (v w : FVec Ideal S512x1024 .f32) (r : Fin 512) (n : Fin 2048) : EReal :=
  if h : n.val % 256 < 128 then v (ix2 r ⟨n.val / 256 * 128 + n.val % 256, by omega⟩) else w (ix2 r ⟨n.val / 256 * 128 + (n.val % 256 - 128), by omega⟩)

/-- The store of a head's columns of the projection. -/
theorem tile_even (h : Nat) (v w : FVec Ideal S512x1024 .f32) (r : Fin 512) (n : Fin 2048) (hs : S512x1024.Slices ![0, 128 * h] S512x128) (hb : FTy.bf16.bits < FTy.f32.bits) :
    View.TileAt (Val := Elt Ideal) (S := S512x2048) (e := .bf16) (ix2 r n) ![0, 256 * h] S512x128.size
      (truncf (F := Ideal) .bf16 (extractStridedSlice S512x128 ![0, 128 * h] v hs : FVec Ideal S512x128 .f32) hb : FVec Ideal S512x128 .bf16) (pick v w r n) := by
  intro x hx
  obtain ⟨r', l, rfl⟩ : ∃ (r' : Fin 512) (l : Fin 128), x = ix2 r' l := ⟨x 0, x 1, eq_ix2 x⟩
  have h0 : r.val = 0 + r'.val := hx 0
  have h1 : n.val = 256 * h + l.val := hx 1
  have hl := l.isLt
  unfold pick
  rw [dif_pos (by omega)]
  refine congrArg v ((eq_ix2 _).trans ?_)
  congr 1 <;> refine Fin.ext ?_
  · show 0 + r'.val = r.val
    omega
  · show 128 * h + l.val = n.val / 256 * 128 + n.val % 256
    omega

/-- The store of a head's columns of the decay. -/
theorem tile_odd (h : Nat) (v w : FVec Ideal S512x1024 .f32) (r : Fin 512) (n : Fin 2048) (hs : S512x1024.Slices ![0, 128 * h] S512x128) (hb : FTy.bf16.bits < FTy.f32.bits) :
    View.TileAt (Val := Elt Ideal) (S := S512x2048) (e := .bf16) (ix2 r n) ![0, 256 * h + 128] S512x128.size
      (truncf (F := Ideal) .bf16 (extractStridedSlice S512x128 ![0, 128 * h] w hs : FVec Ideal S512x128 .f32) hb : FVec Ideal S512x128 .bf16) (pick v w r n) := by
  intro x hx
  obtain ⟨r', l, rfl⟩ : ∃ (r' : Fin 512) (l : Fin 128), x = ix2 r' l := ⟨x 0, x 1, eq_ix2 x⟩
  have h0 : r.val = 0 + r'.val := hx 0
  have h1 : n.val = 256 * h + 128 + l.val := hx 1
  have hl := l.isLt
  unfold pick
  rw [dif_neg (by omega)]
  refine congrArg w ((eq_ix2 _).trans ?_)
  congr 1 <;> refine Fin.ext ?_
  · show 0 + r'.val = r.val
    omega
  · show 128 * h + l.val = n.val / 256 * 128 + (n.val % 256 - 128)
    omega

/-- The block of queries at an index. -/
theorem out8_apply (x0 : FVec Ideal S512x2048 .bf16) (x1 : FVec Ideal S512x128 .f32) (x2 : FVec Ideal S2048x1024 .bf16) (x3 : FVec Ideal S2048x1024 .bf16) (x4 : FVec Ideal S3x128x1024 .bf16) (x5 : FVec Ideal S3x128x1024 .bf16) (x6 : FVec Ideal S1x1024 .f32) (x7 : FVec Ideal S1x1024 .f32) (r : Fin 512) (n : Fin 2048) :
    out0_8 (F := Ideal) x0 x1 x2 x3 x4 x5 x6 x7 (ix2 r n) = pick (k0_pay44 (F := Ideal) x0 x1 x2 x3 x4 x5 x6 x7) (k0_pay51 (F := Ideal) x0 x1 x2 x3 x4 x5 x6 x7) r n := by
  unfold out0_8
  refine View.canon_eq_of_allAt _ _ _ (cover0_8 _ _ _ _ _ _ _ _ _ _ _ _ _ _ _ _ (ix2 r n)) ?_
  refine View.allAt_cons_unit _ _ _ _ _ (tile_odd 7 _ _ r n _ _) ?_
  refine View.allAt_cons_unit _ _ _ _ _ (tile_even 7 _ _ r n _ _) ?_
  refine View.allAt_cons_unit _ _ _ _ _ (tile_odd 6 _ _ r n _ _) ?_
  refine View.allAt_cons_unit _ _ _ _ _ (tile_even 6 _ _ r n _ _) ?_
  refine View.allAt_cons_unit _ _ _ _ _ (tile_odd 5 _ _ r n _ _) ?_
  refine View.allAt_cons_unit _ _ _ _ _ (tile_even 5 _ _ r n _ _) ?_
  refine View.allAt_cons_unit _ _ _ _ _ (tile_odd 4 _ _ r n _ _) ?_
  refine View.allAt_cons_unit _ _ _ _ _ (tile_even 4 _ _ r n _ _) ?_
  refine View.allAt_cons_unit _ _ _ _ _ (tile_odd 3 _ _ r n _ _) ?_
  refine View.allAt_cons_unit _ _ _ _ _ (tile_even 3 _ _ r n _ _) ?_
  refine View.allAt_cons_unit _ _ _ _ _ (tile_odd 2 _ _ r n _ _) ?_
  refine View.allAt_cons_unit _ _ _ _ _ (tile_even 2 _ _ r n _ _) ?_
  refine View.allAt_cons_unit _ _ _ _ _ (tile_odd 1 _ _ r n _ _) ?_
  refine View.allAt_cons_unit _ _ _ _ _ (tile_even 1 _ _ r n _ _) ?_
  refine View.allAt_cons_unit _ _ _ _ _ (tile_odd 0 _ _ r n _ _) ?_
  refine View.allAt_cons_unit _ _ _ _ _ (tile_even 0 _ _ r n _ _) ?_
  exact View.allAt_nil _ _

/-- The block of keys at an index. -/
theorem out9_apply (x0 : FVec Ideal S512x2048 .bf16) (x1 : FVec Ideal S512x128 .f32) (x2 : FVec Ideal S2048x1024 .bf16) (x3 : FVec Ideal S2048x1024 .bf16) (x4 : FVec Ideal S3x128x1024 .bf16) (x5 : FVec Ideal S3x128x1024 .bf16) (x6 : FVec Ideal S1x1024 .f32) (x7 : FVec Ideal S1x1024 .f32) (r : Fin 512) (n : Fin 2048) :
    out0_9 (F := Ideal) x0 x1 x2 x3 x4 x5 x6 x7 (ix2 r n) = pick (k0_pay45 (F := Ideal) x0 x1 x2 x3 x4 x5 x6 x7) (k0_pay52 (F := Ideal) x0 x1 x2 x3 x4 x5 x6 x7) r n := by
  unfold out0_9
  refine View.canon_eq_of_allAt _ _ _ (cover0_9 _ _ _ _ _ _ _ _ _ _ _ _ _ _ _ _ (ix2 r n)) ?_
  refine View.allAt_cons_unit _ _ _ _ _ (tile_odd 7 _ _ r n _ _) ?_
  refine View.allAt_cons_unit _ _ _ _ _ (tile_even 7 _ _ r n _ _) ?_
  refine View.allAt_cons_unit _ _ _ _ _ (tile_odd 6 _ _ r n _ _) ?_
  refine View.allAt_cons_unit _ _ _ _ _ (tile_even 6 _ _ r n _ _) ?_
  refine View.allAt_cons_unit _ _ _ _ _ (tile_odd 5 _ _ r n _ _) ?_
  refine View.allAt_cons_unit _ _ _ _ _ (tile_even 5 _ _ r n _ _) ?_
  refine View.allAt_cons_unit _ _ _ _ _ (tile_odd 4 _ _ r n _ _) ?_
  refine View.allAt_cons_unit _ _ _ _ _ (tile_even 4 _ _ r n _ _) ?_
  refine View.allAt_cons_unit _ _ _ _ _ (tile_odd 3 _ _ r n _ _) ?_
  refine View.allAt_cons_unit _ _ _ _ _ (tile_even 3 _ _ r n _ _) ?_
  refine View.allAt_cons_unit _ _ _ _ _ (tile_odd 2 _ _ r n _ _) ?_
  refine View.allAt_cons_unit _ _ _ _ _ (tile_even 2 _ _ r n _ _) ?_
  refine View.allAt_cons_unit _ _ _ _ _ (tile_odd 1 _ _ r n _ _) ?_
  refine View.allAt_cons_unit _ _ _ _ _ (tile_even 1 _ _ r n _ _) ?_
  refine View.allAt_cons_unit _ _ _ _ _ (tile_odd 0 _ _ r n _ _) ?_
  refine View.allAt_cons_unit _ _ _ _ _ (tile_even 0 _ _ r n _ _) ?_
  exact View.allAt_nil _ _

end Cert.FoxPrep

end
-- ==== Proof.FoxRef.lean ====
/- The reference's queries and keys of the forgetting attention, at an index. -/
module

public import Idealize.ShloMosaic.Lib.Pointwise
public import Idealize.ShloMosaic.Lib.IdealHost
public import proofs.«01_k».proof.Proof.Gen.Reference7Ideal.Read

@[expose] public section

set_option maxRecDepth 16384

noncomputable section

namespace Cert.FoxPrep

open Idealize.ShloMosaic Idealize.ShloMosaic.TcCoe Idealize.SL.Sem

/-- The scale of the queries: log2(e) over the root of the width. -/
def scale : EReal := FloatOps.ofBits (F := Ideal) .f32 0x3E0293EE#32

/-- The columns of a query that take part in the decay. -/
def decayQ (c : EReal) (l : Nat) : EReal := if l = 0 then c else if 3 ≤ l ∧ l < 6 then 1 else 0
/-- The columns of a key that take part in the decay. -/
def decayK (c : EReal) (l : Nat) : EReal := if l < 3 then 1 else if l = 3 then -c else 0

/-- The queries: per head its columns of the input projection, scaled, then the decay's. -/
def specQ (X : Fin 16384 → Fin 2048 → EReal) (W : Fin 2048 → Fin 8264 → EReal) (C : Fin 16384 → Fin 128 → EReal) (R : Fin 16384) (n : Fin 2048) : EReal :=
  if h : n.val % 256 < 128 then (∑ d, X R d * W d ⟨1088 + (n.val / 256 * 128 + n.val % 256), by omega⟩) * scale
  else decayQ (C R ⟨n.val / 256, by omega⟩) (n.val % 256 - 128)
/-- The keys: per head its columns of the input projection, then the decay's. -/
def specK (X : Fin 16384 → Fin 2048 → EReal) (W : Fin 2048 → Fin 8264 → EReal) (C : Fin 16384 → Fin 128 → EReal) (R : Fin 16384) (n : Fin 2048) : EReal :=
  if h : n.val % 256 < 128 then ∑ d, X R d * W d ⟨2112 + (n.val / 256 * 128 + n.val % 256), by omega⟩
  else decayK (C R ⟨n.val / 256, by omega⟩) (n.val % 256 - 128)

section Reference

open Cert.Reference7Ideal Cert.Reference7Ideal.Gen Cert.Reference7Ideal.Read

/-- The input projection at an index. -/
theorem proj_apply (X : FVec Ideal S16384x2048 .bf16) (W : FVec Ideal S2048x8264 .f32) (R : Fin 16384) (N : Fin 8264) :
    val_main_v1 (F := Ideal) X W (ix2 R N) = ∑ d, X (ix2 R d) * W (ix2 d N) := by
  simp only [val_main_v1_apply, val_main_v0_apply]
  have e1 : ∀ k, lidx_main_v1 (ix2 R N) k = ix2 R k := fun k => eq_ix2 _
  have e2 : ∀ k, ridx_main_v1 (ix2 R N) k = ix2 k N := fun k => eq_ix2 _
  simp only [e1, e2]
  rfl

/-- The reference's queries, by head and column. -/
theorem q_head (X : FVec Ideal S16384x2048 .bf16) (C : FVec Ideal S16384x128 .f32) (W : FVec Ideal S2048x8264 .f32) (R : Fin 16384) (h : Fin 8) (l : Fin 256) :
    val_main_v14 (F := Ideal) X C W (ix3 R h l) = specQ (fun R d => X (ix2 R d)) (fun d n => W (ix2 d n)) (fun R d => C (ix2 R d)) R ⟨256 * h.val + l.val, by omega⟩ := by
  unfold val_main_v14 val_main_v13 val_main_v12 val_main_v11 val_main_v10 val_main_v9 val_main_v8 val_main_v5 val_main_v4 val_main_v3 val_main_v2 val_main_cst_1 val_main_cst_0 val_main_cst
  generalize hP : val_main_v1 (F := Ideal) X W = P
  pointwise
  subst hP
  have hl := l.isLt
  have e1 : (256 * h.val + l.val) % 256 = l.val := by omega
  have e2 : (256 * h.val + l.val) / 256 = h.val := by omega
  unfold specQ decayQ scale
  simp only [e1, e2]
  by_cases h0 : l.val < 128
  · rw [dif_pos h0, dif_pos h0, proj_apply]
    rfl
  · rw [dif_neg h0, dif_neg h0]
    split_ifs <;> first | with_reducible rfl | omega

/-- The reference's keys, by head and column. -/
theorem k_head (X : FVec Ideal S16384x2048 .bf16) (C : FVec Ideal S16384x128 .f32) (W : FVec Ideal S2048x8264 .f32) (R : Fin 16384) (h : Fin 8) (l : Fin 256) :
    val_main_v17 (F := Ideal) X C W (ix3 R h l) = specK (fun R d => X (ix2 R d)) (fun d n => W (ix2 d n)) (fun R d => C (ix2 R d)) R ⟨256 * h.val + l.val, by omega⟩ := by
  unfold val_main_v17 val_main_v16 val_main_v15 val_main_v11 val_main_v10 val_main_v9 val_main_v8 val_main_v7 val_main_v6 val_main_cst_1 val_main_cst_0
  generalize hP : val_main_v1 (F := Ideal) X W = P
  pointwise
  subst hP
  have hl := l.isLt
  have e1 : (256 * h.val + l.val) % 256 = l.val := by omega
  have e2 : (256 * h.val + l.val) / 256 = h.val := by omega
  unfold specK decayK
  simp only [e1, e2]
  by_cases h0 : l.val < 128
  · rw [dif_pos h0, dif_pos h0, proj_apply]
  · rw [dif_neg h0, dif_neg h0]
    split_ifs <;> first | with_reducible rfl | omega

/-- The reference's queries at an index. -/
theorem ref_q (X : FVec Ideal S16384x2048 .bf16) (C : FVec Ideal S16384x128 .f32) (W : FVec Ideal S2048x8264 .f32) (R : Fin 16384) (n : Fin 2048) :
    val_main_v19 (F := Ideal) X C W (ix2 R n) = specQ (fun R d => X (ix2 R d)) (fun d n => W (ix2 d n)) (fun R d => C (ix2 R d)) R n := by
  simp only [val_main_v19_apply, val_main_v18_apply]
  have e : idx_main_v18 (ix2 R n) = ix3 R (⟨n.val / 256, by omega⟩ : Fin 8) (⟨n.val % 256, by omega⟩ : Fin 256) := by
    have hR := R.isLt
    have hn := n.isLt
    rw [eq_ix3 (idx_main_v18 (ix2 R n))]
    congr 1 <;> refine Fin.ext ?_
    · show (R.val * 2048 + n.val) / 2048 = R.val
      omega
    · show (R.val * 2048 + n.val) / 256 % 8 = n.val / 256
      omega
    · show (R.val * 2048 + n.val) % 256 = n.val % 256
      omega
  rw [e, q_head]
  have hn : (⟨256 * (n.val / 256) + n.val % 256, by omega⟩ : Fin 2048) = n := Fin.ext (by show 256 * (n.val / 256) + n.val % 256 = n.val; omega)
  exact congrArg (specQ (fun R d => X (ix2 R d)) (fun d n => W (ix2 d n)) (fun R d => C (ix2 R d)) R) hn

/-- The reference's keys at an index. -/
theorem ref_k (X : FVec Ideal S16384x2048 .bf16) (C : FVec Ideal S16384x128 .f32) (W : FVec Ideal S2048x8264 .f32) (R : Fin 16384) (n : Fin 2048) :
    val_main_v21 (F := Ideal) X C W (ix2 R n) = specK (fun R d => X (ix2 R d)) (fun d n => W (ix2 d n)) (fun R d => C (ix2 R d)) R n := by
  simp only [val_main_v21_apply, val_main_v20_apply]
  have e : idx_main_v20 (ix2 R n) = ix3 R (⟨n.val / 256, by omega⟩ : Fin 8) (⟨n.val % 256, by omega⟩ : Fin 256) := by
    have hR := R.isLt
    have hn := n.isLt
    rw [eq_ix3 (idx_main_v20 (ix2 R n))]
    congr 1 <;> refine Fin.ext ?_
    · show (R.val * 2048 + n.val) / 2048 = R.val
      omega
    · show (R.val * 2048 + n.val) / 256 % 8 = n.val / 256
      omega
    · show (R.val * 2048 + n.val) % 256 = n.val % 256
      omega
  rw [e, k_head]
  have hn : (⟨256 * (n.val / 256) + n.val % 256, by omega⟩ : Fin 2048) = n := Fin.ext (by show 256 * (n.val / 256) + n.val % 256 = n.val; omega)
  exact congrArg (specK (fun R d => X (ix2 R d)) (fun d n => W (ix2 d n)) (fun R d => C (ix2 R d)) R) hn

end Reference

end Cert.FoxPrep
-- ==== Proof.FoxPrep.lean ====
/- The forgetting attention's queries and keys: what the kernel leaves in its two arrays. -/
module

public import Idealize.ShloMosaic.Lib.Pipeline.Covers
public import Idealize.ShloMosaic.Lib.Pointwise
public import Idealize.ShloMosaic.Lib.IdealHost
public import proofs.«01_k».proof.Proof.FoxTables
public import proofs.«01_k».proof.Proof.FoxTiles
public import proofs.«01_k».proof.Proof.FoxRef

@[expose] public section

set_option maxRecDepth 16384

noncomputable section

namespace Cert.FoxPrep

open Idealize.ShloMosaic Idealize.ShloMosaic.TcCoe Idealize.SL.Sem

open Cert.Kernel7Ideal Cert.Kernel7Ideal.Gen

/-- A product with a table picks one head's decay, on one of the columns. -/
theorem sum_pick (a : Fin 128 → EReal) (s : EReal) (h l p : Nat) (hh : h < 128) :
    ∑ d : Fin 128, a d * (if d.val = h ∧ l = p then s else 0) = if l = p then a ⟨h, hh⟩ * s else 0 := by
  by_cases hl : l = p
  · rw [if_pos hl, Finset.sum_eq_single (⟨h, hh⟩ : Fin 128)]
    · rw [if_pos ⟨rfl, hl⟩]
    · intro d _ hd
      rw [if_neg fun hc => hd (Fin.ext hc.1), mul_zero]
    · exact fun hn => absurd (Finset.mem_univ _) hn
  · rw [if_neg hl]
    exact Finset.sum_eq_zero fun d _ => by rw [if_neg fun hc => hl hc.2, mul_zero]

/-- A real number less itself is zero. -/
theorem sub_self_real (x : EReal) (h : ∃ r : ℝ, x = r) : x - x = 0 := by
  obtain ⟨r, rfl⟩ := h
  rw [← EReal.coe_sub, sub_self, EReal.coe_zero]

/-- The scaled projection of the block of queries. -/
theorem pay7_apply (x : FVec Ideal S512x2048 .bf16) (w : FVec Ideal S2048x1024 .bf16) (r : Fin 512) (n : Fin 1024) :
    k0_pay7 (F := Ideal) x w (ix2 r n) = (∑ d : Fin 2048, x (ix2 r d) * w (ix2 d n)) * scale := by
  unfold k0_pay7
  pointwise
  rfl

/-- The projection of the block of keys. -/
theorem pay8_apply (x : FVec Ideal S512x2048 .bf16) (w : FVec Ideal S2048x1024 .bf16) (r : Fin 512) (n : Fin 1024) :
    k0_pay8 (F := Ideal) x w (ix2 r n) = ∑ d : Fin 2048, x (ix2 r d) * w (ix2 d n) := by
  unfold k0_pay8
  pointwise

/-- The decay's columns of the block of queries. -/
theorem pay16_apply (c : FVec Ideal S512x128 .f32) (o : FVec Ideal S1x1024 .f32) (p0 p1 p2 : FVec Ideal S1x128x1024 .bf16) (r : Fin 512) (n : Fin 1024) :
    k0_pay16 (F := Ideal) (k0_pay11 c) (k0_pay12 c) (k0_pay13 o c p0) (k0_pay15 p1) p2 (ix2 r n)
      = (o (ix2 0 n) + ∑ d : Fin 128, c (ix2 r d) * p0 (ix3 0 d n)) + (∑ d : Fin 128, (c (ix2 r d) - c (ix2 r d)) * p1 (ix3 0 d n))
        + ∑ d : Fin 128, (c (ix2 r d) - c (ix2 r d) - (c (ix2 r d) - c (ix2 r d))) * p2 (ix3 0 d n) := by
  unfold k0_pay16 k0_pay13 k0_pay12 k0_pay11 k0_pay10 k0_pay9 k0_pay15
  pointwise

/-- The decay's columns of the block of keys. -/
theorem pay17_apply (c : FVec Ideal S512x128 .f32) (o : FVec Ideal S1x1024 .f32) (p0 p1 p2 : FVec Ideal S1x128x1024 .bf16) (r : Fin 512) (n : Fin 1024) :
    k0_pay17 (F := Ideal) (k0_pay11 c) (k0_pay12 c) (k0_pay14 o c p0) p1 p2 (ix2 r n)
      = (o (ix2 0 n) + ∑ d : Fin 128, c (ix2 r d) * p0 (ix3 0 d n)) + (∑ d : Fin 128, (c (ix2 r d) - c (ix2 r d)) * p1 (ix3 0 d n))
        + ∑ d : Fin 128, (c (ix2 r d) - c (ix2 r d) - (c (ix2 r d) - c (ix2 r d))) * p2 (ix3 0 d n) := by
  unfold k0_pay17 k0_pay14 k0_pay12 k0_pay11 k0_pay10 k0_pay9
  pointwise

/-- The parts of a decay that are left after the first add nothing, where the decay is real or the tables are zero. -/
theorem rest_zero (a p q : Fin 128 → EReal) (h : ∀ d, (∃ r : ℝ, a d = r) ∨ (p d = 0 ∧ q d = 0)) (z : EReal) :
    z + (∑ d : Fin 128, (a d - a d) * p d) + ∑ d : Fin 128, (a d - a d - (a d - a d)) * q d = z := by
  have h1 : ∑ d : Fin 128, (a d - a d) * p d = 0 := Finset.sum_eq_zero fun d _ => by
    rcases h d with hr | hr
    · rw [sub_self_real _ hr, zero_mul]
    · rw [hr.1, mul_zero]
  have h2 : ∑ d : Fin 128, (a d - a d - (a d - a d)) * q d = 0 := Finset.sum_eq_zero fun d _ => by
    rcases h d with hr | hr
    · rw [sub_self_real _ hr, sub_zero, zero_mul]
    · rw [hr.2, mul_zero]
  rw [h1, h2, add_zero, add_zero]

/-- The ones and the picked decay, for the queries, -/
theorem decay_q (a : EReal) (l : Nat) :
    (if 3 ≤ l ∧ l < 6 then 1 else 0 : EReal) + (if l = 0 then a * 1 else 0) = decayQ a l := by
  unfold decayQ
  by_cases h : l = 0
  · rw [if_neg (by omega), if_pos h, if_pos h, zero_add, mul_one]
  · rw [if_neg h, if_neg h, add_zero]
/-- and for the keys. -/
theorem decay_k (a : EReal) (l : Nat) :
    (if l < 3 then 1 else 0 : EReal) + (if l = 3 then a * -1 else 0) = decayK a l := by
  unfold decayK
  by_cases h : l = 3
  · rw [if_neg (by omega), if_pos h, if_neg (by omega), if_pos h, zero_add, mul_neg, mul_one]
  · rw [if_neg h, if_neg h, add_zero]

variable (m : (ℓ : Loc nD τ sig) → Buf (Elt Ideal) ℓ)

/-- The rows, by row and column. -/
def aX (c : Dev nD) (R : Fin 16384) (d : Fin 2048) : EReal := (m ((c : Thread nD τ).loc main_arg0) : FVec Ideal S16384x2048 .bf16) (ix2 R d)
/-- The decays, by row and head. -/
def aC (c : Dev nD) (R : Fin 16384) (d : Fin 128) : EReal := (m ((c : Thread nD τ).loc main_arg1) : FVec Ideal S16384x128 .f32) (ix2 R d)
/-- The weights of the input projection. -/
def aW (c : Dev nD) (d : Fin 2048) (n : Fin 8264) : EReal := (m ((c : Thread nD τ).loc main_arg2) : FVec Ideal S2048x8264 .f32) (ix2 d n)

/-- The array of queries, -/
def GQ (c : Dev nD) : FVec Ideal S16384x2048 .bf16 := fun y => specQ (aX m c) (aW m c) (aC m c) (y 0) (y 1)
/-- and of keys. -/
def GK (c : Dev nD) : FVec Ideal S16384x2048 .bf16 := fun y => specK (aX m c) (aW m c) (aC m c) (y 0) (y 1)

/-- The queries' columns of the weights, as the kernel receives them, -/
theorem V_v1 (c : Dev nD) (d : Fin 2048) (n : Fin 1024) :
    (V m c main_v1 : FVec Ideal S2048x1024 .bf16) (ix2 d n) = aW m c d ⟨1088 + n.val, by omega⟩ := by
  unfold V aW
  after_reads_at
/-- and the keys'. -/
theorem V_v3 (c : Dev nD) (d : Fin 2048) (n : Fin 1024) :
    (V m c main_v3 : FVec Ideal S2048x1024 .bf16) (ix2 d n) = aW m c d ⟨2112 + n.val, by omega⟩ := by
  unfold V aW
  after_reads_at

/-- Where the block of window 0 stands at each grid point. -/
theorem idx0 : ∀ t : Fin cfg0.N, (cfg0.win 0).index t = ![t.val, 0] := by decide +kernel
/-- Where the block of window 1 stands at each grid point. -/
theorem idx1 : ∀ t : Fin cfg0.N, (cfg0.win 1).index t = ![t.val, 0] := by decide +kernel
/-- Where the block of window 2 stands at each grid point. -/
theorem idx2 : ∀ t : Fin cfg0.N, (cfg0.win 2).index t = ![0, 0] := by decide +kernel
/-- Where the block of window 3 stands at each grid point. -/
theorem idx3 : ∀ t : Fin cfg0.N, (cfg0.win 3).index t = ![0, 0] := by decide +kernel
/-- Where the block of window 4 stands at each grid point. -/
theorem idx4 : ∀ t : Fin cfg0.N, (cfg0.win 4).index t = ![0, 0, 0] := by decide +kernel
/-- Where the block of window 5 stands at each grid point. -/
theorem idx5 : ∀ t : Fin cfg0.N, (cfg0.win 5).index t = ![0, 0, 0] := by decide +kernel
/-- Where the block of window 6 stands at each grid point. -/
theorem idx6 : ∀ t : Fin cfg0.N, (cfg0.win 6).index t = ![0, 0] := by decide +kernel
/-- Where the block of window 7 stands at each grid point. -/
theorem idx7 : ∀ t : Fin cfg0.N, (cfg0.win 7).index t = ![0, 0] := by decide +kernel
/-- Where the block of window 8 stands at each grid point. -/
theorem idx8 : ∀ t : Fin cfg0.N, (cfg0.win 8).index t = ![t.val, 0] := by decide +kernel
/-- Where the block of window 9 stands at each grid point. -/
theorem idx9 : ∀ t : Fin cfg0.N, (cfg0.win 9).index t = ![t.val, 0] := by decide +kernel

/-- A block of the rows. -/
theorem blk0 (c : Dev nD) (t : Fin cfg0.N) (r : Fin 512) (d : Fin 2048) (R : Fin 16384) (hR : R.val = 512 * t.val + r.val) :
    iblk m c 0 t (ix2 r d) = aX m c R d := by
  unfold aX
  blk_ext [iblk, V, idx0 t]

/-- A block of the decays. -/
theorem blk1 (c : Dev nD) (t : Fin cfg0.N) (r : Fin 512) (d : Fin 128) (R : Fin 16384) (hR : R.val = 512 * t.val + r.val) :
    iblk m c 1 t (ix2 r d) = aC m c R d := by
  unfold aC
  blk_ext [iblk, V, idx1 t]

/-- The block of the queries' weights. -/
theorem blk2 (c : Dev nD) (t : Fin cfg0.N) (d : Fin 2048) (n : Fin 1024) :
    iblk m c 2 t (ix2 d n) = aW m c d ⟨1088 + n.val, by omega⟩ := by
  have e : iblk m c 2 t (ix2 d n) = (V m c main_v1 : FVec Ideal S2048x1024 .bf16) (ix2 d n) := by blk_ext [iblk, idx2 t]
  rw [e, V_v1]

/-- The block of the keys' weights. -/
theorem blk3 (c : Dev nD) (t : Fin cfg0.N) (d : Fin 2048) (n : Fin 1024) :
    iblk m c 3 t (ix2 d n) = aW m c d ⟨2112 + n.val, by omega⟩ := by
  have e : iblk m c 3 t (ix2 d n) = (V m c main_v3 : FVec Ideal S2048x1024 .bf16) (ix2 d n) := by blk_ext [iblk, idx3 t]
  rw [e, V_v3]

/-- The block of the queries' table. -/
theorem blk4 (c : Dev nD) (t : Fin cfg0.N) (p : Fin 3) (d : Fin 128) (n : Fin 1024) :
    iblk m c 4 t (ix3 p d n) = (if d.val = n.val / 128 ∧ n.val % 128 = p.val then 1 else 0 : EReal) := by
  have e : iblk m c 4 t (ix3 p d n) = (V m c main_v22 : FVec Ideal S3x128x1024 .bf16) (ix3 p d n) := by blk_ext [iblk, idx4 t]
  rw [e, V_v22]

/-- The block of the keys' table. -/
theorem blk5 (c : Dev nD) (t : Fin cfg0.N) (p : Fin 3) (d : Fin 128) (n : Fin 1024) :
    iblk m c 5 t (ix3 p d n) = (if d.val = n.val / 128 ∧ n.val % 128 = 3 + p.val then -1 else 0 : EReal) := by
  have e : iblk m c 5 t (ix3 p d n) = (V m c main_v36 : FVec Ideal S3x128x1024 .bf16) (ix3 p d n) := by blk_ext [iblk, idx5 t]
  rw [e, V_v36]

/-- The block of the queries' ones. -/
theorem blk6 (c : Dev nD) (t : Fin cfg0.N) (n : Fin 1024) :
    iblk m c 6 t (ix2 0 n) = (if 3 ≤ n.val % 128 ∧ n.val % 128 < 6 then 1 else 0 : EReal) := by
  have e : iblk m c 6 t (ix2 0 n) = (V m c main_v47 : FVec Ideal S1x1024 .f32) (ix2 0 n) := by blk_ext [iblk, idx6 t]
  rw [e, V_v47]

/-- The block of the keys' ones. -/
theorem blk7 (c : Dev nD) (t : Fin cfg0.N) (n : Fin 1024) :
    iblk m c 7 t (ix2 0 n) = (if n.val % 128 < 3 then 1 else 0 : EReal) := by
  have e : iblk m c 7 t (ix2 0 n) = (V m c main_v50 : FVec Ideal S1x1024 .f32) (ix2 0 n) := by blk_ext [iblk, idx7 t]
  rw [e, V_v50]

/-- Where an element of a block of the queries stands in its array, -/
theorem emb8 (t : Fin cfg0.N) (r : Fin 512) (n : Fin 2048) (R : Fin 16384) (hR : R.val = 512 * t.val + r.val) :
    ((View.whole main_v51_0).slice (win0_8.rect t)).emb (ix2 r n) = ix2 R n := by
  blk_ext [idx8 t]
/-- and of the keys. -/
theorem emb9 (t : Fin cfg0.N) (r : Fin 512) (n : Fin 2048) (R : Fin 16384) (hR : R.val = 512 * t.val + r.val) :
    ((View.whole main_v51_1).slice (win0_9.rect t)).emb (ix2 r n) = ix2 R n := by
  blk_ext [idx9 t]

/-- The origin. -/
theorem hz : (![0, 0] : Fin 2 → Nat) = fun _ => 0 := funext fun a => by fin_cases a <;> rfl

/-- A table's first plane, as it is loaded. -/
theorem plane0 (x : FVec Ideal S3x128x1024 .bf16) (d : Fin 128) (n : Fin 1024) :
    View.ld (Val := Elt Ideal) (e' := .bf16) x r0_4 (ix3 0 d n) = x (ix3 0 d n) := by
  refine congrArg x (funext fun a => Fin.ext ?_)
  fin_cases a
  · rfl
  · show 0 + 1 * d.val = d.val
    omega
  · show 0 + 1 * n.val = n.val
    omega

/-- A table's second plane, as it is loaded. -/
theorem plane1 (x : FVec Ideal S3x128x1024 .bf16) (d : Fin 128) (n : Fin 1024) :
    View.ld (Val := Elt Ideal) (e' := .bf16) x r0_5 (ix3 0 d n) = x (ix3 1 d n) := by
  refine congrArg x (funext fun a => Fin.ext ?_)
  fin_cases a
  · rfl
  · show 0 + 1 * d.val = d.val
    omega
  · show 0 + 1 * n.val = n.val
    omega

/-- A table's third plane, as it is loaded. -/
theorem plane2 (x : FVec Ideal S3x128x1024 .bf16) (d : Fin 128) (n : Fin 1024) :
    View.ld (Val := Elt Ideal) (e' := .bf16) x r0_6 (ix3 0 d n) = x (ix3 2 d n) := by
  refine congrArg x (funext fun a => Fin.ext ?_)
  fin_cases a
  · rfl
  · show 0 + 1 * d.val = d.val
    omega
  · show 0 + 1 * n.val = n.val
    omega

/-- The decay's columns of a block of queries, where the decays are real. -/
theorem decayQ_apply (x0 : FVec Ideal S512x2048 .bf16) (x1 : FVec Ideal S512x128 .f32) (x2 : FVec Ideal S2048x1024 .bf16) (x3 : FVec Ideal S2048x1024 .bf16) (x4 : FVec Ideal S3x128x1024 .bf16) (x5 : FVec Ideal S3x128x1024 .bf16) (x6 : FVec Ideal S1x1024 .f32) (x7 : FVec Ideal S1x1024 .f32) (r : Fin 512) (n : Fin 1024) (a : Fin 128 → EReal) (hx : ∀ d, x1 (ix2 r d) = a d) (ha : ∀ d, d.val < 8 → ∃ z : ℝ, a d = z)
    (ht : ∀ (p : Fin 3) (d : Fin 128), x4 (ix3 p d n) = (if d.val = n.val / 128 ∧ n.val % 128 = p.val then 1 else 0 : EReal))
    (ho : x6 (ix2 0 n) = (if 3 ≤ n.val % 128 ∧ n.val % 128 < 6 then 1 else 0 : EReal)) :
    k0_pay51 (F := Ideal) x0 x1 x2 x3 x4 x5 x6 x7 (ix2 r n) = decayQ (a ⟨n.val / 128, by omega⟩) (n.val % 128) := by
  unfold k0_pay51 k0_pay50 k0_pay48 k0_pay47 k0_pay46
  rw [View.ld_unit_zero (S := S512x128) hz, View.ld_unit_zero (S := S1x1024) hz]
  refine (pay16_apply x1 x6 _ _ _ r n).trans ?_
  simp only [hx]
  have hl : ∀ d : Fin 128, (∃ z : ℝ, a d = z) ∨ (View.ld (Val := Elt Ideal) (e' := .bf16) x4 r0_5 (ix3 0 d n) = (0 : EReal) ∧ View.ld (Val := Elt Ideal) (e' := .bf16) x4 r0_6 (ix3 0 d n) = (0 : EReal)) := by
    intro d
    by_cases hd : d.val = n.val / 128
    · exact Or.inl (ha d (by omega))
    · refine Or.inr ⟨?_, ?_⟩
      · rw [plane1, ht, if_neg fun hc => hd hc.1]
      · rw [plane2, ht, if_neg fun hc => hd hc.1]
  refine (rest_zero a _ _ hl _).trans ?_
  rw [ho]
  refine Eq.trans ?_ (decay_q (a ⟨n.val / 128, by omega⟩) (n.val % 128))
  refine congrArg _ (Eq.trans (Finset.sum_congr (M := EReal) rfl fun d _ => ?_) (sum_pick a 1 (n.val / 128) (n.val % 128) 0 (by omega)))
  rw [plane0, ht]
  rfl

/-- The decay's columns of a block of keys, where the decays are real. -/
theorem decayK_apply (x0 : FVec Ideal S512x2048 .bf16) (x1 : FVec Ideal S512x128 .f32) (x2 : FVec Ideal S2048x1024 .bf16) (x3 : FVec Ideal S2048x1024 .bf16) (x4 : FVec Ideal S3x128x1024 .bf16) (x5 : FVec Ideal S3x128x1024 .bf16) (x6 : FVec Ideal S1x1024 .f32) (x7 : FVec Ideal S1x1024 .f32) (r : Fin 512) (n : Fin 1024) (a : Fin 128 → EReal) (hx : ∀ d, x1 (ix2 r d) = a d) (ha : ∀ d, d.val < 8 → ∃ z : ℝ, a d = z)
    (ht : ∀ (p : Fin 3) (d : Fin 128), x5 (ix3 p d n) = (if d.val = n.val / 128 ∧ n.val % 128 = 3 + p.val then -1 else 0 : EReal))
    (ho : x7 (ix2 0 n) = (if n.val % 128 < 3 then 1 else 0 : EReal)) :
    k0_pay52 (F := Ideal) x0 x1 x2 x3 x4 x5 x6 x7 (ix2 r n) = decayK (a ⟨n.val / 128, by omega⟩) (n.val % 128) := by
  unfold k0_pay52 k0_pay49 k0_pay47 k0_pay46
  rw [View.ld_unit_zero (S := S512x128) hz, View.ld_unit_zero (S := S1x1024) hz]
  refine (pay17_apply x1 x7 _ _ _ r n).trans ?_
  simp only [hx]
  have hl : ∀ d : Fin 128, (∃ z : ℝ, a d = z) ∨ (View.ld (Val := Elt Ideal) (e' := .bf16) x5 r0_5 (ix3 0 d n) = (0 : EReal) ∧ View.ld (Val := Elt Ideal) (e' := .bf16) x5 r0_6 (ix3 0 d n) = (0 : EReal)) := by
    intro d
    by_cases hd : d.val = n.val / 128
    · exact Or.inl (ha d (by omega))
    · refine Or.inr ⟨?_, ?_⟩
      · rw [plane1, ht, if_neg fun hc => hd hc.1]
      · rw [plane2, ht, if_neg fun hc => hd hc.1]
  refine (rest_zero a _ _ hl _).trans ?_
  rw [ho]
  refine Eq.trans ?_ (decay_k (a ⟨n.val / 128, by omega⟩) (n.val % 128))
  refine congrArg _ (Eq.trans (Finset.sum_congr (M := EReal) rfl fun d _ => ?_) (sum_pick a (-1) (n.val / 128) (n.val % 128) 3 (by omega)))
  rw [plane0, ht]
  rfl

/-- The projection of a block of queries. -/
theorem projQ_apply (x0 : FVec Ideal S512x2048 .bf16) (x1 : FVec Ideal S512x128 .f32) (x2 : FVec Ideal S2048x1024 .bf16) (x3 : FVec Ideal S2048x1024 .bf16) (x4 : FVec Ideal S3x128x1024 .bf16) (x5 : FVec Ideal S3x128x1024 .bf16) (x6 : FVec Ideal S1x1024 .f32) (x7 : FVec Ideal S1x1024 .f32) (r : Fin 512) (n : Fin 1024) :
    k0_pay44 (F := Ideal) x0 x1 x2 x3 x4 x5 x6 x7 (ix2 r n) = (∑ d : Fin 2048, x0 (ix2 r d) * x2 (ix2 d n)) * scale := by
  unfold k0_pay44
  rw [View.ld_unit_zero (S := S512x2048) hz, View.ld_unit_zero (S := S2048x1024) hz]
  exact pay7_apply _ _ r n

/-- The array of queries after the run, where the decays are real. -/
theorem arrQ_eq (c : Dev nD) (hC : ∀ R d, d.val < 8 → ∃ z : ℝ, aC m c R d = z) : (dats m 0 c).arrAt 8 cfg0.N = GQ m c := by
  refine (dats m 0 c).arrAt_eq_of_covers 8 _ (by decide +kernel) fun t hf y => ?_
  obtain ⟨r, n, rfl⟩ : ∃ (r : Fin 512) (n : Fin 2048), y = ix2 r n := ⟨y 0, y 1, eq_ix2 y⟩
  have ht : t.val < 32 := lt_of_lt_of_eq t.isLt N_0
  have hr := r.isLt
  have hn := n.isLt
  blk_simp
  rw [after0_8, out8_apply, emb8 t r n ⟨512 * t.val + r.val, by omega⟩ rfl]
  show _ = specQ (aX m c) (aW m c) (aC m c) ⟨512 * t.val + r.val, by omega⟩ n
  unfold pick specQ
  by_cases h : n.val % 256 < 128
  · rw [dif_pos h, dif_pos h, projQ_apply]
    refine congrArg (· * scale) ?_
    refine Finset.sum_congr (M := EReal) rfl fun d _ => ?_
    rw [blk0 m c t r d ⟨512 * t.val + r.val, by omega⟩ rfl, blk2 m c t d _]
  · rw [dif_neg h, dif_neg h, decayQ_apply _ _ _ _ _ _ _ _ r _ (aC m c ⟨512 * t.val + r.val, by omega⟩) (fun d => blk1 m c t r d _ rfl) (hC _) (fun p d => blk4 m c t p d _) (blk6 m c t _)]
    have e1 : (n.val / 256 * 128 + (n.val % 256 - 128)) / 128 = n.val / 256 := by omega
    have e2 : (n.val / 256 * 128 + (n.val % 256 - 128)) % 128 = n.val % 256 - 128 := by omega
    simp only [e1, e2]

/-- The projection of a block of keys. -/
theorem projK_apply (x0 : FVec Ideal S512x2048 .bf16) (x1 : FVec Ideal S512x128 .f32) (x2 : FVec Ideal S2048x1024 .bf16) (x3 : FVec Ideal S2048x1024 .bf16) (x4 : FVec Ideal S3x128x1024 .bf16) (x5 : FVec Ideal S3x128x1024 .bf16) (x6 : FVec Ideal S1x1024 .f32) (x7 : FVec Ideal S1x1024 .f32) (r : Fin 512) (n : Fin 1024) :
    k0_pay45 (F := Ideal) x0 x1 x2 x3 x4 x5 x6 x7 (ix2 r n) = ∑ d : Fin 2048, x0 (ix2 r d) * x3 (ix2 d n) := by
  unfold k0_pay45
  rw [View.ld_unit_zero (S := S512x2048) hz, View.ld_unit_zero (S := S2048x1024) hz]
  exact pay8_apply _ _ r n

/-- The array of keys after the run, where the decays are real. -/
theorem arrK_eq (c : Dev nD) (hC : ∀ R d, d.val < 8 → ∃ z : ℝ, aC m c R d = z) : (dats m 0 c).arrAt 9 cfg0.N = GK m c := by
  refine (dats m 0 c).arrAt_eq_of_covers 9 _ (by decide +kernel) fun t hf y => ?_
  obtain ⟨r, n, rfl⟩ : ∃ (r : Fin 512) (n : Fin 2048), y = ix2 r n := ⟨y 0, y 1, eq_ix2 y⟩
  have ht : t.val < 32 := lt_of_lt_of_eq t.isLt N_0
  have hr := r.isLt
  have hn := n.isLt
  blk_simp
  rw [after0_9, out9_apply, emb9 t r n ⟨512 * t.val + r.val, by omega⟩ rfl]
  show _ = specK (aX m c) (aW m c) (aC m c) ⟨512 * t.val + r.val, by omega⟩ n
  unfold pick specK
  by_cases h : n.val % 256 < 128
  · rw [dif_pos h, dif_pos h, projK_apply]
    refine Finset.sum_congr (M := EReal) rfl fun d _ => ?_
    rw [blk0 m c t r d ⟨512 * t.val + r.val, by omega⟩ rfl, blk3 m c t d _]
  · rw [dif_neg h, dif_neg h, decayK_apply _ _ _ _ _ _ _ _ r _ (aC m c ⟨512 * t.val + r.val, by omega⟩) (fun d => blk1 m c t r d _ rfl) (hC _) (fun p d => blk5 m c t p d _) (blk7 m c t _)]
    have e1 : (n.val / 256 * 128 + (n.val % 256 - 128)) / 128 = n.val / 256 := by omega
    have e2 : (n.val / 256 * 128 + (n.val % 256 - 128)) % 128 = n.val % 256 - 128 := by omega
    simp only [e1, e2]

end Cert.FoxPrep

end
-- ==== Proof.Latents.lean ====
/- The narrow projections: what the kernel leaves in its array and the reference's result, at an index. -/
module

public import Idealize.ShloMosaic.Lib.Pipeline.Covers
public import Idealize.ShloMosaic.Lib.Pointwise
public import Idealize.ShloMosaic.Lib.IdealHost
public import proofs.«01_k».proof.Proof.Gen.Kernel8Ideal.Value
public import proofs.«01_k».proof.Proof.Gen.Reference8Ideal.Read

@[expose] public section

set_option maxRecDepth 16384

noncomputable section

namespace Cert.Latents

open Idealize.ShloMosaic Idealize.ShloMosaic.TcCoe Idealize.SL.Sem

/-- The columns side by side, out of those of the input projection: the two latents, the rotary key, nothing, the rotary key with its halves swapped, nothing, the forget gates, nothing. -/
def side (p : Fin 8264 → EReal) (n : Fin 1408) : EReal :=
  if n.val < 1088 then p ⟨n.val, by omega⟩
  else if n.val < 1152 then 0
  else if n.val < 1184 then p ⟨1056 + (n.val - 1152), by omega⟩
  else if n.val < 1216 then p ⟨1024 + (n.val - 1184), by omega⟩
  else if n.val < 1280 then 0
  else if h : n.val < 1288 then p ⟨4160 + (n.val - 1280), by omega⟩
  else 0

/-- The narrow projections: the columns side by side of the input projection. -/
def spec (X : Fin 16384 → Fin 2048 → EReal) (W : Fin 2048 → Fin 8264 → EReal) (R : Fin 16384) (n : Fin 1408) : EReal :=
  side (fun N => ∑ d, X R d * W d N) n

/-- The same columns, the pieces one after another with the zeros that widen them. -/
theorem pieces_side (p : Fin 8264 → EReal) (z : EReal) (hz : z = 0) (n : Fin 1408) :
    (if h : n.val < 1024 then p ⟨n.val, by omega⟩
    else
      if h : n.val - 1024 < 128 then
        if h_1 : n.val - 1024 < 64 then p ⟨1024 + (n.val - 1024), by omega⟩ else z
      else
        if h : n.val - 1024 - 128 < 128 then
          if h_1 : n.val - 1024 - 128 < 64 then
            if h_2 : n.val - 1024 - 128 < 32 then p ⟨1024 + (32 + (n.val - 1024 - 128)), by omega⟩
            else p ⟨1024 + (n.val - 1024 - 128 - 32), by omega⟩
          else z
        else
          if h_1 : n.val - 1024 - 128 - 128 < 8 then p ⟨4160 + (n.val - 1024 - 128 - 128), by omega⟩
          else z) = side p n := by
  subst hz
  unfold side
  split_ifs <;> first | with_reducible rfl | (exfalso; omega) | exact congrArg p (Fin.ext (by dsimp only; omega))

/-- The columns may be set side by side before the products: a column of zeros has product zero. -/
theorem sum_side (x : Fin 2048 → EReal) (W : Fin 2048 → Fin 8264 → EReal) (n : Fin 1408) :
    ∑ d, x d * side (W d) n = side (fun N => ∑ d, x d * W d N) n := by
  unfold side
  split_ifs <;> simp only [mul_zero, Finset.sum_const_zero]

/-- The zero that widens a part. -/
theorem zero_word : (FloatOps.sitofp (F := Ideal) FTy.f32 0#32 : EReal) = 0 := by
  show (((0#32 : BitVec 32).toInt : ℝ) : EReal) = 0
  simp

section Kernel

open Cert.Kernel8Ideal Cert.Kernel8Ideal.Gen

variable (m : (ℓ : Loc nD τ sig) → Buf (Elt Ideal) ℓ)

/-- The rows, by row and column. -/
def aX (c : Dev nD) (R : Fin 16384) (d : Fin 2048) : EReal := (m ((c : Thread nD τ).loc main_arg0) : FVec Ideal S16384x2048 .bf16) (ix2 R d)
/-- The weights of the input projection. -/
def aW (c : Dev nD) (d : Fin 2048) (n : Fin 8264) : EReal := (m ((c : Thread nD τ).loc main_arg1) : FVec Ideal S2048x8264 .f32) (ix2 d n)

/-- The result array. -/
def G (c : Dev nD) : FVec Ideal S16384x1408 .f32 := fun y => spec (aX m c) (aW m c) (y 0) (y 1)

/-- The columns of the weights, as the kernel receives them. -/
theorem V_v10 (c : Dev nD) (d : Fin 2048) (n : Fin 1408) :
    (V m c main_v10 : FVec Ideal S2048x1408 .bf16) (ix2 d n) = side (aW m c d) n := by
  have e : V m c main_v10 = (truncf (F := Ideal) .bf16 (concatenate S2048x1408 1 [⟨S2048x1024, extractStridedSlice S2048x1024 ![0, 0] (m ((c : Thread nD τ).loc main_arg1) : FVec Ideal S2048x8264 .f32) slices_S2048x8264_S2048x1024_0_0⟩,
      ⟨S2048x128, pad S2048x128 ![0, 0] ![0, 64] ![0, 0] (extractStridedSlice S2048x64 ![0, 1024] (m ((c : Thread nD τ).loc main_arg1) : FVec Ideal S2048x8264 .f32) slices_S2048x8264_S2048x64_0_1024) (sitofp (F := Ideal) .f32 (constantI S_ 32 0#32)) pads_S2048x64_S2048x128_000_0640 h_S_⟩,
      ⟨S2048x128, pad S2048x128 ![0, 0] ![0, 64] ![0, 0] (concatenate S2048x64 1 [⟨S2048x32, extractStridedSlice S2048x32 ![0, 32] (extractStridedSlice S2048x64 ![0, 1024] (m ((c : Thread nD τ).loc main_arg1) : FVec Ideal S2048x8264 .f32) slices_S2048x8264_S2048x64_0_1024) slices_S2048x64_S2048x32_0_32⟩,
        ⟨S2048x32, extractStridedSlice S2048x32 ![0, 0] (extractStridedSlice S2048x64 ![0, 1024] (m ((c : Thread nD τ).loc main_arg1) : FVec Ideal S2048x8264 .f32) slices_S2048x8264_S2048x64_0_1024) slices_S2048x64_S2048x32_0_0⟩] concatenates_S2048x32_S2048x32_S2048x64_d1) (sitofp (F := Ideal) .f32 (constantI S_ 32 0#32)) pads_S2048x64_S2048x128_000_0640 h_S_⟩,
      ⟨S2048x128, pad S2048x128 ![0, 0] ![0, 120] ![0, 0] (extractStridedSlice S2048x8 ![0, 4160] (m ((c : Thread nD τ).loc main_arg1) : FVec Ideal S2048x8264 .f32) slices_S2048x8264_S2048x8_0_4160) (sitofp (F := Ideal) .f32 (constantI S_ 32 0#32)) pads_S2048x8_S2048x128_000_01200 h_S_⟩] concatenates_S2048x1024_S2048x128_S2048x128_S2048x128_S2048x1408_d1 : FVec Ideal S2048x1408 .f32) bitsLt_bf16_f32 : FVec Ideal S2048x1408 .bf16) := by
    unfold_abbrev_sides
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results <;> rfl
  refine (congrFun e _).trans ?_
  pointwise
  exact pieces_side (aW m c d) _ zero_word n

/-- The block of rows at each grid point, -/
theorem idx0 : ∀ t : Fin cfg0.N, (cfg0.win 0).index t = ![t.val, 0] := by decide +kernel
/-- of columns, all of them, -/
theorem idx1 : ∀ t : Fin cfg0.N, (cfg0.win 1).index t = ![0, 0] := by decide +kernel
/-- and of the result. -/
theorem idx2 : ∀ t : Fin cfg0.N, (cfg0.win 2).index t = ![t.val, 0] := by decide +kernel

/-- A block of the rows. -/
theorem blk0 (c : Dev nD) (t : Fin cfg0.N) (r : Fin 512) (d : Fin 2048) (R : Fin 16384) (hR : R.val = 512 * t.val + r.val) :
    iblk m c 0 t (ix2 r d) = aX m c R d := by
  unfold aX
  blk_ext [iblk, V, idx0 t]

/-- The block of the weights. -/
theorem blk1 (c : Dev nD) (t : Fin cfg0.N) (d : Fin 2048) (n : Fin 1408) :
    iblk m c 1 t (ix2 d n) = side (aW m c d) n := by
  have e : iblk m c 1 t (ix2 d n) = (V m c main_v10 : FVec Ideal S2048x1408 .bf16) (ix2 d n) := by blk_ext [iblk, idx1 t]
  rw [e, V_v10]

/-- Where an element of a block of the result stands in the array. -/
theorem emb2 (t : Fin cfg0.N) (r : Fin 512) (n : Fin 1408) (R : Fin 16384) (hR : R.val = 512 * t.val + r.val) :
    ((View.whole main_v11).slice (win0_2.rect t)).emb (ix2 r n) = ix2 R n := by
  blk_ext [idx2 t]

/-- The block's value at an index. -/
theorem pay1_apply (x : FVec Ideal S512x2048 .bf16) (w : FVec Ideal S2048x1408 .bf16) (r : Fin 512) (n : Fin 1408) :
    k0_pay1 (F := Ideal) x w (ix2 r n) = ∑ d : Fin 2048, x (ix2 r d) * w (ix2 d n) := by
  unfold k0_pay1
  pointwise

/-- The origin. -/
theorem hz : (![0, 0] : Fin 2 → Nat) = fun _ => 0 := funext fun a => by fin_cases a <;> rfl

/-- What a grid point leaves in the result's block. -/
theorem out_eq (x : FVec Ideal S512x2048 .bf16) (w : FVec Ideal S2048x1408 .bf16) : out0_2 (F := Ideal) x w = k0_pay1 (F := Ideal) x w := by
  unfold out0_2
  simp only [View.canon_unit_zero (S := S512x1408) hz, View.ld_unit_zero (S := S512x2048) hz, View.ld_unit_zero (S := S2048x1408) hz]

/-- The result array after the run. -/
theorem arr_eq (c : Dev nD) : (dats m 0 c).arrAt 2 cfg0.N = G m c := by
  refine (dats m 0 c).arrAt_eq_of_covers 2 _ (by decide +kernel) fun t hf y => ?_
  obtain ⟨r, n, rfl⟩ : ∃ (r : Fin 512) (n : Fin 1408), y = ix2 r n := ⟨y 0, y 1, eq_ix2 y⟩
  have ht : t.val < 32 := lt_of_lt_of_eq t.isLt N_0
  have hr := r.isLt
  blk_simp
  rw [after0_2, out_eq, pay1_apply, emb2 t r n ⟨512 * t.val + r.val, by omega⟩ rfl]
  refine Eq.trans ?_ (sum_side (aX m c ⟨512 * t.val + r.val, by omega⟩) (aW m c) n)
  refine Finset.sum_congr (M := EReal) rfl fun d _ => ?_
  rw [blk0 m c t r d ⟨512 * t.val + r.val, by omega⟩ rfl, blk1 m c t d n]

end Kernel

section Reference

open Cert.Reference8Ideal Cert.Reference8Ideal.Gen Cert.Reference8Ideal.Read

/-- The input projection at an index. -/
theorem proj_apply (X : FVec Ideal S16384x2048 .bf16) (W : FVec Ideal S2048x8264 .f32) (R : Fin 16384) (N : Fin 8264) :
    val_main_v1 (F := Ideal) X W (ix2 R N) = ∑ d, X (ix2 R d) * W (ix2 d N) := by
  simp only [val_main_v1_apply, val_main_v0_apply]
  have e1 : ∀ k, lidx_main_v1 (ix2 R N) k = ix2 R k := fun k => eq_ix2 _
  have e2 : ∀ k, ridx_main_v1 (ix2 R N) k = ix2 k N := fun k => eq_ix2 _
  simp only [e1, e2]
  rfl

/-- The reference's columns are those of the input projection, side by side. -/
theorem ref_side (X : FVec Ideal S16384x2048 .bf16) (W : FVec Ideal S2048x8264 .f32) (R : Fin 16384) (n : Fin 1408) :
    val_main_v11 (F := Ideal) X W (ix2 R n) = side (fun N => val_main_v1 (F := Ideal) X W (ix2 R N)) n := by
  unfold val_main_v11 val_main_v10 val_main_v9 val_main_v8 val_main_v7 val_main_v6 val_main_v5 val_main_v4 val_main_v3 val_main_v2 val_main_call0_v0 val_main_call1_v0 val_main_call2_v0 val_main_c val_main_c_0 val_main_c_1
  generalize val_main_v1 (F := Ideal) X W = P
  pointwise
  exact pieces_side (fun N => P (ix2 R N)) _ zero_word n

/-- The reference's result at an index. -/
theorem ref_apply (X : FVec Ideal S16384x2048 .bf16) (W : FVec Ideal S2048x8264 .f32) (R : Fin 16384) (n : Fin 1408) :
    val_main_v11 (F := Ideal) X W (ix2 R n) = spec (fun R d => X (ix2 R d)) (fun d n => W (ix2 d n)) R n :=
  (ref_side X W R n).trans (congrArg (fun p => side p n) (funext fun N => proj_apply X W R N))

end Reference

end Cert.Latents
-- ==== Proof.MlaRef.lean ====
/- The latent attention's queries, keys and values: what they are, and the reference's results at an index. -/
module

public import Idealize.ShloMosaic.Lib.Pointwise
public import Idealize.ShloMosaic.Lib.IdealHost
public import proofs.«01_k».proof.Proof.Gen.Reference9Ideal.Read

@[expose] public section

set_option maxRecDepth 16384

noncomputable section

namespace Cert.Mla

open Idealize.ShloMosaic Idealize.ShloMosaic.TcCoe Idealize.SL.Sem

/-- The scale of the queries. -/
def scale : EReal := FloatOps.ofBits (F := Ideal) .f32 0x3DD53B95#32

/-- A latent divided by its root mean square, times the gains. -/
def rms (f g : Fin 512 → EReal) (d : Fin 512) : EReal :=
  f d * Ideal.rsqrt (Ideal.div (∑ k, f k * f k) (Ideal.ofBits .f32 0x44000000#32) + Ideal.ofBits .f32 0x358637BD#32) * g d

/-- The queries' latent, normalised, times its weights. -/
def projQ (X : Fin 16384 → Fin 1408 → EReal) (G : Fin 512 → EReal) (W : Fin 512 → Fin 1536 → EReal) (R : Fin 16384) (n : Fin 1536) : EReal :=
  ∑ d, rms (fun d => X R ⟨d.val, by omega⟩) G d * W d n
/-- The latent of keys and values, normalised, times its weights. -/
def projK (X : Fin 16384 → Fin 1408 → EReal) (G : Fin 512 → EReal) (W : Fin 512 → Fin 2048 → EReal) (R : Fin 16384) (n : Fin 2048) : EReal :=
  ∑ d, rms (fun d => X R ⟨512 + d.val, by omega⟩) G d * W d n

/-- The queries, head by head: the columns without position, then those turned by the position's angle, then zeros. -/
def specQ (X : Fin 16384 → Fin 1408 → EReal) (C S : Fin 16384 → Fin 32 → EReal) (G : Fin 512 → EReal) (W : Fin 512 → Fin 1536 → EReal) (R : Fin 16384) (n : Fin 2048) : EReal :=
  if h0 : n.val % 256 < 128 then projQ X G W R ⟨192 * (n.val / 256) + n.val % 256, by omega⟩ * scale
  else if h1 : n.val % 256 < 160 then
    (projQ X G W R ⟨192 * (n.val / 256) + n.val % 256, by omega⟩ * C R ⟨n.val % 256 - 128, by omega⟩ - projQ X G W R ⟨192 * (n.val / 256) + n.val % 256 + 32, by omega⟩ * S R ⟨n.val % 256 - 128, by omega⟩) * scale
  else if h2 : n.val % 256 < 192 then
    (projQ X G W R ⟨192 * (n.val / 256) + n.val % 256, by omega⟩ * C R ⟨n.val % 256 - 160, by omega⟩ + projQ X G W R ⟨192 * (n.val / 256) + n.val % 256 - 32, by omega⟩ * S R ⟨n.val % 256 - 160, by omega⟩) * scale
  else 0

/-- The keys, head by head: the columns without position, then the one rotary key turned by the position's angle, then zeros. -/
def specK (X : Fin 16384 → Fin 1408 → EReal) (C S : Fin 16384 → Fin 32 → EReal) (G : Fin 512 → EReal) (W : Fin 512 → Fin 2048 → EReal) (R : Fin 16384) (n : Fin 2048) : EReal :=
  if h0 : n.val % 256 < 128 then projK X G W R n
  else if h1 : n.val % 256 < 160 then
    X R ⟨1024 + (n.val % 256 - 128), by omega⟩ * C R ⟨n.val % 256 - 128, by omega⟩ - X R ⟨1152 + (n.val % 256 - 128), by omega⟩ * S R ⟨n.val % 256 - 128, by omega⟩
  else if h2 : n.val % 256 < 192 then
    X R ⟨1024 + (n.val % 256 - 128), by omega⟩ * C R ⟨n.val % 256 - 160, by omega⟩ + X R ⟨1152 + (n.val % 256 - 128), by omega⟩ * S R ⟨n.val % 256 - 160, by omega⟩
  else 0

/-- The values, head by head. -/
def specV (X : Fin 16384 → Fin 1408 → EReal) (G : Fin 512 → EReal) (W : Fin 512 → Fin 2048 → EReal) (R : Fin 16384) (n : Fin 1024) : EReal :=
  projK X G W R ⟨256 * (n.val / 128) + 128 + n.val % 128, by omega⟩

section Columns

variable (X : Fin 16384 → Fin 1408 → EReal) (C S : Fin 16384 → Fin 32 → EReal) (G : Fin 512 → EReal) (W : Fin 512 → Fin 2048 → EReal) (R : Fin 16384) (n : Fin 2048) (l : Fin 32)

/-- A key's columns without position, -/
theorem specK_low (h : n.val % 256 < 128) : specK X C S G W R n = projK X G W R n := dif_pos h
/-- the first half of its turned columns, -/
theorem specK_first (h : n.val % 256 = 128 + l.val) : specK X C S G W R n = X R ⟨1024 + l.val, by omega⟩ * C R l - X R ⟨1152 + l.val, by omega⟩ * S R l := by
  have hl := l.isLt
  unfold specK
  rw [dif_neg (by omega), dif_pos (show n.val % 256 < 160 by omega)]
  have f : n.val % 256 - 128 = l.val := by omega
  simp only [f]
/-- the second half, -/
theorem specK_second (h : n.val % 256 = 160 + l.val) : specK X C S G W R n = X R ⟨1056 + l.val, by omega⟩ * C R l + X R ⟨1184 + l.val, by omega⟩ * S R l := by
  have hl := l.isLt
  unfold specK
  rw [dif_neg (by omega), dif_neg (by omega), dif_pos (show n.val % 256 < 192 by omega)]
  have f : n.val % 256 - 160 = l.val := by omega
  have f1 : 1024 + (n.val % 256 - 128) = 1056 + l.val := by omega
  have f2 : 1152 + (n.val % 256 - 128) = 1184 + l.val := by omega
  simp only [f, f1, f2]
/-- and the zeros. -/
theorem specK_zero (h : 192 ≤ n.val % 256) : specK X C S G W R n = 0 := by
  unfold specK
  rw [dif_neg (by omega), dif_neg (by omega), dif_neg (by omega)]

end Columns

section QueryColumns

variable (X : Fin 16384 → Fin 1408 → EReal) (C S : Fin 16384 → Fin 32 → EReal) (G : Fin 512 → EReal) (W : Fin 512 → Fin 1536 → EReal) (R : Fin 16384) (n : Fin 2048) (l : Fin 32) (a b : Fin 1536)

/-- A query's columns without position, -/
theorem specQ_low (h : n.val % 256 < 128) (ha : a.val = 192 * (n.val / 256) + n.val % 256) : specQ X C S G W R n = projQ X G W R a * scale := by
  rw [show projQ X G W R a = projQ X G W R ⟨192 * (n.val / 256) + n.val % 256, by omega⟩ from congrArg _ (Fin.ext ha)]
  exact dif_pos h
/-- the first half of its turned columns, -/
theorem specQ_first (h : n.val % 256 = 128 + l.val) (ha : a.val = 192 * (n.val / 256) + 128 + l.val) (hb : b.val = 192 * (n.val / 256) + 160 + l.val) :
    specQ X C S G W R n = (projQ X G W R a * C R l - projQ X G W R b * S R l) * scale := by
  have hl := l.isLt
  rw [show projQ X G W R a = projQ X G W R ⟨192 * (n.val / 256) + n.val % 256, by omega⟩ from congrArg _ (Fin.ext (by dsimp only; omega))]
  rw [show projQ X G W R b = projQ X G W R ⟨192 * (n.val / 256) + n.val % 256 + 32, by omega⟩ from congrArg _ (Fin.ext (by dsimp only; omega))]
  unfold specQ
  rw [dif_neg (by omega), dif_pos (show n.val % 256 < 160 by omega)]
  have f : n.val % 256 - 128 = l.val := by omega
  simp only [f]
/-- the second half, -/
theorem specQ_second (h : n.val % 256 = 160 + l.val) (ha : a.val = 192 * (n.val / 256) + 160 + l.val) (hb : b.val = 192 * (n.val / 256) + 128 + l.val) :
    specQ X C S G W R n = (projQ X G W R a * C R l + projQ X G W R b * S R l) * scale := by
  have hl := l.isLt
  rw [show projQ X G W R a = projQ X G W R ⟨192 * (n.val / 256) + n.val % 256, by omega⟩ from congrArg _ (Fin.ext (by dsimp only; omega))]
  rw [show projQ X G W R b = projQ X G W R ⟨192 * (n.val / 256) + n.val % 256 - 32, by omega⟩ from congrArg _ (Fin.ext (by dsimp only; omega))]
  unfold specQ
  rw [dif_neg (by omega), dif_neg (by omega), dif_pos (show n.val % 256 < 192 by omega)]
  have f : n.val % 256 - 160 = l.val := by omega
  simp only [f]
/-- and the zeros. -/
theorem specQ_zero (h : 192 ≤ n.val % 256) : specQ X C S G W R n = 0 := by
  unfold specQ
  rw [dif_neg (by omega), dif_neg (by omega), dif_neg (by omega)]

end QueryColumns

section Reference

open Cert.Reference9Ideal Cert.Reference9Ideal.Gen Cert.Reference9Ideal.Read

variable (X : FVec Ideal S16384x1408 .f32) (C S : FVec Ideal S16384x32 .f32) (GQ GK : FVec Ideal S512 .f32) (WQ : FVec Ideal S512x1536 .f32) (WK : FVec Ideal S512x2048 .f32)

/-- The reference's normalised latent of the queries. -/
theorem v14_apply (R : Fin 16384) (d : Fin 512) :
    val_main_v14 (F := Ideal) X GQ (ix2 R d) = rms (fun d => X (ix2 R ⟨d.val, by omega⟩)) (fun d => GQ (ix1 d)) d := by
  simp only [val_main_v14_apply, val_main_v13_apply, val_main_v12_apply, val_main_v11_apply, val_main_v10_apply, val_main_v9_apply, val_main_v8_apply, val_main_v7_apply, val_main_v6_apply, val_main_v5_apply,
    val_main_v4_apply, val_main_v3_apply, val_main_v2_apply, val_main_v0_apply, val_main_cst_apply, val_main_cst_0_apply, val_main_cst_1_apply]
  have e0 : ∀ k : Fin 512, idx_main_v0 (idx_main_v3 (idx_main_v4 (idx_main_v10 (ix2 R d))) k) = ix2 R ⟨k.val, by omega⟩ := fun k => eq_ix2 _
  have e1 : idx_main_v12 (idx_main_v13 (ix2 R d)) = ix1 d := funext fun a => match a with | ⟨0, _⟩ => rfl
  have e2 : idx_main_v0 (ix2 R d) = ix2 R ⟨d.val, by omega⟩ := eq_ix2 _
  have z : (FloatOps.ofBits (F := Ideal) .f32 0#32 : EReal) = 0 := Ideal.ofBits_zero_f32
  simp only [e0, e1, e2]
  erw [z, zero_add]
  rfl

/-- The reference's normalised latent of the keys and values. -/
theorem v27_apply (R : Fin 16384) (d : Fin 512) :
    val_main_v27 (F := Ideal) X GK (ix2 R d) = rms (fun d => X (ix2 R ⟨512 + d.val, by omega⟩)) (fun d => GK (ix1 d)) d := by
  simp only [val_main_v27_apply, val_main_v26_apply, val_main_v25_apply, val_main_v24_apply, val_main_v23_apply, val_main_v22_apply, val_main_v21_apply, val_main_v20_apply, val_main_v19_apply, val_main_v18_apply,
    val_main_v17_apply, val_main_v16_apply, val_main_v15_apply, val_main_v1_apply, val_main_cst_2_apply, val_main_cst_3_apply, val_main_cst_4_apply]
  have e0 : ∀ k : Fin 512, idx_main_v1 (idx_main_v16 (idx_main_v17 (idx_main_v23 (ix2 R d))) k) = ix2 R ⟨512 + k.val, by omega⟩ := fun k => eq_ix2 _
  have e1 : idx_main_v25 (idx_main_v26 (ix2 R d)) = ix1 d := funext fun a => match a with | ⟨0, _⟩ => rfl
  have e2 : idx_main_v1 (ix2 R d) = ix2 R ⟨512 + d.val, by omega⟩ := eq_ix2 _
  have z : (FloatOps.ofBits (F := Ideal) .f32 0#32 : EReal) = 0 := Ideal.ofBits_zero_f32
  simp only [e0, e1, e2]
  erw [z, zero_add]
  rfl

/-- The reference's products for the queries. -/
theorem v28_apply (R : Fin 16384) (n : Fin 1536) :
    val_main_v28 (F := Ideal) X GQ WQ (ix2 R n) = projQ (fun R d => X (ix2 R d)) (fun d => GQ (ix1 d)) (fun d n => WQ (ix2 d n)) R n := by
  rw [val_main_v28_apply]
  unfold projQ
  refine Finset.sum_congr rfl fun d _ => ?_
  have e1 : lidx_main_v28 (ix2 R n) d = ix2 R d := eq_ix2 _
  have e2 : ridx_main_v28 (ix2 R n) d = ix2 d n := eq_ix2 _
  rw [e1, e2, v14_apply]

/-- The reference's products for the keys and values. -/
theorem v30_apply (R : Fin 16384) (n : Fin 2048) :
    val_main_v30 (F := Ideal) X GK WK (ix2 R n) = projK (fun R d => X (ix2 R d)) (fun d => GK (ix1 d)) (fun d n => WK (ix2 d n)) R n := by
  rw [val_main_v30_apply]
  unfold projK
  refine Finset.sum_congr rfl fun d _ => ?_
  have e1 : lidx_main_v30 (ix2 R n) d = ix2 R d := eq_ix2 _
  have e2 : ridx_main_v30 (ix2 R n) d = ix2 d n := eq_ix2 _
  rw [e1, e2, v27_apply]

/-- The queries' products, by head and column, -/
theorem v29_apply (R : Fin 16384) (h : Fin 8) (l : Fin 192) :
    val_main_v29 (F := Ideal) X GQ WQ (ix3 R h l) = projQ (fun R d => X (ix2 R d)) (fun d => GQ (ix1 d)) (fun d n => WQ (ix2 d n)) R ⟨192 * h.val + l.val, by omega⟩ := by
  rw [val_main_v29_apply]
  have hR := R.isLt
  have hh := h.isLt
  have hl := l.isLt
  have e : idx_main_v29 (ix3 R h l) = ix2 R (⟨192 * h.val + l.val, by omega⟩ : Fin 1536) := by
    rw [eq_ix2 (idx_main_v29 (ix3 R h l))]
    congr 1 <;> refine Fin.ext ?_
    · show ((R.val * 8 + h.val) * 192 + l.val) / 1536 = R.val
      omega
    · show ((R.val * 8 + h.val) * 192 + l.val) % 1536 = 192 * h.val + l.val
      omega
  rw [e, v28_apply]

/-- and those of the keys and values. -/
theorem v31_apply (R : Fin 16384) (h : Fin 8) (l : Fin 256) :
    val_main_v31 (F := Ideal) X GK WK (ix3 R h l) = projK (fun R d => X (ix2 R d)) (fun d => GK (ix1 d)) (fun d n => WK (ix2 d n)) R ⟨256 * h.val + l.val, by omega⟩ := by
  rw [val_main_v31_apply]
  have hR := R.isLt
  have hh := h.isLt
  have hl := l.isLt
  have e : idx_main_v31 (ix3 R h l) = ix2 R (⟨256 * h.val + l.val, by omega⟩ : Fin 2048) := by
    rw [eq_ix2 (idx_main_v31 (ix3 R h l))]
    congr 1 <;> refine Fin.ext ?_
    · show ((R.val * 8 + h.val) * 256 + l.val) / 2048 = R.val
      omega
    · show ((R.val * 8 + h.val) * 256 + l.val) % 2048 = 256 * h.val + l.val
      omega
  rw [e, v30_apply]

/-- The reference's queries, by head and column. -/
theorem q_head (R : Fin 16384) (h : Fin 8) (l : Fin 256) :
    val_main_v64 (F := Ideal) X C S GQ WQ (ix3 R h l) = specQ (fun R d => X (ix2 R d)) (fun R d => C (ix2 R d)) (fun R d => S (ix2 R d)) (fun d => GQ (ix1 d)) (fun d n => WQ (ix2 d n)) R ⟨256 * h.val + l.val, by omega⟩ := by
  unfold val_main_v64 val_main_v63 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_cst_6 val_main_cst_5
  generalize hP : val_main_v29 (F := Ideal) X GQ WQ = P
  pointwise
  subst hP
  have hh := h.isLt
  have hl := l.isLt
  have e1 : (256 * h.val + l.val) % 256 = l.val := by omega
  have e2 : (256 * h.val + l.val) / 256 = h.val := by omega
  unfold specQ scale
  simp only [e1, e2, v29_apply]
  by_cases a2 : l.val < 192
  · rw [dif_pos a2]
    by_cases a0 : l.val < 128
    · rw [dif_pos a0, dif_pos a0]
      rfl
    · rw [dif_neg a0, dif_neg a0]
      by_cases a1 : l.val < 160
      · have f1 : 128 + (l.val - 128) = l.val := by omega
        have f2 : 192 * h.val + (160 + (l.val - 128)) = 192 * h.val + l.val + 32 := by omega
        rw [dif_pos (by omega), dif_pos a1]
        simp only [f1, f2]
        rfl
      · have f1 : 160 + (l.val - 160) = l.val := by omega
        have f2 : 192 * h.val + (128 + (l.val - 160)) = 192 * h.val + l.val - 32 := by omega
        have f3 : l.val - 128 - 32 = l.val - 160 := by omega
        rw [dif_neg (by omega), dif_neg a1, dif_pos a2]
        simp only [f3, f1, f2]
        rfl
  · rw [dif_neg a2, dif_neg (by omega), dif_neg (by omega), dif_neg a2]

/-- The reference's keys, by head and column. -/
theorem k_head (R : Fin 16384) (h : Fin 8) (l : Fin 256) :
    val_main_v66 (F := Ideal) X C S GK WK (ix3 R h l) = specK (fun R d => X (ix2 R d)) (fun R d => C (ix2 R d)) (fun R d => S (ix2 R d)) (fun d => GK (ix1 d)) (fun d n => WK (ix2 d n)) R ⟨256 * h.val + l.val, by omega⟩ := by
  unfold val_main_v66 val_main_v65 val_main_v63 val_main_v62 val_main_v61 val_main_v60 val_main_v59 val_main_v58 val_main_v57 val_main_v56 val_main_v55 val_main_v54 val_main_v53 val_main_v52 val_main_v51 val_main_v50 val_main_cst_6
  generalize hP : val_main_v31 (F := Ideal) X GK WK = P
  pointwise
  subst hP
  have hh := h.isLt
  have hl := l.isLt
  have e1 : (256 * h.val + l.val) % 256 = l.val := by omega
  have e2 : (256 * h.val + l.val) / 256 = h.val := by omega
  by_cases a0 : l.val < 128
  · rw [dif_pos a0, v31_apply]
    exact (specK_low _ _ _ _ _ R _ (by show (256 * h.val + l.val) % 256 < 128; omega)).symm
  · rw [dif_neg a0]
    by_cases a2 : l.val < 192
    · rw [dif_pos (show l.val - 128 < 64 by omega)]
      by_cases a1 : l.val < 160
      · rw [dif_pos (show l.val - 128 < 32 by omega)]
        exact (specK_first (fun R d => X (ix2 R d)) (fun R d => C (ix2 R d)) (fun R d => S (ix2 R d)) (fun d => GK (ix1 d)) (fun d n => WK (ix2 d n)) R ⟨256 * h.val + l.val, by omega⟩ ⟨l.val - 128, by omega⟩ (by show (256 * h.val + l.val) % 256 = 128 + (l.val - 128); omega)).symm
      · rw [dif_neg (show ¬l.val - 128 < 32 by omega)]
        exact (specK_second (fun R d => X (ix2 R d)) (fun R d => C (ix2 R d)) (fun R d => S (ix2 R d)) (fun d => GK (ix1 d)) (fun d n => WK (ix2 d n)) R ⟨256 * h.val + l.val, by omega⟩ ⟨l.val - 128 - 32, by omega⟩ (by show (256 * h.val + l.val) % 256 = 160 + (l.val - 128 - 32); omega)).symm
    · rw [dif_neg (show ¬l.val - 128 < 64 by omega)]
      exact (specK_zero _ _ _ _ _ R _ (by show 192 ≤ (256 * h.val + l.val) % 256; omega)).symm

/-- The reference's values, by head and column. -/
theorem v_head (R : Fin 16384) (h : Fin 8) (l : Fin 128) :
    val_main_v67 (F := Ideal) X GK WK (ix3 R h l) = projK (fun R d => X (ix2 R d)) (fun d => GK (ix1 d)) (fun d n => WK (ix2 d n)) R ⟨256 * h.val + (128 + l.val), by omega⟩ := by
  rw [val_main_v67_apply]
  have e : idx_main_v67 (ix3 R h l) = ix3 R h ⟨128 + l.val, by omega⟩ := eq_ix3 _
  rw [e, v31_apply]

/-- The reference's queries at an index. -/
theorem ref_q (R : Fin 16384) (n : Fin 2048) :
    val_main_v69 (F := Ideal) X C S GQ WQ (ix2 R n) = specQ (fun R d => X (ix2 R d)) (fun R d => C (ix2 R d)) (fun R d => S (ix2 R d)) (fun d => GQ (ix1 d)) (fun d n => WQ (ix2 d n)) R n := by
  simp only [val_main_v69_apply, val_main_v68_apply]
  have e : idx_main_v68 (ix2 R n) = ix3 R (⟨n.val / 256, by omega⟩ : Fin 8) (⟨n.val % 256, by omega⟩ : Fin 256) := by
    have hR := R.isLt
    have hn := n.isLt
    rw [eq_ix3 (idx_main_v68 (ix2 R n))]
    congr 1 <;> refine Fin.ext ?_
    · show (R.val * 2048 + n.val) / 2048 = R.val
      omega
    · show (R.val * 2048 + n.val) / 256 % 8 = n.val / 256
      omega
    · show (R.val * 2048 + n.val) % 256 = n.val % 256
      omega
  rw [e, q_head]
  have hn : (⟨256 * (n.val / 256) + n.val % 256, by omega⟩ : Fin 2048) = n := Fin.ext (by show 256 * (n.val / 256) + n.val % 256 = n.val; omega)
  exact congrArg (specQ (fun R d => X (ix2 R d)) (fun R d => C (ix2 R d)) (fun R d => S (ix2 R d)) (fun d => GQ (ix1 d)) (fun d n => WQ (ix2 d n)) R) hn

/-- The reference's keys at an index. -/
theorem ref_k (R : Fin 16384) (n : Fin 2048) :
    val_main_v71 (F := Ideal) X C S GK WK (ix2 R n) = specK (fun R d => X (ix2 R d)) (fun R d => C (ix2 R d)) (fun R d => S (ix2 R d)) (fun d => GK (ix1 d)) (fun d n => WK (ix2 d n)) R n := by
  simp only [val_main_v71_apply, val_main_v70_apply]
  have e : idx_main_v70 (ix2 R n) = ix3 R (⟨n.val / 256, by omega⟩ : Fin 8) (⟨n.val % 256, by omega⟩ : Fin 256) := by
    have hR := R.isLt
    have hn := n.isLt
    rw [eq_ix3 (idx_main_v70 (ix2 R n))]
    congr 1 <;> refine Fin.ext ?_
    · show (R.val * 2048 + n.val) / 2048 = R.val
      omega
    · show (R.val * 2048 + n.val) / 256 % 8 = n.val / 256
      omega
    · show (R.val * 2048 + n.val) % 256 = n.val % 256
      omega
  rw [e, k_head]
  have hn : (⟨256 * (n.val / 256) + n.val % 256, by omega⟩ : Fin 2048) = n := Fin.ext (by show 256 * (n.val / 256) + n.val % 256 = n.val; omega)
  exact congrArg (specK (fun R d => X (ix2 R d)) (fun R d => C (ix2 R d)) (fun R d => S (ix2 R d)) (fun d => GK (ix1 d)) (fun d n => WK (ix2 d n)) R) hn

/-- The reference's values at an index. -/
theorem ref_v (R : Fin 16384) (n : Fin 1024) :
    val_main_v73 (F := Ideal) X GK WK (ix2 R n) = specV (fun R d => X (ix2 R d)) (fun d => GK (ix1 d)) (fun d n => WK (ix2 d n)) R n := by
  simp only [val_main_v73_apply, val_main_v72_apply]
  have e : idx_main_v72 (ix2 R n) = ix3 R (⟨n.val / 128, by omega⟩ : Fin 8) (⟨n.val % 128, by omega⟩ : Fin 128) := by
    have hR := R.isLt
    have hn := n.isLt
    rw [eq_ix3 (idx_main_v72 (ix2 R n))]
    congr 1 <;> refine Fin.ext ?_
    · show (R.val * 1024 + n.val) / 1024 = R.val
      omega
    · show (R.val * 1024 + n.val) / 128 % 8 = n.val / 128
      omega
    · show (R.val * 1024 + n.val) % 128 = n.val % 128
      omega
  rw [e, v_head]
  unfold specV
  exact congrArg (projK (fun R d => X (ix2 R d)) (fun d => GK (ix1 d)) (fun d n => WK (ix2 d n)) R) (Fin.ext (by show 256 * (n.val / 128) + (128 + n.val % 128) = 256 * (n.val / 128) + 128 + n.val % 128; omega))

end Reference

end Cert.Mla

end
-- ==== Proof.MlaTiles.lean ====
/- The blocks of queries, keys and values that a grid point of the latent attention's preparation stores, read at an index. -/
module

public import Idealize.ShloMosaic.Lib.Pipeline.Covers
public import Idealize.ShloMosaic.Lib.Pointwise
public import Idealize.ShloMosaic.Lib.IdealHost
public import Idealize.ShloMosaic.Lib.Pipeline.ValueKit.Tiles
public import proofs.«01_k».proof.Proof.Gen.Kernel9Ideal.Value
public import proofs.«01_k».proof.Proof.MlaRef

@[expose] public section

set_option maxRecDepth 16384

noncomputable section

namespace Cert.Mla

open Idealize.ShloMosaic Idealize.ShloMosaic.TcCoe Idealize.SL.Sem

open Cert.Kernel9Ideal Cert.Kernel9Ideal.Gen

/-- The origin. -/
theorem hz : (![0, 0] : Fin 2 → Nat) = fun _ => 0 := funext fun a => by fin_cases a <;> rfl

/-- Head by head 128 columns of the one array, then the same columns of the other. -/
def pick (v w : Fin 512 → Fin 1024 → EReal) (r : Fin 512) (n : Fin 2048) : EReal :=
  if h : n.val % 256 < 128 then v r ⟨n.val / 256 * 128 + n.val % 256, by omega⟩ else w r ⟨n.val / 256 * 128 + (n.val % 256 - 128), by omega⟩

/-- A store of a head's columns of the first array. -/
theorem tile_even (h : Nat) (hh : h < 8) (v w : Fin 512 → Fin 1024 → EReal) (r : Fin 512) (n : Fin 2048) (p : FVec Ideal S512x128 .bf16)
    (hp : ∀ (r : Fin 512) (l : Fin 128), p (ix2 r l) = v r ⟨128 * h + l.val, by omega⟩) :
    View.TileAt (Val := Elt Ideal) (S := S512x2048) (e := .bf16) (ix2 r n) ![0, 256 * h] S512x128.size p (pick v w r n) := by
  intro x hx
  obtain ⟨r', l, rfl⟩ : ∃ (r' : Fin 512) (l : Fin 128), x = ix2 r' l := ⟨x 0, x 1, eq_ix2 x⟩
  have h0 : r.val = 0 + r'.val := hx 0
  have h1 : n.val = 256 * h + l.val := hx 1
  have hl := l.isLt
  unfold pick
  rw [dif_pos (by omega)]
  refine (hp r' l).trans (congrArg₂ v (Fin.ext (by omega)) (Fin.ext ?_))
  show 128 * h + l.val = n.val / 256 * 128 + n.val % 256
  omega

/-- A store of a head's columns of the second array. -/
theorem tile_odd (h : Nat) (hh : h < 8) (v w : Fin 512 → Fin 1024 → EReal) (r : Fin 512) (n : Fin 2048) (p : FVec Ideal S512x128 .bf16)
    (hp : ∀ (r : Fin 512) (l : Fin 128), p (ix2 r l) = w r ⟨128 * h + l.val, by omega⟩) :
    View.TileAt (Val := Elt Ideal) (S := S512x2048) (e := .bf16) (ix2 r n) ![0, 256 * h + 128] S512x128.size p (pick v w r n) := by
  intro x hx
  obtain ⟨r', l, rfl⟩ : ∃ (r' : Fin 512) (l : Fin 128), x = ix2 r' l := ⟨x 0, x 1, eq_ix2 x⟩
  have h0 : r.val = 0 + r'.val := hx 0
  have h1 : n.val = 256 * h + 128 + l.val := hx 1
  have hl := l.isLt
  unfold pick
  rw [dif_neg (by omega)]
  refine (hp r' l).trans (congrArg₂ w (Fin.ext (by omega)) (Fin.ext ?_))
  show 128 * h + l.val = n.val / 256 * 128 + (n.val % 256 - 128)
  omega

/-- A head's columns of an array, at an index. -/
theorem slice_apply (h : Nat) (hh : h < 8) (v : FVec Ideal S512x1024 .f32) (hs : S512x1024.Slices ![0, 128 * h] S512x128) (r : Fin 512) (l : Fin 128) :
    (extractStridedSlice S512x128 ![0, 128 * h] v hs : FVec Ideal S512x128 .f32) (ix2 r l) = v (ix2 r ⟨128 * h + l.val, by omega⟩) := by
  refine congrArg v ((eq_ix2 _).trans ?_)
  congr 1 <;> refine Fin.ext ?_
  show 0 + r.val = r.val
  omega

/-- A head's scaled columns, -/
theorem scaled_apply (h : Nat) (hh : h < 8) (v : FVec Ideal S512x1024 .f32) (hs : S512x1024.Slices ![0, 128 * h] S512x128) (hb : FTy.bf16.bits < FTy.f32.bits) (r : Fin 512) (l : Fin 128) :
    (truncf (F := Ideal) .bf16 (mulf (extractStridedSlice S512x128 ![0, 128 * h] v hs : FVec Ideal S512x128 .f32) (broadcast S512x128 (Scalar.ofBits (F := Ideal) .f32 0x3DD53B95#32))) hb : FVec Ideal S512x128 .bf16) (ix2 r l)
      = v (ix2 r ⟨128 * h + l.val, by omega⟩) * scale :=
  congrArg (· * scale) (slice_apply h hh v hs r l)

/-- its turned columns, scaled, -/
theorem turned_apply (h : Nat) (hh : h < 8) (a b : FVec Ideal S512x1024 .f32) (c s : FVec Ideal S512x128 .f32) (hs : S512x1024.Slices ![0, 128 * h] S512x128) (hb : FTy.bf16.bits < FTy.f32.bits) (r : Fin 512) (l : Fin 128) :
    (truncf (F := Ideal) .bf16 (mulf (addf (mulf (extractStridedSlice S512x128 ![0, 128 * h] a hs : FVec Ideal S512x128 .f32) c) (mulf (extractStridedSlice S512x128 ![0, 128 * h] b hs : FVec Ideal S512x128 .f32) s)) (broadcast S512x128 (Scalar.ofBits (F := Ideal) .f32 0x3DD53B95#32))) hb : FVec Ideal S512x128 .bf16) (ix2 r l)
      = (a (ix2 r ⟨128 * h + l.val, by omega⟩) * c (ix2 r l) + b (ix2 r ⟨128 * h + l.val, by omega⟩) * s (ix2 r l)) * scale :=
  congrArg (· * scale) (congrArg₂ (· + ·) (congrArg (· * c (ix2 r l)) (slice_apply h hh a hs r l)) (congrArg (· * s (ix2 r l)) (slice_apply h hh b hs r l)))

/-- and its columns as they are. -/
theorem plain_apply (h : Nat) (hh : h < 8) (v : FVec Ideal S512x1024 .f32) (hs : S512x1024.Slices ![0, 128 * h] S512x128) (hb : FTy.bf16.bits < FTy.f32.bits) (r : Fin 512) (l : Fin 128) :
    (truncf (F := Ideal) .bf16 (extractStridedSlice S512x128 ![0, 128 * h] v hs : FVec Ideal S512x128 .f32) hb : FVec Ideal S512x128 .bf16) (ix2 r l)
      = v (ix2 r ⟨128 * h + l.val, by omega⟩) := slice_apply h hh v hs r l

/-- A column's place in its head. -/
def low (n : Fin 1024) : Fin 128 := ⟨n.val % 128, by omega⟩
/-- The columns of a head, one by one. -/
theorem low_mk (h : Nat) (l : Fin 128) (hn : 128 * h + l.val < 1024) : low ⟨128 * h + l.val, hn⟩ = l :=
  Fin.ext (by have hl := l.isLt; show (128 * h + l.val) % 128 = l.val; omega)

section Point

variable (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x2048 .bf16) (harg14 : arg14.IsWhole) (arg15 : Memref sig .tc .vmem S512x2048 .bf16) (harg15 : arg15.IsWhole) (arg16 : Memref sig .tc .vmem S512x1024 .bf16) (harg16 : arg16.IsWhole)
  (x0 : FVec Ideal S512x512 .f32) (x1 : FVec Ideal S512x512 .f32) (x2 : FVec Ideal S512x128 .f32) (x3 : FVec Ideal S512x128 .f32) (x4 : FVec Ideal S512x128 .f32) (x5 : FVec Ideal S512x128 .f32) (x6 : FVec Ideal S1x512 .f32) (x7 : FVec Ideal S1x512 .f32) (x8 : FVec Ideal S512x1024 .bf16) (x9 : FVec Ideal S512x1024 .bf16) (x10 : FVec Ideal S512x1024 .bf16) (x11 : FVec Ideal S512x1024 .bf16) (x12 : FVec Ideal S512x1024 .bf16)

/-- The block of values. -/
theorem outV_eq : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 = k0_pay10 (F := Ideal) (k0_pay4 x1 x7) x12 := by
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  unfold kernelRun0_A
  dsimp only
  rw [View.canon_unit_zero (S := S512x1024) hz]
  sl_unfold_words
  simp only [View.readAt_eq_ld, View.ld_unit_zero (S := S512x512) hz, View.ld_unit_zero (S := S512x128) hz, View.ld_unit_zero (S := S1x512) hz, View.ld_unit_zero (S := S512x1024) hz, harg1.read_unread, harg2.read_unread, harg3.read_unread, harg4.read_unread, harg5.read_unread, harg6.read_unread, harg7.read_unread, harg8.read_unread, harg9.read_unread, harg10.read_unread, harg11.read_unread, harg12.read_unread, harg13.read_unread]

/-- The block of queries at an index. -/
theorem outQ_apply (r : Fin 512) (n : Fin 2048) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r n)
      = pick (fun r n => k0_pay6 (F := Ideal) (k0_pay3 x0 x6) (k0_pay5 x8) (constant S512x1024 .f32 0x00000000#32) (ix2 r n) * scale)
          (fun r n => (k0_pay7 (F := Ideal) (k0_pay3 x0 x6) x9 (ix2 r n) * k0_pay1 (F := Ideal) x4 (ix2 r (low n)) + k0_pay8 (F := Ideal) (k0_pay3 x0 x6) x10 (ix2 r n) * k0_pay2 (F := Ideal) x5 (ix2 r (low n))) * scale) r n := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  refine View.canon_eq_of_allAt _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r n)) ?_
  unfold kernelRun0_A
  dsimp only
  sl_unfold_words
  simp only [View.readAt_eq_ld, View.ld_unit_zero (S := S512x512) hz, View.ld_unit_zero (S := S512x128) hz, View.ld_unit_zero (S := S1x512) hz, View.ld_unit_zero (S := S512x1024) hz, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (tile_odd 7 (by omega) _ _ r n _ fun r l => (turned_apply 7 (by omega) _ _ _ _ _ _ r l).trans (by rw [low_mk])) ?_
  refine View.allAt_cons_unit _ _ _ _ _ (tile_even 7 (by omega) _ _ r n _ fun r l => scaled_apply 7 (by omega) _ _ _ r l) ?_
  refine View.allAt_cons_unit _ _ _ _ _ (tile_odd 6 (by omega) _ _ r n _ fun r l => (turned_apply 6 (by omega) _ _ _ _ _ _ r l).trans (by rw [low_mk])) ?_
  refine View.allAt_cons_unit _ _ _ _ _ (tile_even 6 (by omega) _ _ r n _ fun r l => scaled_apply 6 (by omega) _ _ _ r l) ?_
  refine View.allAt_cons_unit _ _ _ _ _ (tile_odd 5 (by omega) _ _ r n _ fun r l => (turned_apply 5 (by omega) _ _ _ _ _ _ r l).trans (by rw [low_mk])) ?_
  refine View.allAt_cons_unit _ _ _ _ _ (tile_even 5 (by omega) _ _ r n _ fun r l => scaled_apply 5 (by omega) _ _ _ r l) ?_
  refine View.allAt_cons_unit _ _ _ _ _ (tile_odd 4 (by omega) _ _ r n _ fun r l => (turned_apply 4 (by omega) _ _ _ _ _ _ r l).trans (by rw [low_mk])) ?_
  refine View.allAt_cons_unit _ _ _ _ _ (tile_even 4 (by omega) _ _ r n _ fun r l => scaled_apply 4 (by omega) _ _ _ r l) ?_
  refine View.allAt_cons_unit _ _ _ _ _ (tile_odd 3 (by omega) _ _ r n _ fun r l => (turned_apply 3 (by omega) _ _ _ _ _ _ r l).trans (by rw [low_mk])) ?_
  refine View.allAt_cons_unit _ _ _ _ _ (tile_even 3 (by omega) _ _ r n _ fun r l => scaled_apply 3 (by omega) _ _ _ r l) ?_
  refine View.allAt_cons_unit _ _ _ _ _ (tile_odd 2 (by omega) _ _ r n _ fun r l => (turned_apply 2 (by omega) _ _ _ _ _ _ r l).trans (by rw [low_mk])) ?_
  refine View.allAt_cons_unit _ _ _ _ _ (tile_even 2 (by omega) _ _ r n _ fun r l => scaled_apply 2 (by omega) _ _ _ r l) ?_
  refine View.allAt_cons_unit _ _ _ _ _ (tile_odd 1 (by omega) _ _ r n _ fun r l => (turned_apply 1 (by omega) _ _ _ _ _ _ r l).trans (by rw [low_mk])) ?_
  refine View.allAt_cons_unit _ _ _ _ _ (tile_even 1 (by omega) _ _ r n _ fun r l => scaled_apply 1 (by omega) _ _ _ r l) ?_
  refine View.allAt_cons_unit _ _ _ _ _ (tile_odd 0 (by omega) _ _ r n _ fun r l => (turned_apply 0 (by omega) _ _ _ _ _ _ r l).trans (by rw [low_mk])) ?_
  refine View.allAt_cons_unit _ _ _ _ _ (tile_even 0 (by omega) _ _ r n _ fun r l => scaled_apply 0 (by omega) _ _ _ r l) ?_
  exact View.allAt_nil _ _

/-- The block of keys at an index. -/
theorem outK_apply (r : Fin 512) (n : Fin 2048) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r n)
      = pick (fun r n => k0_pay9 (F := Ideal) (k0_pay4 x1 x7) x11 (ix2 r n))
          (fun r n => k0_pay11 (F := Ideal) (k0_pay1 x4) (k0_pay2 x5) x2 x3 (ix2 r (low n))) r n := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12)]
  refine View.canon_eq_of_allAt _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r n)) ?_
  unfold kernelRun0_A
  dsimp only
  sl_unfold_words
  simp only [View.readAt_eq_ld, View.ld_unit_zero (S := S512x512) hz, View.ld_unit_zero (S := S512x128) hz, View.ld_unit_zero (S := S1x512) hz, View.ld_unit_zero (S := S512x1024) hz, harg1.read_unread, harg2.read_unread, harg3.read_unread, harg4.read_unread, harg5.read_unread, harg6.read_unread, harg7.read_unread, harg8.read_unread, harg9.read_unread, harg10.read_unread, harg11.read_unread, harg12.read_unread, harg13.read_unread]
  refine View.allAt_cons_unit _ _ _ _ _ (tile_odd 7 (by omega) _ _ r n _ fun r l => by rw [low_mk]) ?_
  refine View.allAt_cons_unit _ _ _ _ _ (tile_even 7 (by omega) _ _ r n _ fun r l => plain_apply 7 (by omega) _ _ _ r l) ?_
  refine View.allAt_cons_unit _ _ _ _ _ (tile_odd 6 (by omega) _ _ r n _ fun r l => by rw [low_mk]) ?_
  refine View.allAt_cons_unit _ _ _ _ _ (tile_even 6 (by omega) _ _ r n _ fun r l => plain_apply 6 (by omega) _ _ _ r l) ?_
  refine View.allAt_cons_unit _ _ _ _ _ (tile_odd 5 (by omega) _ _ r n _ fun r l => by rw [low_mk]) ?_
  refine View.allAt_cons_unit _ _ _ _ _ (tile_even 5 (by omega) _ _ r n _ fun r l => plain_apply 5 (by omega) _ _ _ r l) ?_
  refine View.allAt_cons_unit _ _ _ _ _ (tile_odd 4 (by omega) _ _ r n _ fun r l => by rw [low_mk]) ?_
  refine View.allAt_cons_unit _ _ _ _ _ (tile_even 4 (by omega) _ _ r n _ fun r l => plain_apply 4 (by omega) _ _ _ r l) ?_
  refine View.allAt_cons_unit _ _ _ _ _ (tile_odd 3 (by omega) _ _ r n _ fun r l => by rw [low_mk]) ?_
  refine View.allAt_cons_unit _ _ _ _ _ (tile_even 3 (by omega) _ _ r n _ fun r l => plain_apply 3 (by omega) _ _ _ r l) ?_
  refine View.allAt_cons_unit _ _ _ _ _ (tile_odd 2 (by omega) _ _ r n _ fun r l => by rw [low_mk]) ?_
  refine View.allAt_cons_unit _ _ _ _ _ (tile_even 2 (by omega) _ _ r n _ fun r l => plain_apply 2 (by omega) _ _ _ r l) ?_
  refine View.allAt_cons_unit _ _ _ _ _ (tile_odd 1 (by omega) _ _ r n _ fun r l => by rw [low_mk]) ?_
  refine View.allAt_cons_unit _ _ _ _ _ (tile_even 1 (by omega) _ _ r n _ fun r l => plain_apply 1 (by omega) _ _ _ r l) ?_
  refine View.allAt_cons_unit _ _ _ _ _ (tile_odd 0 (by omega) _ _ r n _ fun r l => by rw [low_mk]) ?_
  refine View.allAt_cons_unit _ _ _ _ _ (tile_even 0 (by omega) _ _ r n _ fun r l => plain_apply 0 (by omega) _ _ _ r l) ?_
  exact View.allAt_nil _ _

end Point

end Cert.Mla

end
-- ==== Proof.MlaPrep.lean ====
/- The latent attention's queries, keys and values: what the kernel leaves in its three arrays. -/
module

public import Idealize.ShloMosaic.Lib.Pipeline.Covers
public import Idealize.ShloMosaic.Lib.StableHlo.ReadAt
public import Idealize.ShloMosaic.Lib.Pointwise
public import Idealize.ShloMosaic.Lib.IdealHost
public import proofs.«01_k».proof.Proof.MlaTiles
public import proofs.«01_k».proof.Proof.MlaRef

@[expose] public section

set_option maxRecDepth 16384

noncomputable section

namespace Cert.Mla

open Idealize.ShloMosaic Idealize.ShloMosaic.TcCoe Idealize.SL.Sem

open Cert.Kernel9Ideal Cert.Kernel9Ideal.Gen

variable (m : (ℓ : Loc nD τ sig) → Buf (Elt Ideal) ℓ)

/-- The narrow projections, by row and column. -/
def aX (c : Dev nD) (R : Fin 16384) (d : Fin 1408) : EReal := (m ((c : Thread nD τ).loc main_arg0) : FVec Ideal S16384x1408 .f32) (ix2 R d)

/-- The cosines, by row and frequency. -/
def aC (c : Dev nD) (R : Fin 16384) (d : Fin 32) : EReal := (m ((c : Thread nD τ).loc main_arg1) : FVec Ideal S16384x32 .f32) (ix2 R d)

/-- The sines, by row and frequency. -/
def aS (c : Dev nD) (R : Fin 16384) (d : Fin 32) : EReal := (m ((c : Thread nD τ).loc main_arg2) : FVec Ideal S16384x32 .f32) (ix2 R d)

/-- The gains of the queries' latent. -/
def aG (c : Dev nD) (d : Fin 512) : EReal := (m ((c : Thread nD τ).loc main_arg3) : FVec Ideal S512 .f32) (ix1 d)

/-- The gains of the latent of keys and values. -/
def aK (c : Dev nD) (d : Fin 512) : EReal := (m ((c : Thread nD τ).loc main_arg4) : FVec Ideal S512 .f32) (ix1 d)

/-- The weights of the queries. -/
def aWQ (c : Dev nD) (d : Fin 512) (n : Fin 1536) : EReal := (m ((c : Thread nD τ).loc main_arg5) : FVec Ideal S512x1536 .f32) (ix2 d n)

/-- The weights of keys and values. -/
def aWK (c : Dev nD) (d : Fin 512) (n : Fin 2048) : EReal := (m ((c : Thread nD τ).loc main_arg6) : FVec Ideal S512x2048 .f32) (ix2 d n)

/-- An entry of the queries' matrix, by its number. -/
theorem wq_eq (c : Dev nD) (d : Fin 512) (a b : Fin 1536) (h : a.val = b.val) :
    (m (c, Proc.tc.devRef main_arg5) : FVec Ideal S512x1536 .f32) (ix2 d a) = aWQ m c d b := by
  obtain rfl : a = b := Fin.ext h
  rfl

/-- An entry of the keys' matrix, by its number. -/
theorem wk_eq (c : Dev nD) (d : Fin 512) (a b : Fin 2048) (h : a.val = b.val) :
    (m (c, Proc.tc.devRef main_arg6) : FVec Ideal S512x2048 .f32) (ix2 d a) = aWK m c d b := by
  obtain rfl : a = b := Fin.ext h
  rfl

/-- The queries' weights without position, as the kernel receives them, -/
theorem V_v3 (c : Dev nD) (d : Fin 512) (n : Fin 1024) :
    (V m c main_v3 : FVec Ideal S512x1024 .bf16) (ix2 d n) = aWQ m c d ⟨192 * (n.val / 128) + n.val % 128, by omega⟩ := by
  unfold V
  after_reads_at
  exact wq_eq m c d _ _ (by dsimp only; omega)

/-- those that are turned, -/
theorem V_v9 (c : Dev nD) (d : Fin 512) (n : Fin 1024) (h : n.val % 128 < 64) :
    (V m c main_v9 : FVec Ideal S512x1024 .bf16) (ix2 d n) = aWQ m c d ⟨192 * (n.val / 128) + 128 + n.val % 128, by omega⟩ := by
  unfold V
  after_reads_at
  by_cases h1 : n.val % 128 < 32
  · rw [dif_pos h1]
    after_reads_at
    exact wq_eq m c d _ _ (by dsimp only; omega)
  · rw [dif_neg h1, dif_pos (by omega)]
    after_reads_at
    exact wq_eq m c d _ _ (by dsimp only; omega)

/-- those that are turned, with their halves swapped: the first half -/
theorem V_v12a (c : Dev nD) (d : Fin 512) (n : Fin 1024) (h : n.val % 128 < 32) :
    (V m c main_v12 : FVec Ideal S512x1024 .bf16) (ix2 d n) = aWQ m c d ⟨192 * (n.val / 128) + 160 + n.val % 128, by omega⟩ := by
  unfold V
  after_reads_at
  rw [dif_pos h]
  after_reads_at
  exact wq_eq m c d _ _ (by dsimp only; omega)

/-- and the second. -/
theorem V_v12b (c : Dev nD) (d : Fin 512) (n : Fin 1024) (h : 32 ≤ n.val % 128 ∧ n.val % 128 < 64) :
    (V m c main_v12 : FVec Ideal S512x1024 .bf16) (ix2 d n) = aWQ m c d ⟨192 * (n.val / 128) + 96 + n.val % 128, by omega⟩ := by
  unfold V
  after_reads_at
  rw [dif_neg (by omega), dif_pos (by omega)]
  after_reads_at
  exact wq_eq m c d _ _ (by dsimp only; omega)

/-- The keys' weights, as the kernel receives them, -/
theorem V_v16 (c : Dev nD) (d : Fin 512) (n : Fin 1024) :
    (V m c main_v16 : FVec Ideal S512x1024 .bf16) (ix2 d n) = aWK m c d ⟨256 * (n.val / 128) + n.val % 128, by omega⟩ := by
  unfold V
  after_reads_at
  exact wk_eq m c d _ _ (by dsimp only; omega)

/-- and the values'. -/
theorem V_v19 (c : Dev nD) (d : Fin 512) (n : Fin 1024) :
    (V m c main_v19 : FVec Ideal S512x1024 .bf16) (ix2 d n) = aWK m c d ⟨256 * (n.val / 128) + 128 + n.val % 128, by omega⟩ := by
  unfold V
  after_reads_at
  exact wk_eq m c d _ _ (by dsimp only; omega)

/-- The table of cosines: its first half, -/
theorem V_v21a (c : Dev nD) (R : Fin 16384) (l : Fin 128) (h : l.val < 32) :
    (V m c main_v21 : FVec Ideal S16384x128 .f32) (ix2 R l) = aC m c R ⟨l.val, h⟩ := by
  unfold V aC
  after_reads_at
  rw [dif_pos h]

/-- its second half, -/
theorem V_v21b (c : Dev nD) (R : Fin 16384) (l : Fin 128) (h : 32 ≤ l.val ∧ l.val < 64) :
    (V m c main_v21 : FVec Ideal S16384x128 .f32) (ix2 R l) = aC m c R ⟨l.val - 32, by omega⟩ := by
  unfold V aC
  after_reads_at
  rw [dif_neg (by omega), dif_pos (by omega)]

/-- and its zeros. -/
theorem V_v21c (c : Dev nD) (R : Fin 16384) (l : Fin 128) (h : 64 ≤ l.val) :
    (V m c main_v21 : FVec Ideal S16384x128 .f32) (ix2 R l) = (0 : EReal) := by
  unfold V
  after_reads_at
  rw [dif_neg (by omega), dif_neg (by omega)]
  after_reads_at

/-- The table of signed sines: its first half, -/
theorem V_v23a (c : Dev nD) (R : Fin 16384) (l : Fin 128) (h : l.val < 32) :
    (V m c main_v23 : FVec Ideal S16384x128 .f32) (ix2 R l) = -aS m c R ⟨l.val, h⟩ := by
  unfold V aS
  after_reads_at
  rw [dif_pos h]
  after_reads_at

/-- its second half, -/
theorem V_v23b (c : Dev nD) (R : Fin 16384) (l : Fin 128) (h : 32 ≤ l.val ∧ l.val < 64) :
    (V m c main_v23 : FVec Ideal S16384x128 .f32) (ix2 R l) = aS m c R ⟨l.val - 32, by omega⟩ := by
  unfold V aS
  after_reads_at
  rw [dif_neg (by omega), dif_pos (by omega)]

/-- and its zeros. -/
theorem V_v23c (c : Dev nD) (R : Fin 16384) (l : Fin 128) (h : 64 ≤ l.val) :
    (V m c main_v23 : FVec Ideal S16384x128 .f32) (ix2 R l) = (0 : EReal) := by
  unfold V
  after_reads_at
  rw [dif_neg (by omega), dif_neg (by omega)]
  after_reads_at

/-- The row of gains of the queries' latent, -/
theorem V_v24 (c : Dev nD) (l : Fin 512) :
    (V m c main_v24 : FVec Ideal S1x512 .f32) (ix2 0 l) = aG m c l := by
  unfold V aG
  after_reads_at

/-- and of the other. -/
theorem V_v25 (c : Dev nD) (l : Fin 512) :
    (V m c main_v25 : FVec Ideal S1x512 .f32) (ix2 0 l) = aK m c l := by
  unfold V aK
  after_reads_at

/-- Where the block of window 0 stands at each grid point. -/
theorem idx0 : ∀ t : Fin cfg0.N, (cfg0.win 0).index t = ![t.val, 0] := by decide +kernel

/-- Where the block of window 1 stands at each grid point. -/
theorem idx1 : ∀ t : Fin cfg0.N, (cfg0.win 1).index t = ![t.val, 1] := by decide +kernel

/-- Where the block of window 2 stands at each grid point. -/
theorem idx2 : ∀ t : Fin cfg0.N, (cfg0.win 2).index t = ![t.val, 8] := by decide +kernel

/-- Where the block of window 3 stands at each grid point. -/
theorem idx3 : ∀ t : Fin cfg0.N, (cfg0.win 3).index t = ![t.val, 9] := by decide +kernel

/-- Where the block of window 4 stands at each grid point. -/
theorem idx4 : ∀ t : Fin cfg0.N, (cfg0.win 4).index t = ![t.val, 0] := by decide +kernel

/-- Where the block of window 5 stands at each grid point. -/
theorem idx5 : ∀ t : Fin cfg0.N, (cfg0.win 5).index t = ![t.val, 0] := by decide +kernel

/-- Where the block of window 6 stands at each grid point. -/
theorem idx6 : ∀ t : Fin cfg0.N, (cfg0.win 6).index t = ![0, 0] := by decide +kernel

/-- Where the block of window 7 stands at each grid point. -/
theorem idx7 : ∀ t : Fin cfg0.N, (cfg0.win 7).index t = ![0, 0] := by decide +kernel

/-- Where the block of window 8 stands at each grid point. -/
theorem idx8 : ∀ t : Fin cfg0.N, (cfg0.win 8).index t = ![0, 0] := by decide +kernel

/-- Where the block of window 9 stands at each grid point. -/
theorem idx9 : ∀ t : Fin cfg0.N, (cfg0.win 9).index t = ![0, 0] := by decide +kernel

/-- Where the block of window 10 stands at each grid point. -/
theorem idx10 : ∀ t : Fin cfg0.N, (cfg0.win 10).index t = ![0, 0] := by decide +kernel

/-- Where the block of window 11 stands at each grid point. -/
theorem idx11 : ∀ t : Fin cfg0.N, (cfg0.win 11).index t = ![0, 0] := by decide +kernel

/-- Where the block of window 12 stands at each grid point. -/
theorem idx12 : ∀ t : Fin cfg0.N, (cfg0.win 12).index t = ![0, 0] := by decide +kernel

/-- Where the block of window 13 stands at each grid point. -/
theorem idx13 : ∀ t : Fin cfg0.N, (cfg0.win 13).index t = ![t.val, 0] := by decide +kernel

/-- Where the block of window 14 stands at each grid point. -/
theorem idx14 : ∀ t : Fin cfg0.N, (cfg0.win 14).index t = ![t.val, 0] := by decide +kernel

/-- Where the block of window 15 stands at each grid point. -/
theorem idx15 : ∀ t : Fin cfg0.N, (cfg0.win 15).index t = ![t.val, 0] := by decide +kernel

/-- A block of the queries' latent. -/
theorem blk0 (c : Dev nD) (t : Fin cfg0.N) (r : Fin 512) (d : Fin 512) (R : Fin 16384) (hR : R.val = 512 * t.val + r.val) :
    X0_0 m c t (ix2 r d) = aX m c R ⟨d.val, by omega⟩ := by
  unfold aX X0_0 Pipeline.Window.fill
  rw [dif_pos (moved0_0 t (ix2 r d))]
  blk_ext [iblk, V, idx0 t]

/-- A block of the latent of keys and values. -/
theorem blk1 (c : Dev nD) (t : Fin cfg0.N) (r : Fin 512) (d : Fin 512) (R : Fin 16384) (hR : R.val = 512 * t.val + r.val) :
    X0_1 m c t (ix2 r d) = aX m c R ⟨512 + d.val, by omega⟩ := by
  unfold aX X0_1 Pipeline.Window.fill
  rw [dif_pos (moved0_1 t (ix2 r d))]
  blk_ext [iblk, V, idx1 t]

/-- A block of the rotary key. -/
theorem blk2 (c : Dev nD) (t : Fin cfg0.N) (r : Fin 512) (d : Fin 128) (R : Fin 16384) (hR : R.val = 512 * t.val + r.val) :
    iblk m c 2 t (ix2 r d) = aX m c R ⟨1024 + d.val, by omega⟩ := by
  unfold aX
  blk_ext [iblk, V, idx2 t]

/-- A block of the rotary key with its halves swapped. -/
theorem blk3 (c : Dev nD) (t : Fin cfg0.N) (r : Fin 512) (d : Fin 128) (R : Fin 16384) (hR : R.val = 512 * t.val + r.val) :
    iblk m c 3 t (ix2 r d) = aX m c R ⟨1152 + d.val, by omega⟩ := by
  unfold aX
  blk_ext [iblk, V, idx3 t]

/-- A block of the cosines, -/
theorem blk4 (c : Dev nD) (t : Fin cfg0.N) (r : Fin 512) (l : Fin 128) (R : Fin 16384) (hR : R.val = 512 * t.val + r.val) :
    iblk m c 4 t (ix2 r l) = (V m c main_v21 : FVec Ideal S16384x128 .f32) (ix2 R l) := by
  blk_ext [iblk, idx4 t]

/-- and of the signed sines. -/
theorem blk5 (c : Dev nD) (t : Fin cfg0.N) (r : Fin 512) (l : Fin 128) (R : Fin 16384) (hR : R.val = 512 * t.val + r.val) :
    iblk m c 5 t (ix2 r l) = (V m c main_v23 : FVec Ideal S16384x128 .f32) (ix2 R l) := by
  blk_ext [iblk, idx5 t]

/-- The gains of the queries' latent, -/
theorem blk6 (c : Dev nD) (t : Fin cfg0.N) (l : Fin 512) : iblk m c 6 t (ix2 0 l) = aG m c l := by
  have e : iblk m c 6 t (ix2 0 l) = (V m c main_v24 : FVec Ideal S1x512 .f32) (ix2 0 l) := by
    blk_ext [iblk, idx6 t]
  rw [e, V_v24]

/-- and of the other. -/
theorem blk7 (c : Dev nD) (t : Fin cfg0.N) (l : Fin 512) : iblk m c 7 t (ix2 0 l) = aK m c l := by
  have e : iblk m c 7 t (ix2 0 l) = (V m c main_v25 : FVec Ideal S1x512 .f32) (ix2 0 l) := by
    blk_ext [iblk, idx7 t]
  rw [e, V_v25]

/-- The queries' weights without position, -/
theorem blk8 (c : Dev nD) (t : Fin cfg0.N) (d : Fin 512) (n : Fin 1024) : iblk m c 8 t (ix2 d n) = (V m c main_v3 : FVec Ideal S512x1024 .bf16) (ix2 d n) := by
  blk_ext [iblk, idx8 t]

/-- those turned, -/
theorem blk9 (c : Dev nD) (t : Fin cfg0.N) (d : Fin 512) (n : Fin 1024) : iblk m c 9 t (ix2 d n) = (V m c main_v9 : FVec Ideal S512x1024 .bf16) (ix2 d n) := by
  blk_ext [iblk, idx9 t]

/-- those turned, with their halves swapped, -/
theorem blk10 (c : Dev nD) (t : Fin cfg0.N) (d : Fin 512) (n : Fin 1024) : iblk m c 10 t (ix2 d n) = (V m c main_v12 : FVec Ideal S512x1024 .bf16) (ix2 d n) := by
  blk_ext [iblk, idx10 t]

/-- the keys' weights -/
theorem blk11 (c : Dev nD) (t : Fin cfg0.N) (d : Fin 512) (n : Fin 1024) : iblk m c 11 t (ix2 d n) = (V m c main_v16 : FVec Ideal S512x1024 .bf16) (ix2 d n) := by
  blk_ext [iblk, idx11 t]

/-- and the values'. -/
theorem blk12 (c : Dev nD) (t : Fin cfg0.N) (d : Fin 512) (n : Fin 1024) : iblk m c 12 t (ix2 d n) = (V m c main_v19 : FVec Ideal S512x1024 .bf16) (ix2 d n) := by
  blk_ext [iblk, idx12 t]

/-- The normalised latent of the queries. -/
theorem pay3_apply (x : FVec Ideal S512x512 .f32) (g : FVec Ideal S1x512 .f32) (r d : Fin 512) :
    k0_pay3 (F := Ideal) x g (ix2 r d) = rms (fun d => x (ix2 r d)) (fun d => g (ix2 0 d)) d := by
  unfold k0_pay3
  pointwise
  rfl

/-- The normalised latent of the keys and values. -/
theorem pay4_apply (x : FVec Ideal S512x512 .f32) (g : FVec Ideal S1x512 .f32) (r d : Fin 512) :
    k0_pay4 (F := Ideal) x g (ix2 r d) = rms (fun d => x (ix2 r d)) (fun d => g (ix2 0 d)) d := by
  unfold k0_pay4
  pointwise
  rfl

/-- The products for the queries' columns without position. -/
theorem pay6_apply (x : FVec Ideal S512x512 .bf16) (w : FVec Ideal S512x1024 .bf16) (r : Fin 512) (n : Fin 1024) :
    k0_pay6 (F := Ideal) x (k0_pay5 w) (constant S512x1024 .f32 0x00000000#32) (ix2 r n) = ∑ d : Fin 512, x (ix2 r d) * w (ix2 d n) := by
  unfold k0_pay6 k0_pay5
  pointwise

/-- The products for the turned columns. -/
theorem pay7_apply (x : FVec Ideal S512x512 .bf16) (w : FVec Ideal S512x1024 .bf16) (r : Fin 512) (n : Fin 1024) :
    k0_pay7 (F := Ideal) x w (ix2 r n) = ∑ d : Fin 512, x (ix2 r d) * w (ix2 d n) := by
  unfold k0_pay7
  pointwise

/-- The products for the turned columns, their halves swapped. -/
theorem pay8_apply (x : FVec Ideal S512x512 .bf16) (w : FVec Ideal S512x1024 .bf16) (r : Fin 512) (n : Fin 1024) :
    k0_pay8 (F := Ideal) x w (ix2 r n) = ∑ d : Fin 512, x (ix2 r d) * w (ix2 d n) := by
  unfold k0_pay8
  pointwise

/-- The products for the keys. -/
theorem pay9_apply (x : FVec Ideal S512x512 .bf16) (w : FVec Ideal S512x1024 .bf16) (r : Fin 512) (n : Fin 1024) :
    k0_pay9 (F := Ideal) x w (ix2 r n) = ∑ d : Fin 512, x (ix2 r d) * w (ix2 d n) := by
  unfold k0_pay9
  pointwise

/-- The products for the values. -/
theorem pay10_apply (x : FVec Ideal S512x512 .bf16) (w : FVec Ideal S512x1024 .bf16) (r : Fin 512) (n : Fin 1024) :
    k0_pay10 (F := Ideal) x w (ix2 r n) = ∑ d : Fin 512, x (ix2 r d) * w (ix2 d n) := by
  unfold k0_pay10
  pointwise

/-- The rotary key, turned. -/
theorem pay11_apply (x4 x5 x2 x3 : FVec Ideal S512x128 .f32) (r : Fin 512) (l : Fin 128) :
    k0_pay11 (F := Ideal) (k0_pay1 x4) (k0_pay2 x5) x2 x3 (ix2 r l) = x2 (ix2 r l) * x4 (ix2 r l) + x3 (ix2 r l) * x5 (ix2 r l) := by
  unfold k0_pay11 k0_pay1 k0_pay2
  pointwise

/-- The cosines, as they are read, -/
theorem pay1_apply (x : FVec Ideal S512x128 .f32) (r : Fin 512) (l : Fin 128) : k0_pay1 (F := Ideal) x (ix2 r l) = x (ix2 r l) := by
  unfold k0_pay1
  pointwise
/-- and the sines. -/
theorem pay2_apply (x : FVec Ideal S512x128 .f32) (r : Fin 512) (l : Fin 128) : k0_pay2 (F := Ideal) x (ix2 r l) = x (ix2 r l) := by
  unfold k0_pay2
  pointwise

/-- The products of a normalised block of the queries' latent are those of its rows. -/
theorem sumQ (c : Dev nD) (t : Fin cfg0.N) (r : Fin 512) (R : Fin 16384) (hR : R.val = 512 * t.val + r.val) (w : Fin 512 → EReal) (a : Fin 1536) (hw : ∀ d, w d = aWQ m c d a) :
    ∑ d : Fin 512, k0_pay3 (F := Ideal) (X0_0 m c t) (iblk m c 6 t) (ix2 r d) * w d = projQ (aX m c) (aG m c) (aWQ m c) R a := by
  unfold projQ
  refine Finset.sum_congr (M := EReal) rfl fun d _ => ?_
  rw [pay3_apply, hw]
  simp only [blk0 m c t r _ R hR, blk6]

/-- The products of a normalised block of the latent of keys and values are those of its rows. -/
theorem sumK (c : Dev nD) (t : Fin cfg0.N) (r : Fin 512) (R : Fin 16384) (hR : R.val = 512 * t.val + r.val) (w : Fin 512 → EReal) (a : Fin 2048) (hw : ∀ d, w d = aWK m c d a) :
    ∑ d : Fin 512, k0_pay4 (F := Ideal) (X0_1 m c t) (iblk m c 7 t) (ix2 r d) * w d = projK (aX m c) (aK m c) (aWK m c) R a := by
  unfold projK
  refine Finset.sum_congr (M := EReal) rfl fun d _ => ?_
  rw [pay4_apply, hw]
  simp only [blk1 m c t r _ R hR, blk7]

/-- The turned columns of a block of queries, in the part that is not zero. -/
theorem prodA (c : Dev nD) (t : Fin cfg0.N) (r : Fin 512) (R : Fin 16384) (hR : R.val = 512 * t.val + r.val) (j : Fin 1024) (hj : j.val % 128 < 64) (a : Fin 1536) (ha : a.val = 192 * (j.val / 128) + 128 + j.val % 128) :
    k0_pay7 (F := Ideal) (k0_pay3 (X0_0 m c t) (iblk m c 6 t)) (iblk m c 9 t) (ix2 r j) = projQ (aX m c) (aG m c) (aWQ m c) R a := by
  rw [show projQ (aX m c) (aG m c) (aWQ m c) R a = projQ (aX m c) (aG m c) (aWQ m c) R ⟨192 * (j.val / 128) + 128 + j.val % 128, by omega⟩ from congrArg _ (Fin.ext ha)]
  exact (pay7_apply _ _ r j).trans (sumQ m c t r R hR _ _ fun d => (blk9 m c t d j).trans (V_v9 m c d j hj))

/-- The same with the halves swapped: the first half -/
theorem prodB1 (c : Dev nD) (t : Fin cfg0.N) (r : Fin 512) (R : Fin 16384) (hR : R.val = 512 * t.val + r.val) (j : Fin 1024) (hj : j.val % 128 < 32) (a : Fin 1536) (ha : a.val = 192 * (j.val / 128) + 160 + j.val % 128) :
    k0_pay8 (F := Ideal) (k0_pay3 (X0_0 m c t) (iblk m c 6 t)) (iblk m c 10 t) (ix2 r j) = projQ (aX m c) (aG m c) (aWQ m c) R a := by
  rw [show projQ (aX m c) (aG m c) (aWQ m c) R a = projQ (aX m c) (aG m c) (aWQ m c) R ⟨192 * (j.val / 128) + 160 + j.val % 128, by omega⟩ from congrArg _ (Fin.ext ha)]
  exact (pay8_apply _ _ r j).trans (sumQ m c t r R hR _ _ fun d => (blk10 m c t d j).trans (V_v12a m c d j hj))
/-- and the second. -/
theorem prodB2 (c : Dev nD) (t : Fin cfg0.N) (r : Fin 512) (R : Fin 16384) (hR : R.val = 512 * t.val + r.val) (j : Fin 1024) (hj : 32 ≤ j.val % 128 ∧ j.val % 128 < 64) (a : Fin 1536) (ha : a.val = 192 * (j.val / 128) + 96 + j.val % 128) :
    k0_pay8 (F := Ideal) (k0_pay3 (X0_0 m c t) (iblk m c 6 t)) (iblk m c 10 t) (ix2 r j) = projQ (aX m c) (aG m c) (aWQ m c) R a := by
  rw [show projQ (aX m c) (aG m c) (aWQ m c) R a = projQ (aX m c) (aG m c) (aWQ m c) R ⟨192 * (j.val / 128) + 96 + j.val % 128, by omega⟩ from congrArg _ (Fin.ext ha)]
  exact (pay8_apply _ _ r j).trans (sumQ m c t r R hR _ _ fun d => (blk10 m c t d j).trans (V_v12b m c d j hj))

/-- A turned column of a block of queries. -/
theorem turnQ (c : Dev nD) (t : Fin cfg0.N) (r : Fin 512) (R : Fin 16384) (hR : R.val = 512 * t.val + r.val) (j : Fin 1024) (n : Fin 2048) (hn : n.val / 256 = j.val / 128) (hm : n.val % 256 = 128 + j.val % 128) :
    (k0_pay7 (F := Ideal) (k0_pay3 (X0_0 m c t) (iblk m c 6 t)) (iblk m c 9 t) (ix2 r j) * k0_pay1 (F := Ideal) (iblk m c 4 t) (ix2 r (low j))
      + k0_pay8 (F := Ideal) (k0_pay3 (X0_0 m c t) (iblk m c 6 t)) (iblk m c 10 t) (ix2 r j) * k0_pay2 (F := Ideal) (iblk m c 5 t) (ix2 r (low j))) * scale
      = specQ (aX m c) (aC m c) (aS m c) (aG m c) (aWQ m c) R n := by
  have hj := j.isLt
  have e4 : k0_pay1 (F := Ideal) (iblk m c 4 t) (ix2 r (low j)) = (V m c main_v21 : FVec Ideal S16384x128 .f32) (ix2 R (low j)) := (pay1_apply _ r _).trans (blk4 m c t r _ R hR)
  have e5 : k0_pay2 (F := Ideal) (iblk m c 5 t) (ix2 r (low j)) = (V m c main_v23 : FVec Ideal S16384x128 .f32) (ix2 R (low j)) := (pay2_apply _ r _).trans (blk5 m c t r _ R hR)
  rw [e4, e5]
  by_cases h1 : j.val % 128 < 32
  · rw [V_v21a m c R (low j) h1, V_v23a m c R (low j) h1, prodA m c t r R hR j (by omega) ⟨192 * (j.val / 128) + 128 + j.val % 128, by omega⟩ rfl,
      prodB1 m c t r R hR j h1 ⟨192 * (j.val / 128) + 160 + j.val % 128, by omega⟩ rfl, mul_neg, ← sub_eq_add_neg]
    exact (specQ_first _ _ _ _ _ R n ⟨j.val % 128, h1⟩ _ _ hm (by dsimp only; omega) (by dsimp only; omega)).symm
  · by_cases h2 : j.val % 128 < 64
    · rw [V_v21b m c R (low j) ⟨Nat.le_of_not_lt h1, h2⟩, V_v23b m c R (low j) ⟨Nat.le_of_not_lt h1, h2⟩, prodA m c t r R hR j (by omega) ⟨192 * (j.val / 128) + 128 + j.val % 128, by omega⟩ rfl,
        prodB2 m c t r R hR j (by omega) ⟨192 * (j.val / 128) + 96 + j.val % 128, by omega⟩ rfl]
      exact (specQ_second _ _ _ _ _ R n ⟨j.val % 128 - 32, by omega⟩ _ _ (by dsimp only; omega) (by dsimp only; omega) (by dsimp only; omega)).symm
    · rw [V_v21c m c R (low j) (Nat.le_of_not_lt h2), V_v23c m c R (low j) (Nat.le_of_not_lt h2), mul_zero, mul_zero, add_zero, zero_mul]
      exact (specQ_zero _ _ _ _ _ R n (by omega)).symm

/-- A turned column of a block of keys. -/
theorem turnK (c : Dev nD) (t : Fin cfg0.N) (r : Fin 512) (R : Fin 16384) (hR : R.val = 512 * t.val + r.val) (j : Fin 1024) (n : Fin 2048) (hm : n.val % 256 = 128 + j.val % 128) :
    k0_pay11 (F := Ideal) (k0_pay1 (iblk m c 4 t)) (k0_pay2 (iblk m c 5 t)) (iblk m c 2 t) (iblk m c 3 t) (ix2 r (low j))
      = specK (aX m c) (aC m c) (aS m c) (aK m c) (aWK m c) R n := by
  have hj := j.isLt
  refine (pay11_apply _ _ _ _ r _).trans ?_
  rw [blk2 m c t r _ R hR, blk3 m c t r _ R hR, blk4 m c t r _ R hR, blk5 m c t r _ R hR]
  by_cases h1 : j.val % 128 < 32
  · rw [V_v21a m c R (low j) h1, V_v23a m c R (low j) h1, mul_neg, ← sub_eq_add_neg]
    exact (specK_first _ _ _ _ _ R n ⟨j.val % 128, h1⟩ hm).symm
  · by_cases h2 : j.val % 128 < 64
    · rw [V_v21b m c R (low j) ⟨Nat.le_of_not_lt h1, h2⟩, V_v23b m c R (low j) ⟨Nat.le_of_not_lt h1, h2⟩]
      refine Eq.trans ?_ (specK_second _ _ _ _ _ R n ⟨j.val % 128 - 32, by omega⟩ (by dsimp only; omega)).symm
      have f1 : (⟨1056 + (j.val % 128 - 32), by omega⟩ : Fin 1408) = ⟨1024 + (low j).val, by omega⟩ := Fin.ext (by show 1056 + (j.val % 128 - 32) = 1024 + j.val % 128; omega)
      have f2 : (⟨1184 + (j.val % 128 - 32), by omega⟩ : Fin 1408) = ⟨1152 + (low j).val, by omega⟩ := Fin.ext (by show 1184 + (j.val % 128 - 32) = 1152 + j.val % 128; omega)
      dsimp only
      rw [f1, f2]
      rfl
    · rw [V_v21c m c R (low j) (Nat.le_of_not_lt h2), V_v23c m c R (low j) (Nat.le_of_not_lt h2), mul_zero, mul_zero, add_zero]
      exact (specK_zero _ _ _ _ _ R n (by omega)).symm

/-- The array of queries, -/
def GQ (c : Dev nD) : FVec Ideal S16384x2048 .bf16 := fun y => specQ (aX m c) (aC m c) (aS m c) (aG m c) (aWQ m c) (y 0) (y 1)
/-- of keys, -/
def GK (c : Dev nD) : FVec Ideal S16384x2048 .bf16 := fun y => specK (aX m c) (aC m c) (aS m c) (aK m c) (aWK m c) (y 0) (y 1)
/-- and of values. -/
def GV (c : Dev nD) : FVec Ideal S16384x1024 .bf16 := fun y => specV (aX m c) (aK m c) (aWK m c) (y 0) (y 1)

/-- Where an element of a block of the queries stands in its array, -/
theorem emb13 (t : Fin cfg0.N) (r : Fin 512) (n : Fin 2048) (R : Fin 16384) (hR : R.val = 512 * t.val + r.val) :
    ((View.whole main_v26_0).slice (win0_13.rect t)).emb (ix2 r n) = ix2 R n := by
  blk_ext [idx13 t]
/-- of the keys, -/
theorem emb14 (t : Fin cfg0.N) (r : Fin 512) (n : Fin 2048) (R : Fin 16384) (hR : R.val = 512 * t.val + r.val) :
    ((View.whole main_v26_1).slice (win0_14.rect t)).emb (ix2 r n) = ix2 R n := by
  blk_ext [idx14 t]
/-- and of the values. -/
theorem emb15 (t : Fin cfg0.N) (r : Fin 512) (n : Fin 1024) (R : Fin 16384) (hR : R.val = 512 * t.val + r.val) :
    ((View.whole main_v26_2).slice (win0_15.rect t)).emb (ix2 r n) = ix2 R n := by
  blk_ext [idx15 t]

/-- The array of queries after the run. -/
theorem arrQ_eq (c : Dev nD) : (dats m 0 c).arrAt 13 cfg0.N = GQ m c := by
  refine (dats m 0 c).arrAt_eq_of_covers 13 _ (by decide +kernel) fun t hf y => ?_
  obtain ⟨r, n, rfl⟩ : ∃ (r : Fin 512) (n : Fin 2048), y = ix2 r n := ⟨y 0, y 1, eq_ix2 y⟩
  have ht : t.val < 32 := lt_of_lt_of_eq t.isLt N_0
  have hr := r.isLt
  have hn := n.isLt
  blk_simp
  rw [after0_13, emb13 t r n ⟨512 * t.val + r.val, by omega⟩ rfl]
  unfold outsAt0
  dsimp only
  rw [outQ_apply]
  show _ = specQ (aX m c) (aC m c) (aS m c) (aG m c) (aWQ m c) ⟨512 * t.val + r.val, by omega⟩ n
  unfold pick
  by_cases h : n.val % 256 < 128
  · rw [dif_pos h]
    refine Eq.trans (congrArg (· * scale) ((pay6_apply _ _ r _).trans (sumQ m c t r ⟨512 * t.val + r.val, by omega⟩ rfl _ ⟨192 * (n.val / 256) + n.val % 256, by omega⟩ fun d => ?_))) (specQ_low _ _ _ _ _ _ n _ h rfl).symm
    rw [blk8, V_v3]
    congr 2
    dsimp only
    omega
  · rw [dif_neg h]
    exact turnQ m c t r ⟨512 * t.val + r.val, by omega⟩ rfl _ n (by dsimp only; omega) (by dsimp only; omega)

/-- The array of keys after the run. -/
theorem arrK_eq (c : Dev nD) : (dats m 0 c).arrAt 14 cfg0.N = GK m c := by
  refine (dats m 0 c).arrAt_eq_of_covers 14 _ (by decide +kernel) fun t hf y => ?_
  obtain ⟨r, n, rfl⟩ : ∃ (r : Fin 512) (n : Fin 2048), y = ix2 r n := ⟨y 0, y 1, eq_ix2 y⟩
  have ht : t.val < 32 := lt_of_lt_of_eq t.isLt N_0
  have hr := r.isLt
  have hn := n.isLt
  blk_simp
  rw [after0_14, emb14 t r n ⟨512 * t.val + r.val, by omega⟩ rfl]
  unfold outsAt0
  dsimp only
  rw [outK_apply]
  show _ = specK (aX m c) (aC m c) (aS m c) (aK m c) (aWK m c) ⟨512 * t.val + r.val, by omega⟩ n
  unfold pick
  by_cases h : n.val % 256 < 128
  · rw [dif_pos h]
    refine Eq.trans ((pay9_apply _ _ r _).trans (sumK m c t r ⟨512 * t.val + r.val, by omega⟩ rfl _ n fun d => ?_)) (specK_low _ _ _ _ _ _ n h).symm
    rw [blk11, V_v16]
    congr 2
    dsimp only
    omega
  · rw [dif_neg h]
    exact turnK m c t r ⟨512 * t.val + r.val, by omega⟩ rfl _ n (by dsimp only; omega)

/-- The array of values after the run. -/
theorem arrV_eq (c : Dev nD) : (dats m 0 c).arrAt 15 cfg0.N = GV m c := by
  refine (dats m 0 c).arrAt_eq_of_covers 15 _ (by decide +kernel) fun t hf y => ?_
  obtain ⟨r, n, rfl⟩ : ∃ (r : Fin 512) (n : Fin 1024), y = ix2 r n := ⟨y 0, y 1, eq_ix2 y⟩
  have ht : t.val < 32 := lt_of_lt_of_eq t.isLt N_0
  have hr := r.isLt
  have hn := n.isLt
  blk_simp
  rw [after0_15, emb15 t r n ⟨512 * t.val + r.val, by omega⟩ rfl]
  unfold outsAt0
  dsimp only
  rw [outV_eq]
  show _ = specV (aX m c) (aK m c) (aWK m c) ⟨512 * t.val + r.val, by omega⟩ n
  refine (pay10_apply _ _ r _).trans (sumK m c t r ⟨512 * t.val + r.val, by omega⟩ rfl _ _ fun d => ?_)
  rw [blk12, V_v19]

end Cert.Mla

end
-- ==== Proof.Norm.lean ====
/- The first normalisation: what the kernel leaves in its array and the reference's result, at an index. -/
module

public import Idealize.ShloMosaic.Lib.Pipeline.Covers
public import Idealize.ShloMosaic.Lib.Pointwise
public import Idealize.ShloMosaic.Lib.IdealHost
public import Idealize.ShloMosaic.Lib.StableHlo.ReadAt
public import proofs.«01_k».proof.Proof.FfnSpec
public import proofs.«01_k».proof.Proof.Gen.Kernel10Ideal.Value
public import proofs.«01_k».proof.Proof.Gen.Reference10Ideal.Read

@[expose] public section

set_option maxRecDepth 16384

noncomputable section

namespace Cert.Norm

open Idealize.ShloMosaic Idealize.ShloMosaic.TcCoe Idealize.SL.Sem
open Cert.Ffn (rms)

section Kernel

open Cert.Kernel10Ideal Cert.Kernel10Ideal.Gen

variable (m : (ℓ : Loc nD τ sig) → Buf (Elt Ideal) ℓ)

/-- The rows, by row and column. -/
def aX (c : Dev nD) (R : Fin 16384) (d : Fin 2048) : EReal := (m ((c : Thread nD τ).loc main_arg0) : FVec Ideal S16384x2048 .f32) (ix2 R d)
/-- The gains. -/
def aG (c : Dev nD) (d : Fin 2048) : EReal := (m ((c : Thread nD τ).loc main_arg1) : FVec Ideal S2048 .f32) (ix1 d)

/-- The result array. -/
def G (c : Dev nD) : FVec Ideal S16384x2048 .bf16 := fun y => rms (aX m c (y 0)) (aG m c) (y 1)

/-- The row of gains, as the kernel receives it. -/
theorem V_v0 (c : Dev nD) (d : Fin 2048) : (V m c main_v0 : FVec Ideal S1x2048 .f32) (ix2 0 d) = aG m c d := by
  unfold V aG
  after_reads_at

/-- The block of rows at each grid point, -/
theorem idx0 : ∀ t : Fin cfg0.N, (cfg0.win 0).index t = ![t.val, 0] := by decide +kernel
/-- of gains, all of them, -/
theorem idx1 : ∀ t : Fin cfg0.N, (cfg0.win 1).index t = ![0, 0] := by decide +kernel
/-- and of the result. -/
theorem idx2 : ∀ t : Fin cfg0.N, (cfg0.win 2).index t = ![t.val, 0] := by decide +kernel

/-- A block of the rows. -/
theorem blk0 (c : Dev nD) (t : Fin cfg0.N) (r : Fin 512) (d : Fin 2048) (R : Fin 16384) (hR : R.val = 512 * t.val + r.val) :
    iblk m c 0 t (ix2 r d) = aX m c R d := by
  unfold aX
  blk_ext [iblk, V, idx0 t]

/-- The block of gains. -/
theorem blk1 (c : Dev nD) (t : Fin cfg0.N) (d : Fin 2048) : iblk m c 1 t (ix2 0 d) = aG m c d := by
  have e : iblk m c 1 t (ix2 0 d) = (V m c main_v0 : FVec Ideal S1x2048 .f32) (ix2 0 d) := by blk_ext [iblk, idx1 t]
  rw [e, V_v0]

/-- Where an element of a block of the result stands in the array. -/
theorem emb2 (t : Fin cfg0.N) (r : Fin 512) (n : Fin 2048) (R : Fin 16384) (hR : R.val = 512 * t.val + r.val) :
    ((View.whole main_v1).slice (win0_2.rect t)).emb (ix2 r n) = ix2 R n := by
  blk_ext [idx2 t]

/-- The block's value at an index. -/
theorem pay1_apply (x : FVec Ideal S512x2048 .f32) (g : FVec Ideal S1x2048 .f32) (r : Fin 512) (d : Fin 2048) :
    k0_pay1 (F := Ideal) x g (ix2 r d) = rms (fun d => x (ix2 r d)) (fun d => g (ix2 0 d)) d := by
  unfold k0_pay1
  pointwise
  rfl

/-- The origin. -/
theorem hz : (![0, 0] : Fin 2 → Nat) = fun _ => 0 := funext fun a => by fin_cases a <;> rfl

/-- What a grid point leaves in the result's block. -/
theorem out_eq (x : FVec Ideal S512x2048 .f32) (g : FVec Ideal S1x2048 .f32) : out0_2 (F := Ideal) x g = k0_pay1 (F := Ideal) x g := by
  unfold out0_2
  simp only [View.canon_unit_zero (S := S512x2048) hz, View.ld_unit_zero (S := S512x2048) hz, View.ld_unit_zero (S := S1x2048) hz]

/-- The result array after the run. -/
theorem arr_eq (c : Dev nD) : (dats m 0 c).arrAt 2 cfg0.N = G m c := by
  refine (dats m 0 c).arrAt_eq_of_covers 2 _ (by decide +kernel) fun t hf y => ?_
  obtain ⟨r, n, rfl⟩ : ∃ (r : Fin 512) (n : Fin 2048), y = ix2 r n := ⟨y 0, y 1, eq_ix2 y⟩
  have ht : t.val < 32 := lt_of_lt_of_eq t.isLt N_0
  have hr := r.isLt
  blk_simp
  rw [after0_2, out_eq, pay1_apply, emb2 t r n ⟨512 * t.val + r.val, by omega⟩ rfl]
  simp only [blk0 m c t r _ ⟨512 * t.val + r.val, by omega⟩ rfl, blk1]
  rfl

end Kernel

section Reference

open Cert.Reference10Ideal Cert.Reference10Ideal.Gen Cert.Reference10Ideal.Read

/-- The reference's result at an index. -/
theorem ref_apply (X : FVec Ideal S16384x2048 .f32) (G : FVec Ideal S2048 .f32) (R : Fin 16384) (d : Fin 2048) :
    val_main_v13 (F := Ideal) X G (ix2 R d) = rms (fun d => X (ix2 R d)) (fun d => G (ix1 d)) d := by
  simp only [val_main_v13_apply, val_main_v12_apply, val_main_v11_apply, val_main_v10_apply, val_main_v9_apply, val_main_v8_apply, val_main_v7_apply, val_main_v6_apply, val_main_v5_apply,
    val_main_v4_apply, val_main_v3_apply, val_main_v2_apply, val_main_v1_apply, val_main_v0_apply, val_main_cst_apply, val_main_cst_0_apply, val_main_cst_1_apply]
  have e0 : ∀ k : Fin 2048, idx_main_v1 (idx_main_v2 (idx_main_v8 (ix2 R d))) k = ix2 R k := fun k => eq_ix2 _
  have e1 : idx_main_v10 (idx_main_v11 (ix2 R d)) = ix1 d := funext fun a => match a with | ⟨0, _⟩ => rfl
  have z : (FloatOps.ofBits (F := Ideal) .f32 0#32 : EReal) = 0 := Ideal.ofBits_zero_f32
  simp only [e0, e1]
  erw [z, zero_add]
  rfl

end Reference

end Cert.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_logits
public import proofs.«01_k».proof.Proof.Gen.Pre_finite_decay
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Array
public import proofs.«01_k».proof.Proof.Ref
public import proofs.«01_k».proof.Proof.FfnState
public import proofs.«01_k».proof.Proof.FfnRef
public import proofs.«01_k».proof.Proof.Gates
public import proofs.«01_k».proof.Proof.Merge
public import proofs.«01_k».proof.Proof.OutProj
public import proofs.«01_k».proof.Proof.FoxValues
public import proofs.«01_k».proof.Proof.FoxPrep
public import proofs.«01_k».proof.Proof.Latents
public import proofs.«01_k».proof.Proof.MlaPrep
public import proofs.«01_k».proof.Proof.Norm
public import Idealize.ShloMosaic.Adequacy
public import Idealize.ShloMosaic.Init

@[expose] public section

noncomputable section

namespace Cert.Proof

open Idealize.ShloMosaic Idealize.SL.Sem Cert.OnlineSoftmax Cert.KernelIdeal.Arr Cert.ReferenceIdeal.Ref

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Kernel5.Facts := Cert.Kernel5.Gen.facts
instance : Cert.Kernel5Ideal.Facts := Cert.Kernel5Ideal.Gen.facts
instance : Cert.Reference5Ideal.Facts := Cert.Reference5Ideal.Gen.facts
instance : Cert.Kernel6.Facts := Cert.Kernel6.Gen.facts
instance : Cert.Kernel6Ideal.Facts := Cert.Kernel6Ideal.Gen.facts
instance : Cert.Reference6Ideal.Facts := Cert.Reference6Ideal.Gen.facts
instance : Cert.Kernel7.Facts := Cert.Kernel7.Gen.facts
instance : Cert.Kernel7Ideal.Facts := Cert.Kernel7Ideal.Gen.facts
instance : Cert.Reference7Ideal.Facts := Cert.Reference7Ideal.Gen.facts
instance : Cert.Kernel8.Facts := Cert.Kernel8.Gen.facts
instance : Cert.Kernel8Ideal.Facts := Cert.Kernel8Ideal.Gen.facts
instance : Cert.Reference8Ideal.Facts := Cert.Reference8Ideal.Gen.facts
instance : Cert.Kernel9.Facts := Cert.Kernel9.Gen.facts
instance : Cert.Kernel9Ideal.Facts := Cert.Kernel9Ideal.Gen.facts
instance : Cert.Reference9Ideal.Facts := Cert.Reference9Ideal.Gen.facts
instance : Cert.Kernel10.Facts := Cert.Kernel10.Gen.facts
instance : Cert.Kernel10Ideal.Facts := Cert.Kernel10Ideal.Gen.facts
instance : Cert.Reference10Ideal.Facts := Cert.Reference10Ideal.Gen.facts
instance : Cert.Pre_finite_decay.Facts := Cert.Pre_finite_decay.Gen.facts
instance : Cert.Pre_finite_logits.Facts := Cert.Pre_finite_logits.Gen.facts

/-- The bf16 pattern of plus infinity is read as `⊤`. -/
theorem ofBits_inf16 : Ideal.ofBits .bf16 0x7F80#16 = ⊤ := by
  show Ideal.ieee 8 7 (0x7F80#16 : BitVec 16) = ⊤
  unfold Ideal.ieee
  dsimp only
  rw [if_pos (by decide), if_pos (by decide), if_neg (by decide)]

/-- An extended real whose absolute value is below `⊤` is real. -/
theorem real_of_abs (x : EReal) (h : max x (-x) < ⊤) : ∃ r : ℝ, x = r := by
  induction x using EReal.rec with
  | bot => exact absurd h (by simp)
  | top => exact absurd h (by simp)
  | coe r => exact ⟨r, rfl⟩

/-- The precondition on one array: all its elements are real. -/
theorem real_of_pre {s : Shape} (X : FVec Ideal s .bf16) (C : FVec Ideal s .bf16) (hC : ∀ x, C x = Ideal.ofBits .bf16 0x7F80#16)
    (h : cmpf .olt (Host.absf X) C = fun _ => 1#1) : ∀ x, ∃ r : ℝ, X x = r := by
  intro x
  have e := congrFun h x
  refine real_of_abs _ ?_
  simp [cmpf, hC, ofBits_inf16] at e
  by_contra hn
  change BitVec.ofBool (decide (max (X x) (-X x) < ⊤)) = 1#1 at e
  rw [decide_eq_false hn] at e
  exact absurd e (by decide)

/-- The reference's run: its arguments end unchanged, and it has no semaphore. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The idealized kernel and the reference end with the same result. -/
theorem alg : Cert.algebraic_KernelIdeal_ReferenceIdeal := by
  intro m g m' g' hpre heq
  have hX : ∀ c x, ∃ r : ℝ, X0 m c x = r := fun c => real_of_pre _ _ (fun _ => rfl) (hpre c).1
  have hY : ∀ c x, ∃ r : ℝ, Y0 m c x = r := fun c => real_of_pre _ _ (fun _ => rfl) (hpre c).2
  refine ⟨fun c => G m c, (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · exact ⟨(h c).1.trans (arr_eq m c (hX c) (hY c)), (h c).2⟩
  · refine ⟨(h c).1.trans ?_, (h c).2⟩
    rw [Cert.ReferenceIdeal.Read.val_main_v34_eq, (heq c).1, (heq c).2.1, (heq c).2.2]
    funext y
    obtain ⟨R, d, rfl⟩ : ∃ (R : Fin 16384) (d : Fin 1024), y = ix2 R d := ⟨y 0, y 1, eq_ix2 y⟩
    exact res_apply _ _ _ (hX c) (hY c) R d

/-- The feed-forward reference's run: its arguments end unchanged, and it has no semaphore. -/
theorem frame_ref2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The idealized feed-forward kernel and its reference end with the same result. -/
theorem alg2 : Cert.algebraic_Kernel2Ideal_Reference2Ideal := by
  intro m g m' g' _ heq
  refine ⟨fun c => Cert.Kernel2Ideal.State.G m c, (θ_run Cert.Kernel2Ideal.defs _ _).mono (fun r h c => ?_) (Cert.Kernel2Ideal.Value.run_blocks m g),
    (θ_run Cert.Reference2Ideal.defs _ _).mono (fun r h c => ?_) (Cert.Reference2Ideal.Value.run m' g')⟩
  · exact ⟨(h c).1.trans (Cert.Kernel2Ideal.State.arr_eq m c), (h c).2⟩
  · refine ⟨(h c).1.trans ?_, (h c).2⟩
    obtain ⟨e0, e1, e2, e3, e4, e5, e6⟩ := heq c
    rw [Cert.Reference2Ideal.Read.val_main_v58_eq, e0, e1, e2, e3, e4, e5, e6]
    funext y
    obtain ⟨R, d, rfl⟩ : ∃ (R : Fin 16384) (d : Fin 2048), y = ix2 R d := ⟨y 0, y 1, eq_ix2 y⟩
    exact Cert.Reference2Ideal.Ref.v58_apply _ _ _ _ _ _ _ R d

/-- The gates projection reference's run: its arguments end unchanged, and it has no semaphore. -/
theorem frame_ref3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The idealized gates projection and its reference end with the same result. -/
theorem alg3 : Cert.algebraic_Kernel3Ideal_Reference3Ideal := by
  intro m g m' g' _ heq
  refine ⟨fun c => Cert.Gates.G m c, (θ_run Cert.Kernel3Ideal.defs _ _).mono (fun r h c => ?_) (Cert.Kernel3Ideal.Value.run_blocks m g),
    (θ_run Cert.Reference3Ideal.defs _ _).mono (fun r h c => ?_) (Cert.Reference3Ideal.Value.run m' g')⟩
  · exact ⟨(h c).1.trans (Cert.Gates.arr_eq m c), (h c).2⟩
  · refine ⟨(h c).1.trans ?_, (h c).2⟩
    obtain ⟨e0, e1⟩ := heq c
    rw [Cert.Reference3Ideal.Read.val_main_v9_eq, e0, e1]
    funext y
    obtain ⟨R, n, rfl⟩ : ∃ (R : Fin 16384) (n : Fin 4096), y = ix2 R n := ⟨y 0, y 1, eq_ix2 y⟩
    exact Cert.Gates.ref_apply _ _ R n

/-- The merge reference's run: its arguments end unchanged, and it has no semaphore. -/
theorem frame_ref4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The idealized merge and its reference end with the same result. -/
theorem alg4 : Cert.algebraic_Kernel4Ideal_Reference4Ideal := by
  intro m g m' g' _ heq
  refine ⟨fun c => Cert.Merge.G m c, (θ_run Cert.Kernel4Ideal.defs _ _).mono (fun r h c => ?_) (Cert.Kernel4Ideal.Value.run_blocks m g),
    (θ_run Cert.Reference4Ideal.defs _ _).mono (fun r h c => ?_) (Cert.Reference4Ideal.Value.run m' g')⟩
  · exact ⟨(h c).1.trans (Cert.Merge.arr_eq m c), (h c).2⟩
  · refine ⟨(h c).1.trans ?_, (h c).2⟩
    obtain ⟨e0, e1, e2, e3, e4⟩ := heq c
    rw [Cert.Reference4Ideal.Read.val_main_v10_eq, e0, e1, e2, e3, e4]
    funext y
    obtain ⟨R, n, rfl⟩ : ∃ (R : Fin 16384) (n : Fin 2048), y = ix2 R n := ⟨y 0, y 1, eq_ix2 y⟩
    exact Cert.Merge.ref_apply _ _ _ _ _ R n

/-- The output projection reference's run: its arguments end unchanged, and it has no semaphore. -/
theorem frame_ref5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The idealized output projection and its reference end with the same result. -/
theorem alg5 : Cert.algebraic_Kernel5Ideal_Reference5Ideal := by
  intro m g m' g' _ heq
  refine ⟨fun c => Cert.OutProj.G m c, (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · exact ⟨(h c).1.trans (Cert.OutProj.arr_eq m c), (h c).2⟩
  · refine ⟨(h c).1.trans ?_, (h c).2⟩
    obtain ⟨e0, e1, e2⟩ := heq c
    rw [Cert.Reference5Ideal.Read.val_main_v2_eq, e0, e1, e2]
    funext y
    obtain ⟨R, n, rfl⟩ : ∃ (R : Fin 16384) (n : Fin 2048), y = ix2 R n := ⟨y 0, y 1, eq_ix2 y⟩
    exact Cert.OutProj.ref_apply _ _ _ R n

/-- The projection of values reference's run: its arguments end unchanged, and it has no semaphore. -/
theorem frame_ref6 : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The idealized projection of values and its reference end with the same result. -/
theorem alg6 : Cert.algebraic_Kernel6Ideal_Reference6Ideal := by
  intro m g m' g' _ heq
  refine ⟨fun c => Cert.FoxValues.G m c, (θ_run Cert.Kernel6Ideal.defs _ _).mono (fun r h c => ?_) (Cert.Kernel6Ideal.Value.run_blocks m g),
    (θ_run Cert.Reference6Ideal.defs _ _).mono (fun r h c => ?_) (Cert.Reference6Ideal.Value.run m' g')⟩
  · exact ⟨(h c).1.trans (Cert.FoxValues.arr_eq m c), (h c).2⟩
  · refine ⟨(h c).1.trans ?_, (h c).2⟩
    obtain ⟨e0, e1⟩ := heq c
    rw [Cert.Reference6Ideal.Read.val_main_v3_eq, e0, e1]
    funext y
    obtain ⟨R, n, rfl⟩ : ∃ (R : Fin 16384) (n : Fin 1024), y = ix2 R n := ⟨y 0, y 1, eq_ix2 y⟩
    exact Cert.FoxValues.ref_apply _ _ R n

/-- The f32 pattern of plus infinity is read as `⊤`. -/
theorem ofBits_inf32 : Ideal.ofBits .f32 0x7F800000#32 = ⊤ := by
  show Ideal.ieee 8 23 (0x7F800000#32 : BitVec 32) = ⊤
  unfold Ideal.ieee
  dsimp only
  rw [if_pos (by decide), if_pos (by decide), if_neg (by decide)]

/-- The precondition on the array of decays: all its elements are real. -/
theorem real_of_pre32 {s : Shape} (X : FVec Ideal s .f32) (C : FVec Ideal s .f32) (hC : ∀ x, C x = Ideal.ofBits .f32 0x7F800000#32)
    (h : cmpf .olt (Host.absf X) C = fun _ => 1#1) : ∀ x, ∃ r : ℝ, X x = r := by
  intro x
  have e := congrFun h x
  refine real_of_abs _ ?_
  simp [cmpf, hC, ofBits_inf32] at e
  by_contra hn
  change BitVec.ofBool (decide (max (X x) (-X x) < ⊤)) = 1#1 at e
  rw [decide_eq_false hn] at e
  exact absurd e (by decide)

/-- The first eight columns of an array of 128, at an index. -/
theorem first_cols (X : FVec Ideal ⟨2, ![16384, 128]⟩ .f32) (hs : Shape.Slices ⟨2, ![16384, 128]⟩ ![0, 0] ⟨2, ![16384, 8]⟩) (R : Fin 16384) (d : Fin 128) (hd : d.val < 8) :
    extractStridedSlice ⟨2, ![16384, 8]⟩ ![0, 0] X hs (ix2 R ⟨d.val, hd⟩) = X (ix2 R d) := by
  refine congrArg X ((eq_ix2 _).trans ?_)
  congr 1 <;> refine Fin.ext ?_
  · show 0 + R.val = R.val
    omega
  · show 0 + d.val = d.val
    omega

/-- The run of the reference of the queries and keys: its arguments end unchanged, and it has no semaphore. -/
theorem frame_ref7 : Cert.quiescent_Reference7Ideal := fun m g _ =>
  (θ_run Cert.Reference7Ideal.defs _ _).mono (fun r h => ⟨fun c => (h c).2.2, sem_eq_zero_of_no_sems (by decide) r.2⟩)
    (Cert.Reference7Ideal.Value.run m g)

/-- The idealized kernel of the queries and keys and its reference end with the same results, where the heads' decays are real. -/
theorem alg7 : Cert.algebraic_Kernel7Ideal_Reference7Ideal_pre_finite_decay := by
  intro m g m' g' hpre heq
  have hC : ∀ c R d, d.val < 8 → ∃ z : ℝ, Cert.FoxPrep.aC m c R d = z := fun c R d hd => by
    obtain ⟨z, hz⟩ := real_of_pre32 _ _ (fun _ => rfl) (hpre c) (ix2 R ⟨d.val, hd⟩)
    exact ⟨z, (first_cols _ _ R d hd).symm.trans hz⟩
  refine ⟨fun c => Cert.FoxPrep.GQ m c, fun c => Cert.FoxPrep.GK m c,
    (θ_run Cert.Kernel7Ideal.defs _ _).mono (fun r h c => ?_) (Cert.Kernel7Ideal.Value.run_blocks m g),
    (θ_run Cert.Reference7Ideal.defs _ _).mono (fun r h c => ?_) (Cert.Reference7Ideal.Value.run m' g')⟩
  · exact ⟨(h c).1.trans (Cert.FoxPrep.arrQ_eq m c (hC c)), (h c).2.1.trans (Cert.FoxPrep.arrK_eq m c (hC c)), (h c).2.2⟩
  · obtain ⟨e0, e1, e2⟩ := heq c
    refine ⟨(h c).1.trans ?_, (h c).2.1.trans ?_, (h c).2.2⟩
    · rw [Cert.Reference7Ideal.Read.val_main_v19_eq, e0, e1, e2]
      funext y
      obtain ⟨R, n, rfl⟩ : ∃ (R : Fin 16384) (n : Fin 2048), y = ix2 R n := ⟨y 0, y 1, eq_ix2 y⟩
      exact Cert.FoxPrep.ref_q _ _ _ R n
    · rw [Cert.Reference7Ideal.Read.val_main_v21_eq, e0, e1, e2]
      funext y
      obtain ⟨R, n, rfl⟩ : ∃ (R : Fin 16384) (n : Fin 2048), y = ix2 R n := ⟨y 0, y 1, eq_ix2 y⟩
      exact Cert.FoxPrep.ref_k _ _ _ R n

/-- The latents projection reference's run: its arguments end unchanged, and it has no semaphore. -/
theorem frame_ref8 : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The idealized latents projection and its reference end with the same result. -/
theorem alg8 : Cert.algebraic_Kernel8Ideal_Reference8Ideal := by
  intro m g m' g' _ heq
  refine ⟨fun c => Cert.Latents.G m c, (θ_run Cert.Kernel8Ideal.defs _ _).mono (fun r h c => ?_) (Cert.Kernel8Ideal.Value.run_blocks m g),
    (θ_run Cert.Reference8Ideal.defs _ _).mono (fun r h c => ?_) (Cert.Reference8Ideal.Value.run m' g')⟩
  · exact ⟨(h c).1.trans (Cert.Latents.arr_eq m c), (h c).2⟩
  · refine ⟨(h c).1.trans ?_, (h c).2⟩
    obtain ⟨e0, e1⟩ := heq c
    rw [Cert.Reference8Ideal.Read.val_main_v11_eq, e0, e1]
    funext y
    obtain ⟨R, n, rfl⟩ : ∃ (R : Fin 16384) (n : Fin 1408), y = ix2 R n := ⟨y 0, y 1, eq_ix2 y⟩
    exact Cert.Latents.ref_apply _ _ R n

/-- The reference run of the latent attention's queries, keys and values: its arguments end unchanged, and it has no semaphore. -/
theorem frame_ref9 : Cert.quiescent_Reference9Ideal := fun m g _ =>
  (θ_run Cert.Reference9Ideal.defs _ _).mono (fun r h => ⟨fun c => (h c).2.2.2, sem_eq_zero_of_no_sems (by decide) r.2⟩)
    (Cert.Reference9Ideal.Value.run m g)

/-- The idealized queries, keys and values of the latent attention and those of their reference are the same. -/
theorem alg9 : Cert.algebraic_Kernel9Ideal_Reference9Ideal := by
  intro m g m' g' _ heq
  refine ⟨fun c => Cert.Mla.GQ m c, fun c => Cert.Mla.GK m c, fun c => Cert.Mla.GV m c,
    (θ_run Cert.Kernel9Ideal.defs _ _).mono (fun r h c => ?_) (Cert.Kernel9Ideal.Value.run_blocks m g),
    (θ_run Cert.Reference9Ideal.defs _ _).mono (fun r h c => ?_) (Cert.Reference9Ideal.Value.run m' g')⟩
  · exact ⟨(h c).1.trans (Cert.Mla.arrQ_eq m c), (h c).2.1.trans (Cert.Mla.arrK_eq m c), (h c).2.2.1.trans (Cert.Mla.arrV_eq m c), (h c).2.2.2⟩
  · obtain ⟨e0, e1, e2, e3, e4, e5, e6⟩ := heq c
    refine ⟨(h c).1.trans ?_, (h c).2.1.trans ?_, (h c).2.2.1.trans ?_, (h c).2.2.2⟩
    · rw [Cert.Reference9Ideal.Read.val_main_v69_eq, e0, e1, e2, e3, e5]
      funext y
      obtain ⟨R, n, rfl⟩ : ∃ (R : Fin 16384) (n : Fin 2048), y = ix2 R n := ⟨y 0, y 1, eq_ix2 y⟩
      exact Cert.Mla.ref_q _ _ _ _ _ R n
    · rw [Cert.Reference9Ideal.Read.val_main_v71_eq, e0, e1, e2, e4, e6]
      funext y
      obtain ⟨R, n, rfl⟩ : ∃ (R : Fin 16384) (n : Fin 2048), y = ix2 R n := ⟨y 0, y 1, eq_ix2 y⟩
      exact Cert.Mla.ref_k _ _ _ _ _ R n
    · rw [Cert.Reference9Ideal.Read.val_main_v73_eq, e0, e4, e6]
      funext y
      obtain ⟨R, n, rfl⟩ : ∃ (R : Fin 16384) (n : Fin 1024), y = ix2 R n := ⟨y 0, y 1, eq_ix2 y⟩
      exact Cert.Mla.ref_v _ _ _ R n

/-- The first normalisation's reference run: its arguments end unchanged, and it has no semaphore. -/
theorem frame_ref10 : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- The idealized first normalisation and its reference end with the same result. -/
theorem alg10 : Cert.algebraic_Kernel10Ideal_Reference10Ideal := by
  intro m g m' g' _ heq
  refine ⟨fun c => Cert.Norm.G m c, (θ_run Cert.Kernel10Ideal.defs _ _).mono (fun r h c => ?_) (Cert.Kernel10Ideal.Value.run_blocks m g),
    (θ_run Cert.Reference10Ideal.defs _ _).mono (fun r h c => ?_) (Cert.Reference10Ideal.Value.run m' g')⟩
  · exact ⟨(h c).1.trans (Cert.Norm.arr_eq m c), (h c).2⟩
  · refine ⟨(h c).1.trans ?_, (h c).2⟩
    obtain ⟨e0, e1⟩ := heq c
    rw [Cert.Reference10Ideal.Read.val_main_v13_eq, e0, e1]
    funext y
    obtain ⟨R, n, rfl⟩ : ∃ (R : Fin 16384) (n : Fin 2048), y = ix2 R n := ⟨y 0, y 1, eq_ix2 y⟩
    exact Cert.Norm.ref_apply _ _ R n

/-- The certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite_logits.Gen.facts, Cert.Pre_finite_decay.Gen.facts,
    fun m g _ => Cert.Kernel.Gen.frame m g, fun m g _ => Cert.Kernel.Gen.frame m g,
    fun m g _ => Cert.KernelIdeal.Gen.frame m g, fun m g _ => frame_ref m g, fun m g _ => frame_ref m g,
    fun m g _ => Cert.Kernel2.Gen.frame m g, fun m g _ => Cert.Kernel2Ideal.Gen.frame m g, frame_ref2,
    fun m g _ => Cert.Kernel3.Gen.frame m g, fun m g _ => Cert.Kernel3Ideal.Gen.frame m g, frame_ref3,
    fun m g _ => Cert.Kernel4.Gen.frame m g, fun m g _ => Cert.Kernel4Ideal.Gen.frame m g, frame_ref4,
    fun m g _ => Cert.Kernel5.Gen.frame m g, fun m g _ => Cert.Kernel5Ideal.Gen.frame m g, frame_ref5,
    fun m g _ => Cert.Kernel6.Gen.frame m g, fun m g _ => Cert.Kernel6Ideal.Gen.frame m g, frame_ref6,
    fun m g _ => Cert.Kernel7.Gen.frame m g, fun m g _ => Cert.Kernel7Ideal.Gen.frame m g, fun m g _ => Cert.Kernel7Ideal.Gen.frame m g, frame_ref7, fun m g _ => frame_ref7 m g trivial,
    fun m g _ => Cert.Kernel8.Gen.frame m g, fun m g _ => Cert.Kernel8Ideal.Gen.frame m g, frame_ref8,
    fun m g _ => Cert.Kernel9.Gen.frame m g, fun m g _ => Cert.Kernel9Ideal.Gen.frame m g, frame_ref9,
    fun m g _ => Cert.Kernel10.Gen.frame m g, fun m g _ => Cert.Kernel10Ideal.Gen.frame m g, frame_ref10,
    trivial, alg, trivial, alg2, trivial, alg3, trivial, alg4, trivial, alg5, trivial, alg6, trivial, alg7, trivial, alg8, trivial, alg9, trivial, alg10⟩

end Cert.Proof

end
